-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_merge_finite [hPre_merge_finite : Cert.Pre_merge_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12))) = (fun _ => 1#1)

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_mod_finite [hPre_mod_finite : Cert.Pre_mod_finite.Facts] (m : (ℓ : Loc Cert.ModIdeal.nD Cert.ModIdeal.τ Cert.ModIdeal.sig) → Buf (Elt Ideal) ℓ) : Prop :=
  ∀ c : Dev Cert.ModIdeal.nD,
    (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))) = (fun _ => 1#1)

def Pre_ModReferenceIdeal (m : (ℓ : Loc Cert.ModReferenceIdeal.nD Cert.ModReferenceIdeal.τ Cert.ModReferenceIdeal.sig) → Buf (Elt Ideal) ℓ) : Prop :=
  True

def Pre_ModReferenceIdeal_mod_finite [hPre_mod_finite : Cert.Pre_mod_finite.Facts] (m : (ℓ : Loc Cert.ModReferenceIdeal.nD Cert.ModReferenceIdeal.τ Cert.ModReferenceIdeal.sig) → Buf (Elt Ideal) ℓ) : Prop :=
  ∀ c : Dev Cert.ModReferenceIdeal.nD,
    (Cert.Pre_mod_finite.fn (F := Ideal) (m ((c.tc : Thread Cert.ModReferenceIdeal.nD Cert.ModReferenceIdeal.τ).loc Cert.ModReferenceIdeal.main_arg0)) (m ((c.tc : Thread Cert.ModReferenceIdeal.nD Cert.ModReferenceIdeal.τ).loc Cert.ModReferenceIdeal.main_arg1)) (m ((c.tc : Thread Cert.ModReferenceIdeal.nD Cert.ModReferenceIdeal.τ).loc Cert.ModReferenceIdeal.main_arg2)) (m ((c.tc : Thread Cert.ModReferenceIdeal.nD Cert.ModReferenceIdeal.τ).loc Cert.ModReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14)
      ∧ r.2.mem ((c.tc : Thread Cert.Proj.nD Cert.Proj.τ).loc Cert.Proj.main_arg15) = m ((c.tc : Thread Cert.Proj.nD Cert.Proj.τ).loc Cert.Proj.main_arg15))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
      ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14)
      ∧ r.2.mem ((c.tc : Thread Cert.ProjReferenceIdeal.nD Cert.ProjReferenceIdeal.τ).loc Cert.ProjReferenceIdeal.main_arg15) = m ((c.tc : Thread Cert.ProjReferenceIdeal.nD Cert.ProjReferenceIdeal.τ).loc Cert.ProjReferenceIdeal.main_arg15))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_MergeReferenceIdeal_pre_merge_finite [hMergeReferenceIdeal : Cert.MergeReferenceIdeal.Facts] [hPre_merge_finite : Cert.Pre_merge_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_merge_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6)
      ∧ r.2.mem ((c.tc : Thread Cert.Ctx.nD Cert.Ctx.τ).loc Cert.Ctx.main_arg7) = m ((c.tc : Thread Cert.Ctx.nD Cert.Ctx.τ).loc Cert.Ctx.main_arg7)
      ∧ r.2.mem ((c.tc : Thread Cert.Ctx.nD Cert.Ctx.τ).loc Cert.Ctx.main_arg8) = m ((c.tc : Thread Cert.Ctx.nD Cert.Ctx.τ).loc Cert.Ctx.main_arg8)
      ∧ r.2.mem ((c.tc : Thread Cert.Ctx.nD Cert.Ctx.τ).loc Cert.Ctx.main_arg9) = m ((c.tc : Thread Cert.Ctx.nD Cert.Ctx.τ).loc Cert.Ctx.main_arg9))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
      ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8)
      ∧ r.2.mem ((c.tc : Thread Cert.CtxIdeal.nD Cert.CtxIdeal.τ).loc Cert.CtxIdeal.main_arg9) = m ((c.tc : Thread Cert.CtxIdeal.nD Cert.CtxIdeal.τ).loc Cert.CtxIdeal.main_arg9))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4)
      ∧ r.2.mem ((c.tc : Thread Cert.CtxReferenceIdeal.nD Cert.CtxReferenceIdeal.τ).loc Cert.CtxReferenceIdeal.main_arg5) = m ((c.tc : Thread Cert.CtxReferenceIdeal.nD Cert.CtxReferenceIdeal.τ).loc Cert.CtxReferenceIdeal.main_arg5)
      ∧ r.2.mem ((c.tc : Thread Cert.CtxReferenceIdeal.nD Cert.CtxReferenceIdeal.τ).loc Cert.CtxReferenceIdeal.main_arg6) = m ((c.tc : Thread Cert.CtxReferenceIdeal.nD Cert.CtxReferenceIdeal.τ).loc Cert.CtxReferenceIdeal.main_arg6)
      ∧ r.2.mem ((c.tc : Thread Cert.CtxReferenceIdeal.nD Cert.CtxReferenceIdeal.τ).loc Cert.CtxReferenceIdeal.main_arg7) = m ((c.tc : Thread Cert.CtxReferenceIdeal.nD Cert.CtxReferenceIdeal.τ).loc Cert.CtxReferenceIdeal.main_arg7)
      ∧ r.2.mem ((c.tc : Thread Cert.CtxReferenceIdeal.nD Cert.CtxReferenceIdeal.τ).loc Cert.CtxReferenceIdeal.main_arg8) = m ((c.tc : Thread Cert.CtxReferenceIdeal.nD Cert.CtxReferenceIdeal.τ).loc Cert.CtxReferenceIdeal.main_arg8)
      ∧ r.2.mem ((c.tc : Thread Cert.CtxReferenceIdeal.nD Cert.CtxReferenceIdeal.τ).loc Cert.CtxReferenceIdeal.main_arg9) = m ((c.tc : Thread Cert.CtxReferenceIdeal.nD Cert.CtxReferenceIdeal.τ).loc Cert.CtxReferenceIdeal.main_arg9))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModIdeal_pre_mod_finite [hModIdeal : Cert.ModIdeal.Facts] [hPre_mod_finite : Cert.Pre_mod_finite.Facts] : Prop :=
  ∀ (m : (ℓ : Loc Cert.ModIdeal.nD Cert.ModIdeal.τ Cert.ModIdeal.sig) → Buf (Elt Ideal) ℓ) (g : Dev Cert.ModIdeal.nD → PrngReg), Pre_ModIdeal_mod_finite m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_ModReferenceIdeal_pre_mod_finite [hModReferenceIdeal : Cert.ModReferenceIdeal.Facts] [hPre_mod_finite : Cert.Pre_mod_finite.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal_mod_finite m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj_ProjIdeal : Prop :=
  IdealRules.named_const.Statement Cert.ProjIdeal.κ "inv_qk" .f32 0x3C2AAAAB#32 ((1 / 96 : ℝ) : EReal)
  ∧ IdealRules.named_const.Statement Cert.ProjIdeal.κ "inv_q" .f32 0x3B2AAAAB#32 ((1 / 384 : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)
      ∧ m' ((c.tc : Thread Cert.ProjReferenceIdeal.nD Cert.ProjReferenceIdeal.τ).loc Cert.ProjReferenceIdeal.main_arg13) = m ((c.tc : Thread Cert.ProjIdeal.nD Cert.ProjIdeal.τ).loc Cert.ProjIdeal.main_arg13)
      ∧ m' ((c.tc : Thread Cert.ProjReferenceIdeal.nD Cert.ProjReferenceIdeal.τ).loc Cert.ProjReferenceIdeal.main_arg14) = m ((c.tc : Thread Cert.ProjIdeal.nD Cert.ProjIdeal.τ).loc Cert.ProjIdeal.main_arg14)
      ∧ m' ((c.tc : Thread Cert.ProjReferenceIdeal.nD Cert.ProjReferenceIdeal.τ).loc Cert.ProjReferenceIdeal.main_arg15) = m ((c.tc : Thread Cert.ProjIdeal.nD Cert.ProjIdeal.τ).loc Cert.ProjIdeal.main_arg15)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)) (v5 : (c : Dev Cert.ProjIdeal.nD) → Buf (Elt Ideal) ((c.tc : Thread Cert.ProjIdeal.nD Cert.ProjIdeal.τ).loc Cert.ProjIdeal.main_v0_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_v0_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
          ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v121) = v0 c
          ∧ r.2.mem ((c.tc : Thread Cert.ProjReferenceIdeal.nD Cert.ProjReferenceIdeal.τ).loc Cert.ProjReferenceIdeal.main_v123) = v1 c
          ∧ r.2.mem ((c.tc : Thread Cert.ProjReferenceIdeal.nD Cert.ProjReferenceIdeal.τ).loc Cert.ProjReferenceIdeal.main_v126) = v2 c
          ∧ r.2.mem ((c.tc : Thread Cert.ProjReferenceIdeal.nD Cert.ProjReferenceIdeal.τ).loc Cert.ProjReferenceIdeal.main_v128) = v3 c
          ∧ r.2.mem ((c.tc : Thread Cert.ProjReferenceIdeal.nD Cert.ProjReferenceIdeal.τ).loc Cert.ProjReferenceIdeal.main_v136) = v4 c
          ∧ r.2.mem ((c.tc : Thread Cert.ProjReferenceIdeal.nD Cert.ProjReferenceIdeal.τ).loc Cert.ProjReferenceIdeal.main_v144) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13)
          ∧ r.2.mem ((c.tc : Thread Cert.ProjReferenceIdeal.nD Cert.ProjReferenceIdeal.τ).loc Cert.ProjReferenceIdeal.main_arg14) = m' ((c.tc : Thread Cert.ProjReferenceIdeal.nD Cert.ProjReferenceIdeal.τ).loc Cert.ProjReferenceIdeal.main_arg14)
          ∧ r.2.mem ((c.tc : Thread Cert.ProjReferenceIdeal.nD Cert.ProjReferenceIdeal.τ).loc Cert.ProjReferenceIdeal.main_arg15) = m' ((c.tc : Thread Cert.ProjReferenceIdeal.nD Cert.ProjReferenceIdeal.τ).loc Cert.ProjReferenceIdeal.main_arg15))

def preserves_Merge_MergeIdeal : Prop :=
  IdealRules.named_const.Statement Cert.MergeIdeal.κ "mask" .f32 0xF149F2CA#32 ⊥

def algebraic_MergeIdeal_MergeReferenceIdeal_pre_merge_finite [hMergeIdeal : Cert.MergeIdeal.Facts] [hMergeReferenceIdeal : Cert.MergeReferenceIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_merge_finite m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v10_1)) (v2 : (c : Dev Cert.MergeIdeal.nD) → Buf (Elt Ideal) ((c.tc : Thread Cert.MergeIdeal.nD Cert.MergeIdeal.τ).loc Cert.MergeIdeal.main_v10_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_v10_1) = v1 c
          ∧ r.2.mem ((c.tc : Thread Cert.MergeIdeal.nD Cert.MergeIdeal.τ).loc Cert.MergeIdeal.main_v10_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v14) = v0 c
          ∧ r.2.mem ((c.tc : Thread Cert.MergeReferenceIdeal.nD Cert.MergeReferenceIdeal.τ).loc Cert.MergeReferenceIdeal.main_v48) = v1 c
          ∧ r.2.mem ((c.tc : Thread Cert.MergeReferenceIdeal.nD Cert.MergeReferenceIdeal.τ).loc Cert.MergeReferenceIdeal.main_v49) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Ctx_CtxIdeal : Prop :=
  IdealRules.named_const.Statement Cert.CtxIdeal.κ "inv_qk" .f32 0x3C2AAAAB#32 ((1 / 96 : ℝ) : EReal)

def algebraic_CtxIdeal_CtxReferenceIdeal [hCtxIdeal : Cert.CtxIdeal.Facts] [hCtxReferenceIdeal : Cert.CtxReferenceIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxIdeal m →
    (∀ c : Dev Cert.CtxIdeal.nD,
      m' ((c.tc : Thread Cert.CtxReferenceIdeal.nD Cert.CtxReferenceIdeal.τ).loc Cert.CtxReferenceIdeal.main_arg0) = m ((c.tc : Thread Cert.CtxIdeal.nD Cert.CtxIdeal.τ).loc Cert.CtxIdeal.main_arg0)
      ∧ m' ((c.tc : Thread Cert.CtxReferenceIdeal.nD Cert.CtxReferenceIdeal.τ).loc Cert.CtxReferenceIdeal.main_arg1) = m ((c.tc : Thread Cert.CtxIdeal.nD Cert.CtxIdeal.τ).loc Cert.CtxIdeal.main_arg1)
      ∧ m' ((c.tc : Thread Cert.CtxReferenceIdeal.nD Cert.CtxReferenceIdeal.τ).loc Cert.CtxReferenceIdeal.main_arg2) = m ((c.tc : Thread Cert.CtxIdeal.nD Cert.CtxIdeal.τ).loc Cert.CtxIdeal.main_arg2)
      ∧ m' ((c.tc : Thread Cert.CtxReferenceIdeal.nD Cert.CtxReferenceIdeal.τ).loc Cert.CtxReferenceIdeal.main_arg3) = m ((c.tc : Thread Cert.CtxIdeal.nD Cert.CtxIdeal.τ).loc Cert.CtxIdeal.main_arg3)
      ∧ m' ((c.tc : Thread Cert.CtxReferenceIdeal.nD Cert.CtxReferenceIdeal.τ).loc Cert.CtxReferenceIdeal.main_arg4) = m ((c.tc : Thread Cert.CtxIdeal.nD Cert.CtxIdeal.τ).loc Cert.CtxIdeal.main_arg4)
      ∧ m' ((c.tc : Thread Cert.CtxReferenceIdeal.nD Cert.CtxReferenceIdeal.τ).loc Cert.CtxReferenceIdeal.main_arg5) = m ((c.tc : Thread Cert.CtxIdeal.nD Cert.CtxIdeal.τ).loc Cert.CtxIdeal.main_arg5)
      ∧ m' ((c.tc : Thread Cert.CtxReferenceIdeal.nD Cert.CtxReferenceIdeal.τ).loc Cert.CtxReferenceIdeal.main_arg6) = m ((c.tc : Thread Cert.CtxIdeal.nD Cert.CtxIdeal.τ).loc Cert.CtxIdeal.main_arg6)
      ∧ m' ((c.tc : Thread Cert.CtxReferenceIdeal.nD Cert.CtxReferenceIdeal.τ).loc Cert.CtxReferenceIdeal.main_arg7) = m ((c.tc : Thread Cert.CtxIdeal.nD Cert.CtxIdeal.τ).loc Cert.CtxIdeal.main_arg7)
      ∧ m' ((c.tc : Thread Cert.CtxReferenceIdeal.nD Cert.CtxReferenceIdeal.τ).loc Cert.CtxReferenceIdeal.main_arg8) = m ((c.tc : Thread Cert.CtxIdeal.nD Cert.CtxIdeal.τ).loc Cert.CtxIdeal.main_arg8)
      ∧ m' ((c.tc : Thread Cert.CtxReferenceIdeal.nD Cert.CtxReferenceIdeal.τ).loc Cert.CtxReferenceIdeal.main_arg9) = m ((c.tc : Thread Cert.CtxIdeal.nD Cert.CtxIdeal.τ).loc Cert.CtxIdeal.main_arg9)) →
    ∃ (v0 : (c : Dev Cert.CtxIdeal.nD) → Buf (Elt Ideal) ((c.tc : Thread Cert.CtxIdeal.nD Cert.CtxIdeal.τ).loc Cert.CtxIdeal.main_v0_0)) (v1 : (c : Dev Cert.CtxIdeal.nD) → Buf (Elt Ideal) ((c.tc : Thread Cert.CtxIdeal.nD Cert.CtxIdeal.τ).loc Cert.CtxIdeal.main_v0_1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0_0) = v0 c
          ∧ r.2.mem ((c.tc : Thread Cert.CtxIdeal.nD Cert.CtxIdeal.τ).loc Cert.CtxIdeal.main_v0_1) = v1 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
          ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
          ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8)
          ∧ r.2.mem ((c.tc : Thread Cert.CtxIdeal.nD Cert.CtxIdeal.τ).loc Cert.CtxIdeal.main_arg9) = m ((c.tc : Thread Cert.CtxIdeal.nD Cert.CtxIdeal.τ).loc Cert.CtxIdeal.main_arg9))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v65) = v0 c
          ∧ r.2.mem ((c.tc : Thread Cert.CtxReferenceIdeal.nD Cert.CtxReferenceIdeal.τ).loc Cert.CtxReferenceIdeal.main_v68) = v1 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3)
          ∧ r.2.mem ((c.tc : Thread Cert.CtxReferenceIdeal.nD Cert.CtxReferenceIdeal.τ).loc Cert.CtxReferenceIdeal.main_arg4) = m' ((c.tc : Thread Cert.CtxReferenceIdeal.nD Cert.CtxReferenceIdeal.τ).loc Cert.CtxReferenceIdeal.main_arg4)
          ∧ r.2.mem ((c.tc : Thread Cert.CtxReferenceIdeal.nD Cert.CtxReferenceIdeal.τ).loc Cert.CtxReferenceIdeal.main_arg5) = m' ((c.tc : Thread Cert.CtxReferenceIdeal.nD Cert.CtxReferenceIdeal.τ).loc Cert.CtxReferenceIdeal.main_arg5)
          ∧ r.2.mem ((c.tc : Thread Cert.CtxReferenceIdeal.nD Cert.CtxReferenceIdeal.τ).loc Cert.CtxReferenceIdeal.main_arg6) = m' ((c.tc : Thread Cert.CtxReferenceIdeal.nD Cert.CtxReferenceIdeal.τ).loc Cert.CtxReferenceIdeal.main_arg6)
          ∧ r.2.mem ((c.tc : Thread Cert.CtxReferenceIdeal.nD Cert.CtxReferenceIdeal.τ).loc Cert.CtxReferenceIdeal.main_arg7) = m' ((c.tc : Thread Cert.CtxReferenceIdeal.nD Cert.CtxReferenceIdeal.τ).loc Cert.CtxReferenceIdeal.main_arg7)
          ∧ r.2.mem ((c.tc : Thread Cert.CtxReferenceIdeal.nD Cert.CtxReferenceIdeal.τ).loc Cert.CtxReferenceIdeal.main_arg8) = m' ((c.tc : Thread Cert.CtxReferenceIdeal.nD Cert.CtxReferenceIdeal.τ).loc Cert.CtxReferenceIdeal.main_arg8)
          ∧ r.2.mem ((c.tc : Thread Cert.CtxReferenceIdeal.nD Cert.CtxReferenceIdeal.τ).loc Cert.CtxReferenceIdeal.main_arg9) = m' ((c.tc : Thread Cert.CtxReferenceIdeal.nD Cert.CtxReferenceIdeal.τ).loc Cert.CtxReferenceIdeal.main_arg9))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v4) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v16) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Mod_ModIdeal : Prop :=
  True

def algebraic_ModIdeal_ModReferenceIdeal_pre_mod_finite [hModIdeal : Cert.ModIdeal.Facts] [hModReferenceIdeal : Cert.ModReferenceIdeal.Facts] [hPre_mod_finite : Cert.Pre_mod_finite.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal_mod_finite m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)) (v1 : (c : Dev Cert.ModIdeal.nD) → Buf (Elt Ideal) ((c.tc : Thread Cert.ModIdeal.nD Cert.ModIdeal.τ).loc Cert.ModIdeal.main_v6)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_v6) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v5) = v0 c
          ∧ r.2.mem ((c.tc : Thread Cert.ModReferenceIdeal.nD Cert.ModReferenceIdeal.τ).loc Cert.ModReferenceIdeal.main_v9) = v1 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hCtx : Cert.Ctx.Facts) (hCtxIdeal : Cert.CtxIdeal.Facts) (hCtxReferenceIdeal : Cert.CtxReferenceIdeal.Facts) (hFinal : Cert.Final.Facts) (hFinalIdeal : Cert.FinalIdeal.Facts) (hFinalReferenceIdeal : Cert.FinalReferenceIdeal.Facts) (hExperts : Cert.Experts.Facts) (hExpertsIdeal : Cert.ExpertsIdeal.Facts) (hExpertsReferenceIdeal : Cert.ExpertsReferenceIdeal.Facts) (hMod : Cert.Mod.Facts) (hModIdeal : Cert.ModIdeal.Facts) (hModReferenceIdeal : Cert.ModReferenceIdeal.Facts) (hPre_finite : Cert.Pre_finite.Facts) (hPre_merge_finite : Cert.Pre_merge_finite.Facts) (hPre_mod_finite : Cert.Pre_mod_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeReferenceIdeal (hMergeReferenceIdeal := hMergeReferenceIdeal)
    ∧ quiescent_MergeReferenceIdeal_pre_merge_finite (hMergeReferenceIdeal := hMergeReferenceIdeal) (hPre_merge_finite := hPre_merge_finite)
    ∧ quiescent_Ctx (hCtx := hCtx)
    ∧ quiescent_CtxIdeal (hCtxIdeal := hCtxIdeal)
    ∧ quiescent_CtxReferenceIdeal (hCtxReferenceIdeal := hCtxReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Mod (hMod := hMod)
    ∧ quiescent_ModIdeal (hModIdeal := hModIdeal)
    ∧ quiescent_ModIdeal_pre_mod_finite (hModIdeal := hModIdeal) (hPre_mod_finite := hPre_mod_finite)
    ∧ quiescent_ModReferenceIdeal (hModReferenceIdeal := hModReferenceIdeal)
    ∧ quiescent_ModReferenceIdeal_pre_mod_finite (hModReferenceIdeal := hModReferenceIdeal) (hPre_mod_finite := hPre_mod_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal_pre_merge_finite (hMergeIdeal := hMergeIdeal) (hMergeReferenceIdeal := hMergeReferenceIdeal) (hPre_merge_finite := hPre_merge_finite)
    ∧ preserves_Ctx_CtxIdeal
    ∧ algebraic_CtxIdeal_CtxReferenceIdeal (hCtxIdeal := hCtxIdeal) (hCtxReferenceIdeal := hCtxReferenceIdeal)
    ∧ preserves_Final_FinalIdeal
    ∧ algebraic_FinalIdeal_FinalReferenceIdeal (hFinalIdeal := hFinalIdeal) (hFinalReferenceIdeal := hFinalReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Mod_ModIdeal
    ∧ algebraic_ModIdeal_ModReferenceIdeal_pre_mod_finite (hModIdeal := hModIdeal) (hModReferenceIdeal := hModReferenceIdeal) (hPre_mod_finite := hPre_mod_finite)
-- ==== Pre_finite.lean ====
abbrev S32x8x2048x128 : Shape := ⟨4, ![32, 8, 2048, 128]⟩
abbrev S32x8x256x128 : Shape := ⟨4, ![32, 8, 256, 128]⟩
abbrev S32x4x128x2048 : Shape := ⟨4, ![32, 4, 128, 2048]⟩
abbrev S32x4x128x256 : Shape := ⟨4, ![32, 4, 128, 256]⟩
abbrev S_ : Shape := ⟨0, ![]⟩

class Facts : Prop where
  bitsLt_bf16_f32 : FTy.bits .bf16 < FTy.bits .f32
  bcast_S_S32x8x2048x128 : S_.BroadcastsInDim S32x8x2048x128 (![] : Fin 0 → Fin S32x8x2048x128.rank)
  reducesTo_S32x8x2048x128_S_d0_1_2_3 : S32x8x2048x128.ReducesTo [0, 1, 2, 3] S_
  h_S_ : 0 < S_.numel
  bcast_S_S32x8x256x128 : S_.BroadcastsInDim S32x8x256x128 (![] : Fin 0 → Fin S32x8x256x128.rank)
  reducesTo_S32x8x256x128_S_d0_1_2_3 : S32x8x256x128.ReducesTo [0, 1, 2, 3] S_
  bcast_S_S32x4x128x2048 : S_.BroadcastsInDim S32x4x128x2048 (![] : Fin 0 → Fin S32x4x128x2048.rank)
  reducesTo_S32x4x128x2048_S_d0_1_2_3 : S32x4x128x2048.ReducesTo [0, 1, 2, 3] S_
  bcast_S_S32x4x128x256 : S_.BroadcastsInDim S32x4x128x256 (![] : Fin 0 → Fin S32x4x128x256.rank)
  reducesTo_S32x4x128x256_S_d0_1_2_3 : S32x4x128x256.ReducesTo [0, 1, 2, 3] S_

variable [Facts]

def fn_part1 {F : FTy → Type} [FloatOps F] (main_arg4 : FVec F S32x4x128x256 .bf16) (main_v16 : IVec S_ 1) (main_v17 : FVec F S32x4x128x2048 .f32) : IVec S_ 1 :=
  let main_v18 : FVec F S32x4x128x2048 .f32 := Host.absf main_v17
  let main_cst_4 : FVec F S_ .f32 := constant S_ .f32 0x7F800000#32
  let main_v19 : FVec F S32x4x128x2048 .f32 := broadcastInDim S32x4x128x2048 ![] bcast_S_S32x4x128x2048 main_cst_4
  let main_v20 : IVec S32x4x128x2048 1 := cmpf .olt main_v18 main_v19
  let main_c_5 : IVec S_ 1 := constantI S_ 1 1#1
  let main_v21 : IVec S_ 1 := (fun x v => Host.reduce IntOp.andi x v reducesTo_S32x4x128x2048_S_d0_1_2_3 h_S_) main_v20 main_c_5
  let main_v22 : IVec S_ 1 := andi main_v16 main_v21
  let main_v23 : FVec F S32x4x128x256 .f32 := (extf .f32 · bitsLt_bf16_f32) main_arg4
  let main_v24 : FVec F S32x4x128x256 .f32 := Host.absf main_v23
  let main_cst_6 : FVec F S_ .f32 := constant S_ .f32 0x7F800000#32
  let main_v25 : FVec F S32x4x128x256 .f32 := broadcastInDim S32x4x128x256 ![] bcast_S_S32x4x128x256 main_cst_6
  let main_v26 : IVec S32x4x128x256 1 := cmpf .olt main_v24 main_v25
  let main_c_7 : IVec S_ 1 := constantI S_ 1 1#1
  let main_v27 : IVec S_ 1 := (fun x v => Host.reduce IntOp.andi x v reducesTo_S32x4x128x256_S_d0_1_2_3 h_S_) main_v26 main_c_7
  let main_v28 : IVec S_ 1 := andi main_v22 main_v27
  main_v28

def fn {F : FTy → Type} [FloatOps F] (main_arg0 : FVec F S32x8x2048x128 .bf16) (main_arg1 : FVec F S32x8x2048x128 .bf16) (main_arg2 : FVec F S32x8x256x128 .bf16) (main_arg3 : FVec F S32x4x128x2048 .bf16) (main_arg4 : FVec F S32x4x128x256 .bf16) : IVec S_ 1 :=
  let main_v0 : FVec F S32x8x2048x128 .f32 := (extf .f32 · bitsLt_bf16_f32) main_arg0
  let main_v1 : FVec F S32x8x2048x128 .f32 := Host.absf main_v0
  let main_cst : FVec F S_ .f32 := constant S_ .f32 0x7F800000#32
  let main_v2 : FVec F S32x8x2048x128 .f32 := broadcastInDim S32x8x2048x128 ![] bcast_S_S32x8x2048x128 main_cst
  let main_v3 : IVec S32x8x2048x128 1 := cmpf .olt main_v1 main_v2
  let main_c : IVec S_ 1 := constantI S_ 1 1#1
  let main_v4 : IVec S_ 1 := (fun x v => Host.reduce IntOp.andi x v reducesTo_S32x8x2048x128_S_d0_1_2_3 h_S_) main_v3 main_c
  let main_v5 : FVec F S32x8x2048x128 .f32 := (extf .f32 · bitsLt_bf16_f32) main_arg1
  let main_v6 : FVec F S32x8x2048x128 .f32 := Host.absf main_v5
  let main_cst_0 : FVec F S_ .f32 := constant S_ .f32 0x7F800000#32
  let main_v7 : FVec F S32x8x2048x128 .f32 := broadcastInDim S32x8x2048x128 ![] bcast_S_S32x8x2048x128 main_cst_0
  let main_v8 : IVec S32x8x2048x128 1 := cmpf .olt main_v6 main_v7
  let main_c_1 : IVec S_ 1 := constantI S_ 1 1#1
  let main_v9 : IVec S_ 1 := (fun x v => Host.reduce IntOp.andi x v reducesTo_S32x8x2048x128_S_d0_1_2_3 h_S_) main_v8 main_c_1
  let main_v10 : IVec S_ 1 := andi main_v4 main_v9
  let main_v11 : FVec F S32x8x256x128 .f32 := (extf .f32 · bitsLt_bf16_f32) main_arg2
  let main_v12 : FVec F S32x8x256x128 .f32 := Host.absf main_v11
  let main_cst_2 : FVec F S_ .f32 := constant S_ .f32 0x7F800000#32
  let main_v13 : FVec F S32x8x256x128 .f32 := broadcastInDim S32x8x256x128 ![] bcast_S_S32x8x256x128 main_cst_2
  let main_v14 : IVec S32x8x256x128 1 := cmpf .olt main_v12 main_v13
  let main_c_3 : IVec S_ 1 := constantI S_ 1 1#1
  let main_v15 : IVec S_ 1 := (fun x v => Host.reduce IntOp.andi x v reducesTo_S32x8x256x128_S_d0_1_2_3 h_S_) main_v14 main_c_3
  let main_v16 : IVec S_ 1 := andi main_v10 main_v15
  let main_v17 : FVec F S32x4x128x2048 .f32 := (extf .f32 · bitsLt_bf16_f32) main_arg3
  fn_part1 (F := F) main_arg4 main_v16 main_v17
-- ==== Pre_merge_finite.lean ====
abbrev S32x4x128x2048 : Shape := ⟨4, ![32, 4, 128, 2048]⟩
abbrev S32x2048x512 : Shape := ⟨3, ![32, 2048, 512]⟩
abbrev S32x2048x1024 : Shape := ⟨3, ![32, 2048, 1024]⟩
abbrev S32x1x1024 : Shape := ⟨3, ![32, 1, 1024]⟩
abbrev S1x1024 : Shape := ⟨2, ![1, 1024]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S32x1x1024 : S_.BroadcastsInDim S32x1x1024 (![] : Fin 0 → Fin S32x1x1024.rank)
  reducesTo_S32x1x1024_S_d0_1_2 : S32x1x1024.ReducesTo [0, 1, 2] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  main_v18

def fn {F : FTy → Type} [FloatOps F] (main_arg0 : FVec F S32x4x128x2048 .bf16) (main_arg1 : FVec F S32x2048x512 .bf16) (main_arg2 : FVec F S32x2048x1024 .bf16) (main_arg3 : FVec F S32x2048x1024 .bf16) (main_arg4 : FVec F S32x2048x1024 .f32) (main_arg5 : FVec F S32x1x1024 .f32) (main_arg6 : FVec F S1x1024 .f32) (main_arg7 : FVec F S32x1x1024 .f32) (main_arg8 : FVec F S32x1x1024 .f32) (main_arg9 : FVec F S512x1024 .f32) (main_arg10 : FVec F S512x1024 .f32) (main_arg11 : FVec F S1024x1024 .f32) (main_arg12 : FVec F S1024x16 .f32) : IVec S_ 1 :=
  let main_v0 : FVec F S1x1024 .f32 := Host.absf main_arg6
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S32x1x1024 .f32 := Host.absf main_arg7
  let main_cst_0 : FVec F S_ .f32 := constant S_ .f32 0x7F800000#32
  let main_v5 : FVec F S32x1x1024 .f32 := broadcastInDim S32x1x1024 ![] bcast_S_S32x1x1024 main_cst_0
  let main_v6 : IVec S32x1x1024 1 := cmpf .olt main_v4 main_v5
  let main_c_1 : IVec S_ 1 := constantI S_ 1 1#1
  let main_v7 : IVec S_ 1 := (fun x v => Host.reduce IntOp.andi x v reducesTo_S32x1x1024_S_d0_1_2 h_S_) main_v6 main_c_1
  let main_v8 : IVec S_ 1 := andi main_v3 main_v7
  let main_v9 : FVec F S32x1x1024 .f32 := Host.absf main_arg8
  let main_cst_2 : FVec F S_ .f32 := constant S_ .f32 0x7F800000#32
  let main_v10 : FVec F S32x1x1024 .f32 := broadcastInDim S32x1x1024 ![] bcast_S_S32x1x1024 main_cst_2
  let main_v11 : IVec S32x1x1024 1 := cmpf .olt main_v9 main_v10
  let main_c_3 : IVec S_ 1 := constantI S_ 1 1#1
  let main_v12 : IVec S_ 1 := (fun x v => Host.reduce IntOp.andi x v reducesTo_S32x1x1024_S_d0_1_2 h_S_) main_v11 main_c_3
  let main_v13 : IVec S_ 1 := andi main_v8 main_v12
  let main_v14 : FVec F S1024x16 .f32 := Host.absf main_arg12
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_v13 main_v16
-- ==== Pre_mod_finite.lean ====
abbrev S32x1024 : Shape := ⟨2, ![32, 1024]⟩
abbrev S1024 : Shape := ⟨1, ![1024]⟩
abbrev S1024x6144 : Shape := ⟨2, ![1024, 6144]⟩
abbrev S1x6144 : Shape := ⟨2, ![1, 6144]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S32x1024 .f32) (main_arg1 : FVec F S1024 .f32) (main_arg2 : FVec F S1024x6144 .f32) (main_arg3 : FVec F S1x6144 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg2
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  main_v13
-- ==== Kernel.lean ====
abbrev S32x8x2048x128 : Shape := ⟨4, ![32, 8, 2048, 128]⟩
abbrev S32x8x256x128 : Shape := ⟨4, ![32, 8, 256, 128]⟩
abbrev S32x4x128x2048 : Shape := ⟨4, ![32, 4, 128, 2048]⟩
abbrev S32x4x128x256 : Shape := ⟨4, ![32, 4, 128, 256]⟩
abbrev S1x8x1024x128 : Shape := ⟨4, ![1, 8, 1024, 128]⟩
abbrev S1x8x2048x128 : Shape := ⟨4, ![1, 8, 2048, 128]⟩
abbrev S1x8x256x128 : Shape := ⟨4, ![1, 8, 256, 128]⟩
abbrev S1x4x128x2048 : Shape := ⟨4, ![1, 4, 128, 2048]⟩
abbrev S1x4x128x256 : Shape := ⟨4, ![1, 4, 128, 256]⟩
abbrev S1x4x128x1024 : Shape := ⟨4, ![1, 4, 128, 1024]⟩
abbrev S128x1024 : Shape := ⟨2, ![128, 1024]⟩
abbrev S1x1x1024x128 : Shape := ⟨4, ![1, 1, 1024, 128]⟩
abbrev S1024x128 : Shape := ⟨2, ![1024, 128]⟩
abbrev S1x1024 : Shape := ⟨2, ![1, 1024]⟩
abbrev S1x1x256x128 : Shape := ⟨4, ![1, 1, 256, 128]⟩
abbrev S256x128 : Shape := ⟨2, ![256, 128]⟩
abbrev S256x1024 : Shape := ⟨2, ![256, 1024]⟩
abbrev S1024 : Shape := ⟨1, ![1024]⟩
abbrev S1x1x128x256 : Shape := ⟨4, ![1, 1, 128, 256]⟩
abbrev S128x256 : Shape := ⟨2, ![128, 256]⟩
abbrev S1x1x128x1024 : Shape := ⟨4, ![1, 1, 128, 1024]⟩
abbrev S1x1x1024 : Shape := ⟨3, ![1, 1, 1024]⟩
abbrev S1 : Shape := ⟨1, ![1]⟩
abbrev S1x1x1 : Shape := ⟨3, ![1, 1, 1]⟩
abbrev S1x1x2048x128 : Shape := ⟨4, ![1, 1, 2048, 128]⟩
abbrev S2048x128 : Shape := ⟨2, ![2048, 128]⟩
abbrev S2048x1024 : Shape := ⟨2, ![2048, 1024]⟩
abbrev S1x1x128x2048 : Shape := ⟨4, ![1, 1, 128, 2048]⟩
abbrev S128x2048 : Shape := ⟨2, ![128, 2048]⟩

abbrev nBuf : Space → Nat
  | .hbm => 6
  | .vmem => 12
  | .smem => 0
  | _ => 0

abbrev bufTy : (tb : Table) → Fin (tcTables nBuf tb) → BufTy
  | .hbm, ⟨0, _⟩ => ⟨S32x8x2048x128, .bf16⟩
  | .hbm, ⟨1, _⟩ => ⟨S32x8x2048x128, .bf16⟩
  | .hbm, ⟨2, _⟩ => ⟨S32x8x256x128, .bf16⟩
  | .hbm, ⟨3, _⟩ => ⟨S32x4x128x2048, .bf16⟩
  | .hbm, ⟨4, _⟩ => ⟨S32x4x128x256, .bf16⟩
  | .hbm, ⟨5, _⟩ => ⟨S32x4x128x2048, .bf16⟩
  | .local _ .vmem, ⟨0, _⟩ => ⟨S1x8x1024x128, .bf16⟩
  | .local _ .vmem, ⟨1, _⟩ => ⟨S1x8x1024x128, .bf16⟩
  | .local _ .vmem, ⟨2, _⟩ => ⟨S1x8x2048x128, .bf16⟩
  | .local _ .vmem, ⟨3, _⟩ => ⟨S1x8x2048x128, .bf16⟩
  | .local _ .vmem, ⟨4, _⟩ => ⟨S1x8x256x128, .bf16⟩
  | .local _ .vmem, ⟨5, _⟩ => ⟨S1x8x256x128, .bf16⟩
  | .local _ .vmem, ⟨6, _⟩ => ⟨S1x4x128x2048, .bf16⟩
  | .local _ .vmem, ⟨7, _⟩ => ⟨S1x4x128x2048, .bf16⟩
  | .local _ .vmem, ⟨8, _⟩ => ⟨S1x4x128x256, .bf16⟩
  | .local _ .vmem, ⟨9, _⟩ => ⟨S1x4x128x256, .bf16⟩
  | .local _ .vmem, ⟨10, _⟩ => ⟨S1x4x128x1024, .bf16⟩
  | .local _ .vmem, ⟨11, _⟩ => ⟨S1x4x128x1024, .bf16⟩
  | _, _ => ⟨S32x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c0_i32_837 : BitVec 32 := 0#32
  let c4_i32 : BitVec 32 := 4#32
  let v939 : BitVec 32 := Scalar.addi c0_i32_837 c4_i32
  let c1_i32 : BitVec 32 := 1#32
  ⟨c0_i32_837, v939, c1_i32⟩
def k0_off1 (k0_t1 : Fin k0_t1_loop.trips) : Fin 4 → Nat :=
  let c0_841 : Index := 0#32
  let c2_i32 : BitVec 32 := 2#32
  let c0_i32_837 : BitVec 32 := 0#32
  let c1_i32 : BitVec 32 := 1#32
  let arg8 : BitVec 32 := Scf.iv c0_i32_837 c1_i32 k0_t1
  let v940 : BitVec 32 := Scalar.muli c2_i32 arg8
  let v943 : Index := Scalar.indexCast v940
  let c0_842 : Index := 0#32
  let c0_843 : Index := 0#32
  ![0, v943.toNat, 0, 0]
def k0_off2 (k0_t1 : Fin k0_t1_loop.trips) : Fin 4 → Nat :=
  let c0_844 : Index := 0#32
  let c2_i32 : BitVec 32 := 2#32
  let c0_i32_837 : BitVec 32 := 0#32
  let c1_i32 : BitVec 32 := 1#32
  let arg8 : BitVec 32 := Scf.iv c0_i32_837 c1_i32 k0_t1
  let v940 : BitVec 32 := Scalar.muli c2_i32 arg8
  let v946 : Index := Scalar.indexCast v940
  let c0_845 : Index := 0#32
  let c0_846 : Index := 0#32
  ![0, v946.toNat, 0, 0]
def k0_off3 (k0_t1 : Fin k0_t1_loop.trips) : Fin 4 → Nat :=
  let c0_848 : Index := 0#32
  let c2_i32 : BitVec 32 := 2#32
  let c0_i32_837 : BitVec 32 := 0#32
  let c1_i32 : BitVec 32 := 1#32
  let arg8 : BitVec 32 := Scf.iv c0_i32_837 c1_i32 k0_t1
  let v940 : BitVec 32 := Scalar.muli c2_i32 arg8
  let v950 : Index := Scalar.indexCast v940
  let c0_849 : Index := 0#32
  let c0_850 : Index := 0#32
  ![0, v950.toNat, 0, 0]
def k0_off4 (k0_t1 : Fin k0_t1_loop.trips) : Fin 4 → Nat :=
  let c0_856 : Index := 0#32
  let c0_i32_837 : BitVec 32 := 0#32
  let c1_i32 : BitVec 32 := 1#32
  let arg8 : BitVec 32 := Scf.iv c0_i32_837 c1_i32 k0_t1
  let v970 : Index := Scalar.indexCast arg8
  let c0_857 : Index := 0#32
  let c0_858 : Index := 0#32
  ![0, v970.toNat, 0, 0]
def k0_off5 (k0_t1 : Fin k0_t1_loop.trips) : Fin 4 → Nat :=
  let c0_860 : Index := 0#32
  let c0_i32_837 : BitVec 32 := 0#32
  let c1_i32 : BitVec 32 := 1#32
  let arg8 : BitVec 32 := Scf.iv c0_i32_837 c1_i32 k0_t1
  let v975 : Index := Scalar.indexCast arg8
  let c0_861 : Index := 0#32
  let c0_862 : Index := 0#32
  ![0, v975.toNat, 0, 0]
def k0_off6 (k0_t1 : Fin k0_t1_loop.trips) : Fin 4 → Nat :=
  let c0_864 : Index := 0#32
  let c2_i32_839 : BitVec 32 := 2#32
  let c0_i32_837 : BitVec 32 := 0#32
  let c1_i32 : BitVec 32 := 1#32
  let arg8 : BitVec 32 := Scf.iv c0_i32_837 c1_i32 k0_t1
  let v941 : BitVec 32 := Scalar.muli c2_i32_839 arg8
  let c1_i32_840 : BitVec 32 := 1#32
  let v942 : BitVec 32 := Scalar.addi v941 c1_i32_840
  let v983 : Index := Scalar.indexCast v942
  let c0_865 : Index := 0#32
  let c0_866 : Index := 0#32
  ![0, v983.toNat, 0, 0]
def k0_off7 (k0_t1 : Fin k0_t1_loop.trips) : Fin 4 → Nat :=
  let c0_867 : Index := 0#32
  let c2_i32_839 : BitVec 32 := 2#32
  let c0_i32_837 : BitVec 32 := 0#32
  let c1_i32 : BitVec 32 := 1#32
  let arg8 : BitVec 32 := Scf.iv c0_i32_837 c1_i32 k0_t1
  let v941 : BitVec 32 := Scalar.muli c2_i32_839 arg8
  let c1_i32_840 : BitVec 32 := 1#32
  let v942 : BitVec 32 := Scalar.addi v941 c1_i32_840
  let v986 : Index := Scalar.indexCast v942
  let c0_868 : Index := 0#32
  let c0_869 : Index := 0#32
  ![0, v986.toNat, 0, 0]
def k0_off8 (k0_t1 : Fin k0_t1_loop.trips) : Fin 4 → Nat :=
  let c0_871 : Index := 0#32
  let c2_i32_839 : BitVec 32 := 2#32
  let c0_i32_837 : BitVec 32 := 0#32
  let c1_i32 : BitVec 32 := 1#32
  let arg8 : BitVec 32 := Scf.iv c0_i32_837 c1_i32 k0_t1
  let v941 : BitVec 32 := Scalar.muli c2_i32_839 arg8
  let c1_i32_840 : BitVec 32 := 1#32
  let v942 : BitVec 32 := Scalar.addi v941 c1_i32_840
  let v990 : Index := Scalar.indexCast v942
  let c0_872 : Index := 0#32
  let c0_873 : Index := 0#32
  ![0, v990.toNat, 0, 0]
def k0_off9 (k0_t1 : Fin k0_t1_loop.trips) : Fin 4 → Nat :=
  let c0_888 : Index := 0#32
  let c0_i32_837 : BitVec 32 := 0#32
  let c1_i32 : BitVec 32 := 1#32
  let arg8 : BitVec 32 := Scf.iv c0_i32_837 c1_i32 k0_t1
  let v1027 : Index := Scalar.indexCast arg8
  let c0_889 : Index := 0#32
  let c0_890 : Index := 0#32
  ![0, v1027.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x8x2048x128 : Shape := ⟨4, ![32, 8, 2048, 128]⟩
abbrev S32x8x256x128 : Shape := ⟨4, ![32, 8, 256, 128]⟩
abbrev S32x4x128x2048 : Shape := ⟨4, ![32, 4, 128, 2048]⟩
abbrev S32x4x128x256 : Shape := ⟨4, ![32, 4, 128, 256]⟩
abbrev S32x8x2304x128 : Shape := ⟨4, ![32, 8, 2304, 128]⟩
abbrev S32x4x128x2304 : Shape := ⟨4, ![32, 4, 128, 2304]⟩
abbrev S32x8x64x2304 : Shape := ⟨4, ![32, 8, 64, 2304]⟩
abbrev S32x8x2048x2304 : Shape := ⟨4, ![32, 8, 2048, 2304]⟩
abbrev S_ : Shape := ⟨0, ![]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32x8x2048x128, .bf16⟩
  | .hbm, ⟨1, _⟩ => ⟨S32x8x2048x128, .bf16⟩
  | .hbm, ⟨2, _⟩ => ⟨S32x8x256x128, .bf16⟩
  | .hbm, ⟨3, _⟩ => ⟨S32x4x128x2048, .bf16⟩
  | .hbm, ⟨4, _⟩ => ⟨S32x4x128x256, .bf16⟩
  | .hbm, ⟨5, _⟩ => ⟨S32x8x2048x128, .f32⟩
  | .hbm, ⟨6, _⟩ => ⟨S32x8x2304x128, .bf16⟩
  | .hbm, ⟨7, _⟩ => ⟨S32x8x2304x128, .f32⟩
  | .hbm, ⟨8, _⟩ => ⟨S32x4x128x2304, .bf16⟩
  | .hbm, ⟨9, _⟩ => ⟨S32x4x128x2304, .f32⟩
  | .hbm, ⟨10, _⟩ => ⟨S32x8x64x2304, .f32⟩
  | .hbm, ⟨11, _⟩ => ⟨S32x8x2048x2304, .f32⟩
  | .hbm, ⟨12, _⟩ => ⟨S_, .f32⟩
  | .hbm, ⟨13, _⟩ => ⟨S_, .f32⟩
  | .hbm, ⟨14, _⟩ => ⟨S32x8x2048x2304, .f32⟩
  | .hbm, ⟨15, _⟩ => ⟨S32x8x2048x2304, .f32⟩
  | .hbm, ⟨16, _⟩ => ⟨S_, .f32⟩
  | .hbm, ⟨17, _⟩ => ⟨S32x8x2048, .f32⟩
  | .hbm, ⟨18, _⟩ => ⟨S_, .f32⟩
  | .hbm, ⟨19, _⟩ => ⟨S32x8x2048, .f32⟩
  | .hbm, ⟨20, _⟩ => ⟨S32x8x2048, .f32⟩
  | .hbm, ⟨21, _⟩ => ⟨S32x8x2048x1, .f32⟩
  | .hbm, ⟨22, _⟩ => ⟨S32x8x2048x2304, .f32⟩
  | .hbm, ⟨23, _⟩ => ⟨S32x8x2048x2304, .f32⟩
  | .hbm, ⟨24, _⟩ => ⟨S32x8x2048x2304, .f32⟩
  | .hbm, ⟨25, _⟩ => ⟨S_, .f32⟩
  | .hbm, ⟨26, _⟩ => ⟨S32x8x2048, .f32⟩
  | .hbm, ⟨27, _⟩ => ⟨S32x8x2048x1, .f32⟩
  | .hbm, ⟨28, _⟩ => ⟨S32x8x2048x2304, .f32⟩
  | .hbm, ⟨29, _⟩ => ⟨S32x8x2048x2304, .f32⟩
  | .hbm, ⟨30, _⟩ => ⟨S32x8x64x2048, .f32⟩
  | .hbm, ⟨31, _⟩ => ⟨S32x4x128x2048, .f32⟩
  | .hbm, ⟨32, _⟩ => ⟨S32x4x128x2048, .bf16⟩
  | _, _ => ⟨S32x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proj.lean ====
abbrev S32x2048x1024 : Shape := ⟨3, ![32, 2048, 1024]⟩
abbrev S1x1024 : Shape := ⟨2, ![1, 1024]⟩
abbrev S32x1x1024 : Shape := ⟨3, ![32, 1, 1024]⟩
abbrev S1024x3328 : Shape := ⟨2, ![1024, 3328]⟩
abbrev S1x384 : Shape := ⟨2, ![1, 384]⟩
abbrev S1x256 : Shape := ⟨2, ![1, 256]⟩
abbrev S384x1024 : Shape := ⟨2, ![384, 1024]⟩
abbrev S256x1024 : Shape := ⟨2, ![256, 1024]⟩
abbrev S256x512 : Shape := ⟨2, ![256, 512]⟩
abbrev S1x128 : Shape := ⟨2, ![1, 128]⟩
abbrev S2048x128 : Shape := ⟨2, ![2048, 128]⟩
abbrev S32x8x2048x128 : Shape := ⟨4, ![32, 8, 2048, 128]⟩
abbrev S32x4x128x2048 : Shape := ⟨4, ![32, 4, 128, 2048]⟩
abbrev S32x2048x512 : Shape := ⟨3, ![32, 2048, 512]⟩
abbrev S1x512x1024 : Shape := ⟨3, ![1, 512, 1024]⟩
abbrev S1x1x1024 : Shape := ⟨3, ![1, 1, 1024]⟩
abbrev S512x128 : Shape := ⟨2, ![512, 128]⟩
abbrev S1x8x512x128 : Shape := ⟨4, ![1, 8, 512, 128]⟩
abbrev S1x4x128x512 : Shape := ⟨4, ![1, 4, 128, 512]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1024x128 : Shape := ⟨2, ![1024, 128]⟩
abbrev S1024x256 : Shape := ⟨2, ![1024, 256]⟩
abbrev S512x256 : Shape := ⟨2, ![512, 256]⟩
abbrev S1x1x512x128 : Shape := ⟨4, ![1, 1, 512, 128]⟩
abbrev S512x512 : Shape := ⟨2, ![512, 512]⟩
abbrev S128x512 : Shape := ⟨2, ![128, 512]⟩
abbrev S1x1x128x512 : Shape := ⟨4, ![1, 1, 128, 512]⟩
abbrev S1024x384 : Shape := ⟨2, ![1024, 384]⟩
abbrev S512x384 : Shape := ⟨2, ![512, 384]⟩
abbrev S1024x512 : Shape := ⟨2, ![1024, 512]⟩
abbrev S1024x1024 : Shape := ⟨2, ![1024, 1024]⟩

abbrev nBuf : Space → Nat
  | .hbm => 22
  | .vmem => 33
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S32x1x1024, .f32⟩
  | .hbm, ⟨3, _⟩ => ⟨S32x1x1024, .f32⟩
  | .hbm, ⟨4, _⟩ => ⟨S1024x3328, .bf16⟩
  | .hbm, ⟨5, _⟩ => ⟨S1x384, .f32⟩
  | .hbm, ⟨6, _⟩ => ⟨S1x256, .f32⟩
  | .hbm, ⟨7, _⟩ => ⟨S384x1024, .bf16⟩
  | .hbm, ⟨8, _⟩ => ⟨S256x1024, .bf16⟩
  | .hbm, ⟨9, _⟩ => ⟨S256x512, .bf16⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S2048x128, .f32⟩
  | .hbm, ⟨15, _⟩ => ⟨S2048x128, .f32⟩
  | .hbm, ⟨16, _⟩ => ⟨S32x8x2048x128, .bf16⟩
  | .hbm, ⟨17, _⟩ => ⟨S32x8x2048x128, .bf16⟩
  | .hbm, ⟨18, _⟩ => ⟨S32x4x128x2048, .bf16⟩
  | .hbm, ⟨19, _⟩ => ⟨S32x2048x512, .bf16⟩
  | .hbm, ⟨20, _⟩ => ⟨S32x2048x1024, .bf16⟩
  | .hbm, ⟨21, _⟩ => ⟨S32x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3328, .bf16⟩
  | .local _ .vmem, ⟨8, _⟩ => ⟨S1x384, .f32⟩
  | .local _ .vmem, ⟨9, _⟩ => ⟨S1x256, .f32⟩
  | .local _ .vmem, ⟨10, _⟩ => ⟨S384x1024, .bf16⟩
  | .local _ .vmem, ⟨11, _⟩ => ⟨S256x1024, .bf16⟩
  | .local _ .vmem, ⟨12, _⟩ => ⟨S256x512, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S1x8x512x128, .bf16⟩
  | .local _ .vmem, ⟨22, _⟩ => ⟨S1x8x512x128, .bf16⟩
  | .local _ .vmem, ⟨23, _⟩ => ⟨S1x8x512x128, .bf16⟩
  | .local _ .vmem, ⟨24, _⟩ => ⟨S1x8x512x128, .bf16⟩
  | .local _ .vmem, ⟨25, _⟩ => ⟨S1x4x128x512, .bf16⟩
  | .local _ .vmem, ⟨26, _⟩ => ⟨S1x4x128x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ProjIdeal.lean ====
variable {F : FTy → Type} [FloatOps F] [Named F]
def κ : String → Option EReal := fun
  | "inv_q" => some ((1 / 384 : ℝ) : EReal)
  | "inv_qk" => some ((1 / 96 : ℝ) : EReal)
  | _ => none
-- ==== ProjReferenceIdeal.lean ====
abbrev S32x2048x1024 : Shape := ⟨3, ![32, 2048, 1024]⟩
abbrev S1x1024 : Shape := ⟨2, ![1, 1024]⟩
abbrev S32x1x1024 : Shape := ⟨3, ![32, 1, 1024]⟩
abbrev S1024x3328 : Shape := ⟨2, ![1024, 3328]⟩
abbrev S1x384 : Shape := ⟨2, ![1, 384]⟩
abbrev S1x256 : Shape := ⟨2, ![1, 256]⟩
abbrev S384x1024 : Shape := ⟨2, ![384, 1024]⟩
abbrev S256x1024 : Shape := ⟨2, ![256, 1024]⟩
abbrev S256x512 : Shape := ⟨2, ![256, 512]⟩
abbrev S1x128 : Shape := ⟨2, ![1, 128]⟩
abbrev S2048x128 : Shape := ⟨2, ![2048, 128]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3328 : Shape := ⟨3, ![32, 2048, 3328]⟩
abbrev S32x2048x384 : Shape := ⟨3, ![32, 2048, 384]⟩
abbrev S384 : Shape := ⟨1, ![384]⟩
abbrev S1x1x384 : Shape := ⟨3, ![1, 1, 384]⟩
abbrev S32x2048x128 : Shape := ⟨3, ![32, 2048, 128]⟩
abbrev S32x2048x256 : Shape := ⟨3, ![32, 2048, 256]⟩
abbrev S256 : Shape := ⟨1, ![256]⟩
abbrev S1x1x256 : Shape := ⟨3, ![1, 1, 256]⟩
abbrev S32x2048x8x128 : Shape := ⟨4, ![32, 2048, 8, 128]⟩
abbrev S32x2048x1x128 : Shape := ⟨4, ![32, 2048, 1, 128]⟩
abbrev S32x2048x512 : Shape := ⟨3, ![32, 2048, 512]⟩
abbrev S128 : Shape := ⟨1, ![128]⟩
abbrev S32x2048x8 : Shape := ⟨3, ![32, 2048, 8]⟩
abbrev S32x2048x8x1 : Shape := ⟨4, ![32, 2048, 8, 1]⟩
abbrev S1x1x1x128 : Shape := ⟨4, ![1, 1, 1, 128]⟩
abbrev S32x2048x8x64 : Shape := ⟨4, ![32, 2048, 8, 64]⟩
abbrev S1x2048x1x128 : Shape := ⟨4, ![1, 2048, 1, 128]⟩
abbrev S32x8x2048x128 : Shape := ⟨4, ![32, 8, 2048, 128]⟩
abbrev S32x512x2048 : Shape := ⟨3, ![32, 512, 2048]⟩
abbrev S32x4x128x2048 : Shape := ⟨4, ![32, 4, 128, 2048]⟩

abbrev nBuf : Space → Nat
  | .hbm => 181
  | .vmem => 0
  | .smem => 0
  | _ => 0

abbrev hbmTy0_0 (i : Nat) : BufTy := match i % 128 with
  | 0 => ⟨S32x2048x1024, .f32⟩
  | 1 => ⟨S1x1024, .f32⟩
  | 2 => ⟨S32x1x1024, .f32⟩
  | 3 => ⟨S32x1x1024, .f32⟩
  | 4 => ⟨S1024x3328, .bf16⟩
  | 5 => ⟨S1x384, .f32⟩
  | 6 => ⟨S1x256, .f32⟩
  | 7 => ⟨S384x1024, .bf16⟩
  | 8 => ⟨S256x1024, .bf16⟩
  | 9 => ⟨S256x512, .bf16⟩
  | 10 => ⟨S1x128, .f32⟩
  | 11 => ⟨S1x128, .f32⟩
  | 12 => ⟨S1x128, .f32⟩
  | 13 => ⟨S1x128, .f32⟩
  | 14 => ⟨S2048x128, .f32⟩
  | 15 => ⟨S2048x128, .f32⟩
  | 16 => ⟨S1024, .f32⟩
  | 17 => ⟨S32x2048x1024, .f32⟩
  | 18 => ⟨S_, .f32⟩
  | 19 => ⟨S32x2048, .f32⟩
  | 20 => ⟨S32x2048x1, .f32⟩
  | 21 => ⟨S_, .f32⟩
  | 22 => ⟨S32x2048x1, .f32⟩
  | 23 => ⟨S32x2048x1, .f32⟩
  | 24 => ⟨S_, .f32⟩
  | 25 => ⟨S32x2048x1, .f32⟩
  | 26 => ⟨S32x2048x1, .f32⟩
  | 27 => ⟨S32x2048x1, .f32⟩
  | 28 => ⟨S32x2048x1024, .f32⟩
  | 29 => ⟨S32x2048x1024, .f32⟩
  | 30 => ⟨S1x1x1024, .f32⟩
  | 31 => ⟨S32x2048x1024, .f32⟩
  | 32 => ⟨S32x2048x1024, .f32⟩
  | 33 => ⟨S_, .f32⟩
  | 34 => ⟨S32x1x1024, .f32⟩
  | 35 => ⟨S32x1x1024, .f32⟩
  | 36 => ⟨S32x2048x1024, .f32⟩
  | 37 => ⟨S32x2048x1024, .f32⟩
  | 38 => ⟨S32x2048x1024, .f32⟩
  | 39 => ⟨S32x2048x1024, .f32⟩
  | 40 => ⟨S1024x3328, .f32⟩
  | 41 => ⟨S32x2048x3328, .f32⟩
  | 42 => ⟨S32x2048x384, .f32⟩
  | 43 => ⟨S384, .f32⟩
  | 44 => ⟨S32x2048x384, .f32⟩
  | 45 => ⟨S_, .f32⟩
  | 46 => ⟨S32x2048, .f32⟩
  | 47 => ⟨S32x2048x1, .f32⟩
  | 48 => ⟨S_, .f32⟩
  | 49 => ⟨S32x2048x1, .f32⟩
  | 50 => ⟨S32x2048x1, .f32⟩
  | 51 => ⟨S_, .f32⟩
  | 52 => ⟨S32x2048x1, .f32⟩
  | 53 => ⟨S32x2048x1, .f32⟩
  | 54 => ⟨S32x2048x1, .f32⟩
  | 55 => ⟨S32x2048x384, .f32⟩
  | 56 => ⟨S32x2048x384, .f32⟩
  | 57 => ⟨S1x1x384, .f32⟩
  | 58 => ⟨S32x2048x384, .f32⟩
  | 59 => ⟨S32x2048x384, .f32⟩
  | 60 => ⟨S32x2048x128, .f32⟩
  | 61 => ⟨S32x2048x256, .f32⟩
  | 62 => ⟨S256, .f32⟩
  | 63 => ⟨S32x2048x256, .f32⟩
  | 64 => ⟨S_, .f32⟩
  | 65 => ⟨S32x2048, .f32⟩
  | 66 => ⟨S32x2048x1, .f32⟩
  | 67 => ⟨S_, .f32⟩
  | 68 => ⟨S32x2048x1, .f32⟩
  | 69 => ⟨S32x2048x1, .f32⟩
  | 70 => ⟨S_, .f32⟩
  | 71 => ⟨S32x2048x1, .f32⟩
  | 72 => ⟨S32x2048x1, .f32⟩
  | 73 => ⟨S32x2048x1, .f32⟩
  | 74 => ⟨S32x2048x256, .f32⟩
  | 75 => ⟨S32x2048x256, .f32⟩
  | 76 => ⟨S1x1x256, .f32⟩
  | 77 => ⟨S32x2048x256, .f32⟩
  | 78 => ⟨S32x2048x256, .f32⟩
  | 79 => ⟨S384x1024, .f32⟩
  | 80 => ⟨S32x2048x1024, .f32⟩
  | 81 => ⟨S32x2048x8x128, .f32⟩
  | 82 => ⟨S256x1024, .f32⟩
  | 83 => ⟨S32x2048x1024, .f32⟩
  | 84 => ⟨S32x2048x8x128, .f32⟩
  | 85 => ⟨S32x2048x1x128, .f32⟩
  | 86 => ⟨S32x2048x8x128, .f32⟩
  | 87 => ⟨S32x2048x8x128, .f32⟩
  | 88 => ⟨S256x512, .f32⟩
  | 89 => ⟨S32x2048x512, .f32⟩
  | 90 => ⟨S128, .f32⟩
  | 91 => ⟨S32x2048x8x128, .f32⟩
  | 92 => ⟨S_, .f32⟩
  | 93 => ⟨S32x2048x8, .f32⟩
  | 94 => ⟨S32x2048x8x1, .f32⟩
  | 95 => ⟨S_, .f32⟩
  | 96 => ⟨S32x2048x8x1, .f32⟩
  | 97 => ⟨S32x2048x8x1, .f32⟩
  | 98 => ⟨S_, .f32⟩
  | 99 => ⟨S32x2048x8x1, .f32⟩
  | 100 => ⟨S32x2048x8x1, .f32⟩
  | 101 => ⟨S32x2048x8x1, .f32⟩
  | 102 => ⟨S32x2048x8x128, .f32⟩
  | 103 => ⟨S32x2048x8x128, .f32⟩
  | 104 => ⟨S1x1x1x128, .f32⟩
  | 105 => ⟨S32x2048x8x128, .f32⟩
  | 106 => ⟨S32x2048x8x128, .f32⟩
  | 107 => ⟨S32x2048x8x64, .f32⟩
  | 108 => ⟨S32x2048x8x64, .f32⟩
  | 109 => ⟨S1x2048x1x128, .f32⟩
  | 110 => ⟨S32x2048x8x128, .f32⟩
  | 111 => ⟨S32x2048x8x128, .f32⟩
  | 112 => ⟨S32x2048x8x128, .f32⟩
  | 113 => ⟨S1x2048x1x128, .f32⟩
  | 114 => ⟨S32x2048x8x128, .f32⟩
  | 115 => ⟨S32x2048x8x128, .f32⟩
  | 116 => ⟨S32x2048x8x128, .f32⟩
  | 117 => ⟨S128, .f32⟩
  | 118 => ⟨S1x1x1x128, .f32⟩
  | 119 => ⟨S32x2048x8x128, .f32⟩
  | 120 => ⟨S32x2048x8x128, .f32⟩
  | 121 => ⟨S128, .f32⟩
  | 122 => ⟨S32x2048x8x128, .f32⟩
  | 123 => ⟨S_, .f32⟩
  | 124 => ⟨S32x2048x8, .f32⟩
  | 125 => ⟨S32x2048x8x1, .f32⟩
  | 126 => ⟨S_, .f32⟩
  | 127 => ⟨S32x2048x8x1, .f32⟩
  | _ => ⟨S32x2048x1024, .f32⟩

abbrev hbmTy0_1 (i : Nat) : BufTy := match i % 128 with
  | 0 => ⟨S32x2048x8x1, .f32⟩
  | 1 => ⟨S_, .f32⟩
  | 2 => ⟨S32x2048x8x1, .f32⟩
  | 3 => ⟨S32x2048x8x1, .f32⟩
  | 4 => ⟨S32x2048x8x1, .f32⟩
  | 5 => ⟨S32x2048x8x128, .f32⟩
  | 6 => ⟨S32x2048x8x128, .f32⟩
  | 7 => ⟨S1x1x1x128, .f32⟩
  | 8 => ⟨S32x2048x8x128, .f32⟩
  | 9 => ⟨S32x2048x8x128, .f32⟩
  | 10 => ⟨S32x2048x8x64, .f32⟩
  | 11 => ⟨S32x2048x8x64, .f32⟩
  | 12 => ⟨S1x2048x1x128, .f32⟩
  | 13 => ⟨S32x2048x8x128, .f32⟩
  | 14 => ⟨S32x2048x8x128, .f32⟩
  | 15 => ⟨S32x2048x8x128, .f32⟩
  | 16 => ⟨S1x2048x1x128, .f32⟩
  | 17 => ⟨S32x2048x8x128, .f32⟩
  | 18 => ⟨S32x2048x8x128, .f32⟩
  | 19 => ⟨S32x2048x8x128, .f32⟩
  | 20 => ⟨S128, .f32⟩
  | 21 => ⟨S1x1x1x128, .f32⟩
  | 22 => ⟨S32x2048x8x128, .f32⟩
  | 23 => ⟨S32x2048x8x128, .f32⟩
  | 24 => ⟨S32x8x2048x128, .f32⟩
  | 25 => ⟨S32x8x2048x128, .bf16⟩
  | 26 => ⟨S32x8x2048x128, .f32⟩
  | 27 => ⟨S32x8x2048x128, .bf16⟩
  | 28 => ⟨S32x512x2048, .f32⟩
  | 29 => ⟨S32x4x128x2048, .f32⟩
  | 30 => ⟨S32x4x128x2048, .bf16⟩
  | 31 => ⟨S32x2048x512, .f32⟩
  | 32 => ⟨S32x2048x512, .bf16⟩
  | 33 => ⟨S32x2048x1024, .f32⟩
  | 34 => ⟨S32x2048x1024, .f32⟩
  | 35 => ⟨S32x2048x1024, .f32⟩
  | 36 => ⟨S_, .f32⟩
  | 37 => ⟨S32x2048x1024, .f32⟩
  | 38 => ⟨S32x2048x1024, .f32⟩
  | 39 => ⟨S_, .f32⟩
  | 40 => ⟨S32x2048x1024, .f32⟩
  | 41 => ⟨S32x2048x1024, .f32⟩
  | 42 => ⟨S32x2048x1024, .bf16⟩
  | 43 => ⟨S32x2048x1024, .f32⟩
  | 44 => ⟨S32x2048x1024, .f32⟩
  | 45 => ⟨S32x2048x1024, .f32⟩
  | 46 => ⟨S_, .f32⟩
  | 47 => ⟨S32x2048x1024, .f32⟩
  | 48 => ⟨S32x2048x1024, .f32⟩
  | 49 => ⟨S_, .f32⟩
  | 50 => ⟨S32x2048x1024, .f32⟩
  | 51 => ⟨S32x2048x1024, .f32⟩
  | 52 => ⟨S32x2048x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_12 : Ref sig .tc := ⟨.hbm, 123, rfl⟩
abbrev main_v94 : Ref sig .tc := ⟨.hbm, 124, rfl⟩
abbrev main_v95 : Ref sig .tc := ⟨.hbm, 125, rfl⟩
abbrev main_cst_13 : Ref sig .tc := ⟨.hbm, 126, rfl⟩
abbrev main_v96 : Ref sig .tc := ⟨.hbm, 127, rfl⟩
abbrev main_v97 : Ref sig .tc := ⟨.hbm, 128, rfl⟩
abbrev main_cst_14 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_15 : Ref sig .tc := ⟨.hbm, 164, rfl⟩
abbrev main_v132 : Ref sig .tc := ⟨.hbm, 165, rfl⟩
abbrev main_v133 : Ref sig .tc := ⟨.hbm, 166, rfl⟩
abbrev main_cst_16 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_17 : Ref sig .tc := ⟨.hbm, 174, rfl⟩
abbrev main_v140 : Ref sig .tc := ⟨.hbm, 175, rfl⟩
abbrev main_v141 : Ref sig .tc := ⟨.hbm, 176, rfl⟩
abbrev main_cst_18 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩

abbrev nD : Nat := 1
abbrev τ : Topo := Topo.v7x

variable {F : FTy → Type} [FloatOps F]
-- ==== Merge.lean ====
abbrev S32x4x128x2048 : Shape := ⟨4, ![32, 4, 128, 2048]⟩
abbrev S32x2048x512 : Shape := ⟨3, ![32, 2048, 512]⟩
abbrev S32x2048x1024 : Shape := ⟨3, ![32, 2048, 1024]⟩
abbrev S32x1x1024 : Shape := ⟨3, ![32, 1, 1024]⟩
abbrev S1x1024 : Shape := ⟨2, ![1, 1024]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1024x112 : Shape := ⟨2, ![1024, 112]⟩
abbrev S32x16384x128 : Shape := ⟨3, ![32, 16384, 128]⟩
abbrev S32x2048x128 : Shape := ⟨3, ![32, 2048, 128]⟩
abbrev S1x4x128x512 : Shape := ⟨4, ![1, 4, 128, 512]⟩
abbrev S1x512x512 : Shape := ⟨3, ![1, 512, 512]⟩
abbrev S1x512x1024 : Shape := ⟨3, ![1, 512, 1024]⟩
abbrev S1x1x1024 : Shape := ⟨3, ![1, 1, 1024]⟩
abbrev S1x4096x128 : Shape := ⟨3, ![1, 4096, 128]⟩
abbrev S1x512x128 : Shape := ⟨3, ![1, 512, 128]⟩
abbrev S4096x128 : Shape := ⟨2, ![4096, 128]⟩
abbrev S1x1x128x512 : Shape := ⟨4, ![1, 1, 128, 512]⟩
abbrev S128x512 : Shape := ⟨2, ![128, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 30
  | .vmem => 29
  | .smem => 0
  | _ => 0

abbrev bufTy : (tb : Table) → Fin (tcTables nBuf tb) → BufTy
  | .hbm, ⟨0, _⟩ => ⟨S32x4x128x2048, .bf16⟩
  | .hbm, ⟨1, _⟩ => ⟨S32x2048x512, .bf16⟩
  | .hbm, ⟨2, _⟩ => ⟨S32x2048x1024, .bf16⟩
  | .hbm, ⟨3, _⟩ => ⟨S32x2048x1024, .bf16⟩
  | .hbm, ⟨4, _⟩ => ⟨S32x2048x1024, .f32⟩
  | .hbm, ⟨5, _⟩ => ⟨S32x1x1024, .f32⟩
  | .hbm, ⟨6, _⟩ => ⟨S1x1024, .f32⟩
  | .hbm, ⟨7, _⟩ => ⟨S32x1x1024, .f32⟩
  | .hbm, ⟨8, _⟩ => ⟨S32x1x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S1024x16, .bf16⟩
  | .hbm, ⟨21, _⟩ => ⟨S1024x112, .bf16⟩
  | .hbm, ⟨22, _⟩ => ⟨S1024x128, .bf16⟩
  | .hbm, ⟨23, _⟩ => ⟨S1024x128, .bf16⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S32x2048x1024, .f32⟩
  | .hbm, ⟨28, _⟩ => ⟨S32x16384x128, .bf16⟩
  | .hbm, ⟨29, _⟩ => ⟨S32x2048x128, .f32⟩
  | .local _ .vmem, ⟨0, _⟩ => ⟨S1x4x128x512, .bf16⟩
  | .local _ .vmem, ⟨1, _⟩ => ⟨S1x4x128x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1024x128, .bf16⟩
  | .local _ .vmem, ⟨21, _⟩ => ⟨S1024x128, .bf16⟩
  | .local _ .vmem, ⟨22, _⟩ => ⟨S1x512x1024, .f32⟩
  | .local _ .vmem, ⟨23, _⟩ => ⟨S1x512x1024, .f32⟩
  | .local _ .vmem, ⟨24, _⟩ => ⟨S1x4096x128, .bf16⟩
  | .local _ .vmem, ⟨25, _⟩ => ⟨S1x4096x128, .bf16⟩
  | .local _ .vmem, ⟨26, _⟩ => ⟨S1x512x128, .f32⟩
  | .local _ .vmem, ⟨27, _⟩ => ⟨S1x512x128, .f32⟩
  | .local _ .vmem, ⟨28, _⟩ => ⟨S4096x128, .f32⟩
  | _, _ => ⟨S32x4x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4096x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MergeIdeal.lean ====
variable {F : FTy → Type} [FloatOps F] [Named F]
def κ : String → Option EReal := fun
  | "mask" => some ⊥
  | _ => none
-- ==== MergeReferenceIdeal.lean ====
abbrev S32x4x128x2048 : Shape := ⟨4, ![32, 4, 128, 2048]⟩
abbrev S32x2048x512 : Shape := ⟨3, ![32, 2048, 512]⟩
abbrev S32x2048x1024 : Shape := ⟨3, ![32, 2048, 1024]⟩
abbrev S32x1x1024 : Shape := ⟨3, ![32, 1, 1024]⟩
abbrev S1x1024 : Shape := ⟨2, ![1, 1024]⟩
abbrev S512x1024 : Shape := ⟨2, ![512, 1024]⟩
abbrev S1024x1024 : Shape := ⟨2, ![1024, 1024]⟩
abbrev S1024x16 : Shape := ⟨2, ![1024, 16]⟩
abbrev S32x512x2048 : Shape := ⟨3, ![32, 512, 2048]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x16 : Shape := ⟨3, ![32, 2048, 16]⟩
abbrev S32x16384x128 : Shape := ⟨3, ![32, 16384, 128]⟩
abbrev S32x2048x128 : Shape := ⟨3, ![32, 2048, 128]⟩

abbrev nBuf : Space → Nat
  | .hbm => 72
  | .vmem => 0
  | .smem => 0
  | _ => 0

abbrev bufTy : (tb : Table) → Fin (tcTables nBuf tb) → BufTy
  | .hbm, ⟨0, _⟩ => ⟨S32x4x128x2048, .bf16⟩
  | .hbm, ⟨1, _⟩ => ⟨S32x2048x512, .bf16⟩
  | .hbm, ⟨2, _⟩ => ⟨S32x2048x1024, .bf16⟩
  | .hbm, ⟨3, _⟩ => ⟨S32x2048x1024, .bf16⟩
  | .hbm, ⟨4, _⟩ => ⟨S32x2048x1024, .f32⟩
  | .hbm, ⟨5, _⟩ => ⟨S32x1x1024, .f32⟩
  | .hbm, ⟨6, _⟩ => ⟨S1x1024, .f32⟩
  | .hbm, ⟨7, _⟩ => ⟨S32x1x1024, .f32⟩
  | .hbm, ⟨8, _⟩ => ⟨S32x1x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x16, .f32⟩
  | .hbm, ⟨13, _⟩ => ⟨S32x4x128x2048, .f32⟩
  | .hbm, ⟨14, _⟩ => ⟨S32x512x2048, .f32⟩
  | .hbm, ⟨15, _⟩ => ⟨S32x2048x512, .f32⟩
  | .hbm, ⟨16, _⟩ => ⟨S32x2048x512, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S1024, .f32⟩
  | .hbm, ⟨29, _⟩ => ⟨S32x2048x1024, .f32⟩
  | .hbm, ⟨30, _⟩ => ⟨S_, .f32⟩
  | .hbm, ⟨31, _⟩ => ⟨S32x2048, .f32⟩
  | .hbm, ⟨32, _⟩ => ⟨S32x2048x1, .f32⟩
  | .hbm, ⟨33, _⟩ => ⟨S_, .f32⟩
  | .hbm, ⟨34, _⟩ => ⟨S32x2048x1, .f32⟩
  | .hbm, ⟨35, _⟩ => ⟨S32x2048x1, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S32x2048x1, .f32⟩
  | .hbm, ⟨40, _⟩ => ⟨S32x2048x1024, .f32⟩
  | .hbm, ⟨41, _⟩ => ⟨S32x2048x1024, .f32⟩
  | .hbm, ⟨42, _⟩ => ⟨S1x1x1024, .f32⟩
  | .hbm, ⟨43, _⟩ => ⟨S32x2048x1024, .f32⟩
  | .hbm, ⟨44, _⟩ => ⟨S32x2048x1024, .f32⟩
  | .hbm, ⟨45, _⟩ => ⟨S_, .f32⟩
  | .hbm, ⟨46, _⟩ => ⟨S32x1x1024, .f32⟩
  | .hbm, ⟨47, _⟩ => ⟨S32x1x1024, .f32⟩
  | .hbm, ⟨48, _⟩ => ⟨S32x2048x1024, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S32x2048x16, .f32⟩
  | .hbm, ⟨53, _⟩ => ⟨S_, .f32⟩
  | .hbm, ⟨54, _⟩ => ⟨S32x2048, .f32⟩
  | .hbm, ⟨55, _⟩ => ⟨S_, .f32⟩
  | .hbm, ⟨56, _⟩ => ⟨S32x2048, .f32⟩
  | .hbm, ⟨57, _⟩ => ⟨S32x2048, .f32⟩
  | .hbm, ⟨58, _⟩ => ⟨S32x2048x1, .f32⟩
  | .hbm, ⟨59, _⟩ => ⟨S32x2048x16, .f32⟩
  | .hbm, ⟨60, _⟩ => ⟨S32x2048x16, .f32⟩
  | .hbm, ⟨61, _⟩ => ⟨S32x2048x16, .f32⟩
  | .hbm, ⟨62, _⟩ => ⟨S_, .f32⟩
  | .hbm, ⟨63, _⟩ => ⟨S32x2048, .f32⟩
  | .hbm, ⟨64, _⟩ => ⟨S32x2048x1, .f32⟩
  | .hbm, ⟨65, _⟩ => ⟨S32x2048x16, .f32⟩
  | .hbm, ⟨66, _⟩ => ⟨S32x2048x16, .f32⟩
  | .hbm, ⟨67, _⟩ => ⟨S32x16384x128, .f32⟩
  | .hbm, ⟨68, _⟩ => ⟨S32x16384x128, .bf16⟩
  | .hbm, ⟨69, _⟩ => ⟨S_, .i32⟩
  | .hbm, ⟨70, _⟩ => ⟨S_, .f32⟩
  | .hbm, ⟨71, _⟩ => ⟨S32x2048x128, .f32⟩
  | _, _ => ⟨S32x4x128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c : Ref sig .tc := ⟨.hbm, 69, rfl⟩
abbrev main_call0_v0 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Ctx.lean ====
abbrev S32x256x1024 : Shape := ⟨3, ![32, 256, 1024]⟩
abbrev S1x1024 : Shape := ⟨2, ![1, 1024]⟩
abbrev S1x1x1024 : Shape := ⟨3, ![1, 1, 1024]⟩
abbrev S1024x3328 : Shape := ⟨2, ![1024, 3328]⟩
abbrev S1x256 : Shape := ⟨2, ![1, 256]⟩
abbrev S256x1024 : Shape := ⟨2, ![256, 1024]⟩
abbrev S256x512 : Shape := ⟨2, ![256, 512]⟩
abbrev S1x128 : Shape := ⟨2, ![1, 128]⟩
abbrev S32x8x256x128 : Shape := ⟨4, ![32, 8, 256, 128]⟩
abbrev S32x4x128x256 : Shape := ⟨4, ![32, 4, 128, 256]⟩
abbrev S4x256x1024 : Shape := ⟨3, ![4, 256, 1024]⟩
abbrev S4x8x256x128 : Shape := ⟨4, ![4, 8, 256, 128]⟩
abbrev S4x4x128x256 : Shape := ⟨4, ![4, 4, 128, 256]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩
abbrev S1024x256 : Shape := ⟨2, ![1024, 256]⟩
abbrev S256x128 : Shape := ⟨2, ![256, 128]⟩
abbrev S1x1x256x128 : Shape := ⟨4, ![1, 1, 256, 128]⟩
abbrev S1024x512 : Shape := ⟨2, ![1024, 512]⟩
abbrev S128x1024 : Shape := ⟨2, ![128, 1024]⟩
abbrev S128x256 : Shape := ⟨2, ![128, 256]⟩
abbrev S1x1x128x256 : Shape := ⟨4, ![1, 1, 128, 256]⟩

abbrev nBuf : Space → Nat
  | .hbm => 12
  | .vmem => 15
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1024x3328, .bf16⟩
  | .hbm, ⟨5, _⟩ => ⟨S1x256, .f32⟩
  | .hbm, ⟨6, _⟩ => ⟨S256x1024, .bf16⟩
  | .hbm, ⟨7, _⟩ => ⟨S256x512, .bf16⟩
  | .hbm, ⟨8, _⟩ => ⟨S1x128, .f32⟩
  | .hbm, ⟨9, _⟩ => ⟨S1x128, .f32⟩
  | .hbm, ⟨10, _⟩ => ⟨S32x8x256x128, .bf16⟩
  | .hbm, ⟨11, _⟩ => ⟨S32x4x128x256, .bf16⟩
  | .local _ .vmem, ⟨0, _⟩ => ⟨S4x256x1024, .f32⟩
  | .local _ .vmem, ⟨1, _⟩ => ⟨S4x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x3328, .bf16⟩
  | .local _ .vmem, ⟨6, _⟩ => ⟨S1x256, .f32⟩
  | .local _ .vmem, ⟨7, _⟩ => ⟨S256x1024, .bf16⟩
  | .local _ .vmem, ⟨8, _⟩ => ⟨S256x512, .bf16⟩
  | .local _ .vmem, ⟨9, _⟩ => ⟨S1x128, .f32⟩
  | .local _ .vmem, ⟨10, _⟩ => ⟨S1x128, .f32⟩
  | .local _ .vmem, ⟨11, _⟩ => ⟨S4x8x256x128, .bf16⟩
  | .local _ .vmem, ⟨12, _⟩ => ⟨S4x8x256x128, .bf16⟩
  | .local _ .vmem, ⟨13, _⟩ => ⟨S4x4x128x256, .bf16⟩
  | .local _ .vmem, ⟨14, _⟩ => ⟨S4x4x128x256, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x4x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== CtxIdeal.lean ====
variable {F : FTy → Type} [FloatOps F] [Named F]
def κ : String → Option EReal := fun
  | "inv_qk" => some ((1 / 96 : ℝ) : EReal)
  | _ => none
-- ==== CtxReferenceIdeal.lean ====
abbrev S32x256x1024 : Shape := ⟨3, ![32, 256, 1024]⟩
abbrev S1x1024 : Shape := ⟨2, ![1, 1024]⟩
abbrev S1x1x1024 : Shape := ⟨3, ![1, 1, 1024]⟩
abbrev S1024x3328 : Shape := ⟨2, ![1024, 3328]⟩
abbrev S1x256 : Shape := ⟨2, ![1, 256]⟩
abbrev S256x1024 : Shape := ⟨2, ![256, 1024]⟩
abbrev S256x512 : Shape := ⟨2, ![256, 512]⟩
abbrev S1x128 : Shape := ⟨2, ![1, 128]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S32x256x3328 : Shape := ⟨3, ![32, 256, 3328]⟩
abbrev S32x256x128 : Shape := ⟨3, ![32, 256, 128]⟩
abbrev S32x256x256 : Shape := ⟨3, ![32, 256, 256]⟩
abbrev S256 : Shape := ⟨1, ![256]⟩
abbrev S1x1x256 : Shape := ⟨3, ![1, 1, 256]⟩
abbrev S32x256x8x128 : Shape := ⟨4, ![32, 256, 8, 128]⟩
abbrev S32x256x1x128 : Shape := ⟨4, ![32, 256, 1, 128]⟩
abbrev S32x256x512 : Shape := ⟨3, ![32, 256, 512]⟩
abbrev S128 : Shape := ⟨1, ![128]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x8x256x128 : Shape := ⟨4, ![32, 8, 256, 128]⟩
abbrev S32x512x256 : Shape := ⟨3, ![32, 512, 256]⟩
abbrev S32x4x128x256 : Shape := ⟨4, ![32, 4, 128, 256]⟩

abbrev nBuf : Space → Nat
  | .hbm => 89
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1024x3328, .bf16⟩
  | .hbm, ⟨5, _⟩ => ⟨S1x256, .f32⟩
  | .hbm, ⟨6, _⟩ => ⟨S256x1024, .bf16⟩
  | .hbm, ⟨7, _⟩ => ⟨S256x512, .bf16⟩
  | .hbm, ⟨8, _⟩ => ⟨S1x128, .f32⟩
  | .hbm, ⟨9, _⟩ => ⟨S1x128, .f32⟩
  | .hbm, ⟨10, _⟩ => ⟨S1024, .f32⟩
  | .hbm, ⟨11, _⟩ => ⟨S32x256x1024, .f32⟩
  | .hbm, ⟨12, _⟩ => ⟨S_, .f32⟩
  | .hbm, ⟨13, _⟩ => ⟨S32x256, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S32x256x1, .f32⟩
  | .hbm, ⟨22, _⟩ => ⟨S32x256x1024, .f32⟩
  | .hbm, ⟨23, _⟩ => ⟨S32x256x1024, .f32⟩
  | .hbm, ⟨24, _⟩ => ⟨S1x1x1024, .f32⟩
  | .hbm, ⟨25, _⟩ => ⟨S32x256x1024, .f32⟩
  | .hbm, ⟨26, _⟩ => ⟨S32x256x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S1024x3328, .f32⟩
  | .hbm, ⟨35, _⟩ => ⟨S32x256x3328, .f32⟩
  | .hbm, ⟨36, _⟩ => ⟨S32x256x128, .f32⟩
  | .hbm, ⟨37, _⟩ => ⟨S32x256x256, .f32⟩
  | .hbm, ⟨38, _⟩ => ⟨S256, .f32⟩
  | .hbm, ⟨39, _⟩ => ⟨S32x256x256, .f32⟩
  | .hbm, ⟨40, _⟩ => ⟨S_, .f32⟩
  | .hbm, ⟨41, _⟩ => ⟨S32x256, .f32⟩
  | .hbm, ⟨42, _⟩ => ⟨S32x256x1, .f32⟩
  | .hbm, ⟨43, _⟩ => ⟨S_, .f32⟩
  | .hbm, ⟨44, _⟩ => ⟨S32x256x1, .f32⟩
  | .hbm, ⟨45, _⟩ => ⟨S32x256x1, .f32⟩
  | .hbm, ⟨46, _⟩ => ⟨S_, .f32⟩
  | .hbm, ⟨47, _⟩ => ⟨S32x256x1, .f32⟩
  | .hbm, ⟨48, _⟩ => ⟨S32x256x1, .f32⟩
  | .hbm, ⟨49, _⟩ => ⟨S32x256x1, .f32⟩
  | .hbm, ⟨50, _⟩ => ⟨S32x256x256, .f32⟩
  | .hbm, ⟨51, _⟩ => ⟨S32x256x256, .f32⟩
  | .hbm, ⟨52, _⟩ => ⟨S1x1x256, .f32⟩
  | .hbm, ⟨53, _⟩ => ⟨S32x256x256, .f32⟩
  | .hbm, ⟨54, _⟩ => ⟨S32x256x256, .f32⟩
  | .hbm, ⟨55, _⟩ => ⟨S256x1024, .f32⟩
  | .hbm, ⟨56, _⟩ => ⟨S32x256x1024, .f32⟩
  | .hbm, ⟨57, _⟩ => ⟨S32x256x8x128, .f32⟩
  | .hbm, ⟨58, _⟩ => ⟨S32x256x1x128, .f32⟩
  | .hbm, ⟨59, _⟩ => ⟨S32x256x8x128, .f32⟩
  | .hbm, ⟨60, _⟩ => ⟨S32x256x8x128, .f32⟩
  | .hbm, ⟨61, _⟩ => ⟨S256x512, .f32⟩
  | .hbm, ⟨62, _⟩ => ⟨S32x256x512, .f32⟩
  | .hbm, ⟨63, _⟩ => ⟨S128, .f32⟩
  | .hbm, ⟨64, _⟩ => ⟨S32x256x8x128, .f32⟩
  | .hbm, ⟨65, _⟩ => ⟨S_, .f32⟩
  | .hbm, ⟨66, _⟩ => ⟨S32x256x8, .f32⟩
  | .hbm, ⟨67, _⟩ => ⟨S32x256x8x1, .f32⟩
  | .hbm, ⟨68, _⟩ => ⟨S_, .f32⟩
  | .hbm, ⟨69, _⟩ => ⟨S32x256x8x1, .f32⟩
  | .hbm, ⟨70, _⟩ => ⟨S32x256x8x1, .f32⟩
  | .hbm, ⟨71, _⟩ => ⟨S_, .f32⟩
  | .hbm, ⟨72, _⟩ => ⟨S32x256x8x1, .f32⟩
  | .hbm, ⟨73, _⟩ => ⟨S32x256x8x1, .f32⟩
  | .hbm, ⟨74, _⟩ => ⟨S32x256x8x1, .f32⟩
  | .hbm, ⟨75, _⟩ => ⟨S32x256x8x128, .f32⟩
  | .hbm, ⟨76, _⟩ => ⟨S32x256x8x128, .f32⟩
  | .hbm, ⟨77, _⟩ => ⟨S1x1x1x128, .f32⟩
  | .hbm, ⟨78, _⟩ => ⟨S32x256x8x128, .f32⟩
  | .hbm, ⟨79, _⟩ => ⟨S32x256x8x128, .f32⟩
  | .hbm, ⟨80, _⟩ => ⟨S128, .f32⟩
  | .hbm, ⟨81, _⟩ => ⟨S1x1x1x128, .f32⟩
  | .hbm, ⟨82, _⟩ => ⟨S32x256x8x128, .f32⟩
  | .hbm, ⟨83, _⟩ => ⟨S32x256x8x128, .f32⟩
  | .hbm, ⟨84, _⟩ => ⟨S32x8x256x128, .f32⟩
  | .hbm, ⟨85, _⟩ => ⟨S32x8x256x128, .bf16⟩
  | .hbm, ⟨86, _⟩ => ⟨S32x512x256, .f32⟩
  | .hbm, ⟨87, _⟩ => ⟨S32x4x128x256, .f32⟩
  | .hbm, ⟨88, _⟩ => ⟨S32x4x128x256, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== Final.lean ====
abbrev S32x2048x1024 : Shape := ⟨3, ![32, 2048, 1024]⟩
abbrev S32x16384x128 : Shape := ⟨3, ![32, 16384, 128]⟩
abbrev S32x1x1024 : Shape := ⟨3, ![32, 1, 1024]⟩
abbrev S1x1024x1024 : Shape := ⟨3, ![1, 1024, 1024]⟩
abbrev S1x8192x128 : Shape := ⟨3, ![1, 8192, 128]⟩
abbrev S1x1x1024 : Shape := ⟨3, ![1, 1, 1024]⟩
abbrev S8192x128 : Shape := ⟨2, ![8192, 128]⟩
abbrev S1024x128 : Shape := ⟨2, ![1024, 128]⟩
abbrev S1x1024x128 : Shape := ⟨3, ![1, 1024, 128]⟩
abbrev S1x1x128 : Shape := ⟨3, ![1, 1, 128]⟩
abbrev S1x128 : Shape := ⟨2, ![1, 128]⟩

abbrev nBuf : Space → Nat
  | .hbm => 4
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S32x16384x128, .bf16⟩
  | .hbm, ⟨2, _⟩ => ⟨S32x1x1024, .f32⟩
  | .hbm, ⟨3, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8192x128, .bf16⟩
  | .local _ .vmem, ⟨3, _⟩ => ⟨S1x8192x128, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S8192x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FinalReferenceIdeal.lean ====
abbrev S32x2048x1024 : Shape := ⟨3, ![32, 2048, 1024]⟩
abbrev S32x16384x128 : Shape := ⟨3, ![32, 16384, 128]⟩
abbrev S32x1x1024 : Shape := ⟨3, ![32, 1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x16384x128, .bf16⟩
  | .hbm, ⟨2, _⟩ => ⟨S32x1x1024, .f32⟩
  | .hbm, ⟨3, _⟩ => ⟨S32x16384x128, .f32⟩
  | .hbm, ⟨4, _⟩ => ⟨S32x2048x1024, .f32⟩
  | .hbm, ⟨5, _⟩ => ⟨S32x2048x1024, .f32⟩
  | .hbm, ⟨6, _⟩ => ⟨S32x2048x1024, .f32⟩
  | .hbm, ⟨7, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Experts.lean ====
abbrev S32x16x256 : Shape := ⟨3, ![32, 16, 256]⟩
abbrev S32x16x2048x128 : Shape := ⟨4, ![32, 16, 2048, 128]⟩
abbrev S16x1024x512 : Shape := ⟨3, ![16, 1024, 512]⟩
abbrev S16x512x1024 : Shape := ⟨3, ![16, 512, 1024]⟩
abbrev S32x16x1x256 : Shape := ⟨4, ![32, 16, 1, 256]⟩
abbrev S1x16x1x256 : Shape := ⟨4, ![1, 16, 1, 256]⟩
abbrev S1x2x2048x128 : Shape := ⟨4, ![1, 2, 2048, 128]⟩
abbrev S2x1024x512 : Shape := ⟨3, ![2, 1024, 512]⟩
abbrev S2x512x1024 : Shape := ⟨3, ![2, 512, 1024]⟩
abbrev S8x128 : Shape := ⟨2, ![8, 128]⟩
abbrev S1x1x256x128 : Shape := ⟨4, ![1, 1, 256, 128]⟩
abbrev S256x128 : Shape := ⟨2, ![256, 128]⟩
abbrev S256x1024 : Shape := ⟨2, ![256, 1024]⟩
abbrev S1x1x1x256 : Shape := ⟨4, ![1, 1, 1, 256]⟩
abbrev S1x256 : Shape := ⟨2, ![1, 256]⟩
abbrev S128x256 : Shape := ⟨2, ![128, 256]⟩
abbrev S256x1 : Shape := ⟨2, ![256, 1]⟩
abbrev S1x128 : Shape := ⟨2, ![1, 128]⟩
abbrev S1x1024x256 : Shape := ⟨3, ![1, 1024, 256]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 10
  | .vmem => 12
  | .smem => 0
  | _ => 0

abbrev bufTy : (tb : Table) → Fin (tcTables nBuf tb) → BufTy
  | .hbm, ⟨0, _⟩ => ⟨S32x16x256, .f32⟩
  | .hbm, ⟨1, _⟩ => ⟨S32x16x2048x128, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S16x1024x512, .bf16⟩
  | .hbm, ⟨6, _⟩ => ⟨S16x1024x512, .bf16⟩
  | .hbm, ⟨7, _⟩ => ⟨S16x512x1024, .bf16⟩
  | .hbm, ⟨8, _⟩ => ⟨S32x16x1x256, .f32⟩
  | .hbm, ⟨9, _⟩ => ⟨S32x16x2048x128, .f32⟩
  | .local _ .vmem, ⟨0, _⟩ => ⟨S1x16x1x256, .f32⟩
  | .local _ .vmem, ⟨1, _⟩ => ⟨S1x16x1x256, .f32⟩
  | .local _ .vmem, ⟨2, _⟩ => ⟨S1x2x2048x128, .f32⟩
  | .local _ .vmem, ⟨3, _⟩ => ⟨S1x2x2048x128, .f32⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S2x512x1024, .bf16⟩
  | .local _ .vmem, ⟨9, _⟩ => ⟨S2x512x1024, .bf16⟩
  | .local _ .vmem, ⟨10, _⟩ => ⟨S1x2x2048x128, .f32⟩
  | .local _ .vmem, ⟨11, _⟩ => ⟨S1x2x2048x128, .f32⟩
  | _, _ => ⟨S32x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def k0_off1 (i : grid0.Coords) : Fin 4 → Nat :=
  let c0_24 : Index := 0#32
  let c2_i32 : BitVec 32 := 2#32
  let arg1 : BitVec 32 := BitVec.ofNat 32 (i 1).val
  let v0 : BitVec 32 := Scalar.muli c2_i32 arg1
  let v20 : Index := Scalar.indexCast v0
  let c0_25 : Index := 0#32
  let c0_26 : Index := 0#32
  ![0, v20.toNat, 0, 0]
def k0_off2 (i : grid0.Coords) : Fin 4 → Nat :=
  let c0_145 : Index := 0#32
  let c2_i32 : BitVec 32 := 2#32
  let arg1 : BitVec 32 := BitVec.ofNat 32 (i 1).val
  let v0 : BitVec 32 := Scalar.muli c2_i32 arg1
  let c1_i32 : BitVec 32 := 1#32
  let v151 : BitVec 32 := Scalar.addi v0 c1_i32
  let v171 : Index := Scalar.indexCast v151
  let c0_146 : Index := 0#32
  let c0_147 : Index := 0#32
  ![0, v171.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ExpertsReferenceIdeal.lean ====
abbrev S32x16x256 : Shape := ⟨3, ![32, 16, 256]⟩
abbrev S32x16x2048x128 : Shape := ⟨4, ![32, 16, 2048, 128]⟩
abbrev S16x1024x512 : Shape := ⟨3, ![16, 1024, 512]⟩
abbrev S16x512x1024 : Shape := ⟨3, ![16, 512, 1024]⟩
abbrev S32x16x8x256x128 : Shape := ⟨5, ![32, 16, 8, 256, 128]⟩
abbrev S32x16x256x8x128 : Shape := ⟨5, ![32, 16, 256, 8, 128]⟩
abbrev S32x16x256x1024 : Shape := ⟨4, ![32, 16, 256, 1024]⟩
abbrev S16x512x32x256 : Shape := ⟨4, ![16, 512, 32, 256]⟩
abbrev S32x16x256x512 : Shape := ⟨4, ![32, 16, 256, 512]⟩
abbrev S_ : Shape := ⟨0, ![]⟩
abbrev S16x1024x32x256 : Shape := ⟨4, ![16, 1024, 32, 256]⟩
abbrev S32x16x256x1 : Shape := ⟨4, ![32, 16, 256, 1]⟩

abbrev nBuf : Space → Nat
  | .hbm => 30
  | .vmem => 0
  | .smem => 0
  | _ => 0

abbrev bufTy : (tb : Table) → Fin (tcTables nBuf tb) → BufTy
  | .hbm, ⟨0, _⟩ => ⟨S32x16x256, .f32⟩
  | .hbm, ⟨1, _⟩ => ⟨S32x16x2048x128, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S32x16x8x256x128, .f32⟩
  | .hbm, ⟨6, _⟩ => ⟨S32x16x256x8x128, .f32⟩
  | .hbm, ⟨7, _⟩ => ⟨S32x16x256x1024, .f32⟩
  | .hbm, ⟨8, _⟩ => ⟨S16x512x32x256, .f32⟩
  | .hbm, ⟨9, _⟩ => ⟨S32x16x256x512, .f32⟩
  | .hbm, ⟨10, _⟩ => ⟨S16x512x32x256, .f32⟩
  | .hbm, ⟨11, _⟩ => ⟨S32x16x256x512, .f32⟩
  | .hbm, ⟨12, _⟩ => ⟨S32x16x256x512, .f32⟩
  | .hbm, ⟨13, _⟩ => ⟨S32x16x256x512, .f32⟩
  | .hbm, ⟨14, _⟩ => ⟨S_, .f32⟩
  | .hbm, ⟨15, _⟩ => ⟨S32x16x256x512, .f32⟩
  | .hbm, ⟨16, _⟩ => ⟨S32x16x256x512, .f32⟩
  | .hbm, ⟨17, _⟩ => ⟨S_, .f32⟩
  | .hbm, ⟨18, _⟩ => ⟨S32x16x256x512, .f32⟩
  | .hbm, ⟨19, _⟩ => ⟨S32x16x256x512, .f32⟩
  | .hbm, ⟨20, _⟩ => ⟨S32x16x256x512, .f32⟩
  | .hbm, ⟨21, _⟩ => ⟨S32x16x256x512, .f32⟩
  | .hbm, ⟨22, _⟩ => ⟨S16x1024x32x256, .f32⟩
  | .hbm, ⟨23, _⟩ => ⟨S32x16x256x1024, .f32⟩
  | .hbm, ⟨24, _⟩ => ⟨S32x16x256x1, .f32⟩
  | .hbm, ⟨25, _⟩ => ⟨S32x16x256x1024, .f32⟩
  | .hbm, ⟨26, _⟩ => ⟨S32x16x256x1024, .f32⟩
  | .hbm, ⟨27, _⟩ => ⟨S32x16x256x8x128, .f32⟩
  | .hbm, ⟨28, _⟩ => ⟨S32x16x8x256x128, .f32⟩
  | .hbm, ⟨29, _⟩ => ⟨S32x16x2048x128, .f32⟩
  | _, _ => ⟨S32x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Mod.lean ====
abbrev S32x1024 : Shape := ⟨2, ![32, 1024]⟩
abbrev S1024 : Shape := ⟨1, ![1024]⟩
abbrev S1024x6144 : Shape := ⟨2, ![1024, 6144]⟩
abbrev S1x6144 : Shape := ⟨2, ![1, 6144]⟩
abbrev S1x1024 : Shape := ⟨2, ![1, 1024]⟩
abbrev S_ : Shape := ⟨0, ![]⟩
abbrev S7x1024 : Shape := ⟨2, ![7, 1024]⟩
abbrev S40x1024 : Shape := ⟨2, ![40, 1024]⟩
abbrev S40x6144 : Shape := ⟨2, ![40, 6144]⟩
abbrev S1024x1024 : Shape := ⟨2, ![1024, 1024]⟩
abbrev S32x6144 : Shape := ⟨2, ![32, 6144]⟩
abbrev S6144 : Shape := ⟨1, ![6144]⟩

abbrev nBuf : Space → Nat
  | .hbm => 12
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S40x1024, .f32⟩
  | .hbm, ⟨8, _⟩ => ⟨S40x6144, .f32⟩
  | .hbm, ⟨9, _⟩ => ⟨S32x6144, .f32⟩
  | .hbm, ⟨10, _⟩ => ⟨S1x6144, .f32⟩
  | .hbm, ⟨11, _⟩ => ⟨S6144, .f32⟩
  | .local _ .vmem, ⟨0, _⟩ => ⟨S40x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S32x1024 : Shape := ⟨2, ![32, 1024]⟩
abbrev S1024 : Shape := ⟨1, ![1024]⟩
abbrev S1024x6144 : Shape := ⟨2, ![1024, 6144]⟩
abbrev S1x6144 : Shape := ⟨2, ![1, 6144]⟩
abbrev S_ : Shape := ⟨0, ![]⟩
abbrev S32x6144 : Shape := ⟨2, ![32, 6144]⟩
abbrev S6144 : Shape := ⟨1, ![6144]⟩

abbrev nBuf : Space → Nat
  | .hbm => 30
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x6144, .f32⟩
  | .hbm, ⟨3, _⟩ => ⟨S1x6144, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x6144, .f32⟩
  | .hbm, ⟨14, _⟩ => ⟨S6144, .f32⟩
  | .hbm, ⟨15, _⟩ => ⟨S1x6144, .f32⟩
  | .hbm, ⟨16, _⟩ => ⟨S32x6144, .f32⟩
  | .hbm, ⟨17, _⟩ => ⟨S32x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S6144, .f32⟩
  | .hbm, ⟨28, _⟩ => ⟨S6144, .f32⟩
  | .hbm, ⟨29, _⟩ => ⟨S6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Proof.KernelIdealRun.lean ====
/-
  The attention kernel `KernelIdeal`, run: what one grid point computes, head by head, the triple of the body, the proof data of its
  pipeline, the run of @main and the frame. Everything here is for an arbitrary instance `F` of the floats.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The parts of the blocks that one head reads -/

/-- The queries of head `h`. -/
abbrev qRect (h : Fin 8) : Rect S1x8x1024x128 :=
  Rect.unit (s := S1x8x1024x128) ![0, h.val, 0, 0] S1x1x1024x128.size (by revert h; decide +kernel)
/-- The latent keys of head `h`, rows `256 c` to `256 c + 255`. -/
abbrev kRect (h c : Fin 8) : Rect S1x8x2048x128 :=
  Rect.unit (s := S1x8x2048x128) ![0, h.val, 256 * c.val, 0] S1x1x256x128.size (by revert h c; decide +kernel)
/-- All the latent keys of head `h`. -/
abbrev kAllRect (h : Fin 8) : Rect S1x8x2048x128 :=
  Rect.unit (s := S1x8x2048x128) ![0, h.val, 0, 0] S1x1x2048x128.size (by revert h; decide +kernel)
/-- The context keys of head `h`. -/
abbrev kcRect (h : Fin 8) : Rect S1x8x256x128 :=
  Rect.unit (s := S1x8x256x128) ![0, h.val, 0, 0] S1x1x256x128.size (by revert h; decide +kernel)
/-- The latent values of the head pair `p`, columns `256 c` to `256 c + 255`. -/
abbrev vRect (p : Fin 4) (c : Fin 8) : Rect S1x4x128x2048 :=
  Rect.unit (s := S1x4x128x2048) ![0, p.val, 0, 256 * c.val] S1x1x128x256.size (by revert p c; decide +kernel)
/-- All the latent values of the head pair `p`. -/
abbrev vAllRect (p : Fin 4) : Rect S1x4x128x2048 :=
  Rect.unit (s := S1x4x128x2048) ![0, p.val, 0, 0] S1x1x128x2048.size (by revert p; decide +kernel)
/-- The context values of the head pair `p`. -/
abbrev vcRect (p : Fin 4) : Rect S1x4x128x256 :=
  Rect.unit (s := S1x4x128x256) ![0, p.val, 0, 0] S1x1x128x256.size (by revert p; decide +kernel)
/-- The rows of the result that the head pair `p` writes. -/
abbrev oRect (p : Fin 4) : Rect S1x4x128x1024 :=
  Rect.unit (s := S1x4x128x1024) ![0, p.val, 0, 0] S1x1x128x1024.size (by revert p; decide +kernel)

/-! ## One head without the shift -/

section Fast
variable (x2 : Vec F S1x8x1024x128 .bf16) (x3 : Vec F S1x8x2048x128 .bf16) (x4 : Vec F S1x8x256x128 .bf16)
  (x5 : Vec F S1x4x128x2048 .bf16) (x6 : Vec F S1x4x128x256 .bf16)

/-- The queries of head `h` as a matrix. -/
def qMat (h : Fin 8) : FVec F S1024x128 .bf16 := shapeCast S1024x128 (View.ld x2 (qRect h)) shapeCasts_S1x1x1024x128_S1024x128
/-- Keys times queries of 256 keys: the scores, keys down, queries across. -/
def score256 (h : Fin 8) (k : FVec F S1x1x256x128 .bf16) : FVec F S256x1024 .f32 :=
  matmul dot_S256x128_S1024x128_S256x1024_1_1_0_0_n_n none (shapeCast S256x128 k shapeCasts_S1x1x256x128_S256x128) (qMat x2 h)
    (constant S256x1024 .f32 0x00000000#32)
/-- The weights `2^s` of the latent keys of chunk `c`. -/
def wLat (h c : Fin 8) : FVec F S256x1024 .f32 := exp2 (score256 x2 h (View.ld x3 (kRect h c)))
/-- The weights `2^s` of the context keys. -/
def wCtx (h : Fin 8) : FVec F S256x1024 .f32 := exp2 (score256 x2 h (View.ld x4 (kcRect h)))
/-- The sum over 256 keys, one number per query. -/
def keySum (e : FVec F S256x1024 .f32) : FVec F S1x1024 .f32 :=
  shapeCast S1x1024 (multiReduction .add [0] S1024 e 0x00000000#32 reduces_S256x1024_S1024 (.inl rfl) rfl) shapeCasts_S1024_S1x1024
/-- The denominator: the sum of the weights over all the keys. -/
def den (h : Fin 8) : FVec F S1x1024 .f32 :=
  addf (addf (addf (addf (addf (addf (addf (addf (addf (broadcast S1x1024 (Scalar.ofBits .f32 0x00000000#32))
    (keySum (wLat x2 x3 h 0))) (keySum (wLat x2 x3 h 1))) (keySum (wLat x2 x3 h 2))) (keySum (wLat x2 x3 h 3)))
    (keySum (wLat x2 x3 h 4))) (keySum (wLat x2 x3 h 5))) (keySum (wLat x2 x3 h 6))) (keySum (wLat x2 x3 h 7)))
    (keySum (wCtx x2 x4 h))
/-- Values times weights of 256 keys. -/
def mix256 (v : FVec F S1x1x128x256 .bf16) (e : FVec F S256x1024 .f32) : FVec F S128x1024 .f32 :=
  matmul dot_S128x256_S256x1024_S128x1024_1_0_0_1_n_n none (shapeCast S128x256 v shapeCasts_S1x1x128x256_S128x256)
    (truncf .bf16 e bitsLt_bf16_f32) (constant S128x1024 .f32 0x00000000#32)
/-- The numerator: values times weights, over all the keys. -/
def num (h : Fin 8) (p : Fin 4) : FVec F S128x1024 .f32 :=
  addf (addf (addf (addf (addf (addf (addf (addf (mix256 (View.ld x6 (vcRect p)) (wCtx x2 x4 h))
    (mix256 (View.ld x5 (vRect p 0)) (wLat x2 x3 h 0))) (mix256 (View.ld x5 (vRect p 1)) (wLat x2 x3 h 1)))
    (mix256 (View.ld x5 (vRect p 2)) (wLat x2 x3 h 2))) (mix256 (View.ld x5 (vRect p 3)) (wLat x2 x3 h 3)))
    (mix256 (View.ld x5 (vRect p 4)) (wLat x2 x3 h 4))) (mix256 (View.ld x5 (vRect p 5)) (wLat x2 x3 h 5)))
    (mix256 (View.ld x5 (vRect p 6)) (wLat x2 x3 h 6))) (mix256 (View.ld x5 (vRect p 7)) (wLat x2 x3 h 7))
/-- Head `h` against the values of the head pair `p`. -/
def fastHead (h : Fin 8) (p : Fin 4) : FVec F S128x1024 .f32 :=
  divf (num x2 x3 x4 x5 x6 h p) (broadcastTo S128x1024 (den x2 x3 x4 h) broadcasts_S1x1024_S128x1024)
/-- Two heads' results, the first in the rows below 64 and the second in the others, as the block that is stored. -/
def joined (a b : FVec F S128x1024 .f32) : FVec F S1x1x128x1024 .bf16 :=
  shapeCast S1x1x128x1024 (truncf .bf16 (select (cmpi .slt (iota .tc S128x1024 32 [0] iota_S128x1024_d0_w32) (broadcast S128x1024 64#32)) a b)
    bitsLt_bf16_f32) shapeCasts_S128x1024_S1x1x128x1024
/-- The first head of the pair `p`. -/
def evenHead (p : Fin 4) : Fin 8 := ⟨2 * p.val, by omega⟩
/-- The second head of the pair `p`. -/
def oddHead (p : Fin 4) : Fin 8 := ⟨2 * p.val + 1, by omega⟩
/-- What the pair `p` stores when no denominator is small. -/
def fastPair (p : Fin 4) : FVec F S1x1x128x1024 .bf16 :=
  joined (fastHead x2 x3 x4 x5 x6 (evenHead p) p) (fastHead x2 x3 x4 x5 x6 (oddHead p) p)
/-- The least of all the denominators. -/
def leastDen : F .f32 :=
  extractAt ![0, 0, 0] (shapeCast S1x1x1 (multiReduction .minimumf [1, 2] S1 (shapeCast S1x1x1024
    (minimumf (minimumf (minimumf (minimumf (minimumf (minimumf (minimumf (den x2 x3 x4 0) (den x2 x3 x4 1)) (den x2 x3 x4 2)) (den x2 x3 x4 3))
      (den x2 x3 x4 4)) (den x2 x3 x4 5)) (den x2 x3 x4 6)) (den x2 x3 x4 7)) shapeCasts_S1x1024_S1x1x1024)
    0x7F800000#32 reduces_S1x1x1024_S1 (.inl rfl) rfl) shapeCasts_S1_S1x1x1) inpos_S1x1x1_p0_0_0
/-- Whether some denominator is below the floor, as the kernel's comparison yields it. -/
def small : BitVec 1 :=
  Scalar.cmpi .ne (Scalar.extui (Scalar.cmpf .olt (leastDen x2 x3 x4) (Scalar.ofBits .f32 0x21800000#32)) : BitVec 32) 0#32

/-! ## One head with the scores shifted by their maximum -/

/-- The scores of all the latent keys. -/
def scoreAll (h : Fin 8) : FVec F S2048x1024 .f32 :=
  matmul dot_S2048x128_S1024x128_S2048x1024_1_1_0_0_n_n none (shapeCast S2048x128 (View.ld x3 (kAllRect h)) shapeCasts_S1x1x2048x128_S2048x128)
    (qMat x2 h) (constant S2048x1024 .f32 0x00000000#32)
/-- The scores of the context keys. -/
def scoreCtx (h : Fin 8) : FVec F S256x1024 .f32 := score256 x2 h (View.ld x4 (kcRect h))
/-- The largest score of each query. -/
def top (h : Fin 8) : FVec F S1x1024 .f32 :=
  maximumf (shapeCast S1x1024 (multiReduction .maximumf [0] S1024 (scoreAll x2 x3 h) 0xFF800000#32 reduces_S2048x1024_S1024 (.inl rfl) rfl) shapeCasts_S1024_S1x1024)
    (shapeCast S1x1024 (multiReduction .maximumf [0] S1024 (scoreCtx x2 x4 h) 0xFF800000#32 reduces_S256x1024_S1024 (.inl rfl) rfl) shapeCasts_S1024_S1x1024)
/-- The shifted weights of the latent keys. -/
def sAll (h : Fin 8) : FVec F S2048x1024 .f32 :=
  exp2 (subf (scoreAll x2 x3 h) (broadcastTo S2048x1024 (top x2 x3 x4 h) broadcasts_S1x1024_S2048x1024))
/-- The shifted weights of the context keys. -/
def sCtx (h : Fin 8) : FVec F S256x1024 .f32 :=
  exp2 (subf (scoreCtx x2 x4 h) (broadcastTo S256x1024 (top x2 x3 x4 h) broadcasts_S1x1024_S256x1024))
/-- The shifted denominator. -/
def sDen (h : Fin 8) : FVec F S1x1024 .f32 :=
  addf (shapeCast S1x1024 (multiReduction .add [0] S1024 (sAll x2 x3 x4 h) 0x00000000#32 reduces_S2048x1024_S1024 (.inl rfl) rfl) shapeCasts_S1024_S1x1024)
    (keySum (sCtx x2 x3 x4 h))
/-- The shifted numerator. -/
def sNum (h : Fin 8) (p : Fin 4) : FVec F S128x1024 .f32 :=
  addf (matmul dot_S128x2048_S2048x1024_S128x1024_1_0_0_1_n_n none (shapeCast S128x2048 (View.ld x5 (vAllRect p)) shapeCasts_S1x1x128x2048_S128x2048)
      (truncf .bf16 (sAll x2 x3 x4 h) bitsLt_bf16_f32) (constant S128x1024 .f32 0x00000000#32))
    (mix256 (View.ld x6 (vcRect p)) (sCtx x2 x3 x4 h))
/-- Head `h` against the values of the head pair `p`, shifted. -/
def slowHead (h : Fin 8) (p : Fin 4) : FVec F S128x1024 .f32 :=
  divf (sNum x2 x3 x4 x5 x6 h p) (broadcastTo S128x1024 (sDen x2 x3 x4 h) broadcasts_S1x1024_S128x1024)
/-- What the pair `p` stores when some denominator is small. -/
def slowPair (p : Fin 4) : FVec F S1x1x128x1024 .bf16 :=
  joined (slowHead x2 x3 x4 x5 x6 (evenHead p) p) (slowHead x2 x3 x4 x5 x6 (oddHead p) p)

end Fast

/-! ## What the body leaves in the output's buffer -/

/-- The stores of the four head pairs, the last first. -/
abbrev pieces (P : Fin 4 → FVec F S1x1x128x1024 .bf16) : List (View.Piece (Elt F) S1x4x128x1024 .bf16) :=
  [⟨oRect 3, P 3⟩, ⟨oRect 2, P 2⟩, ⟨oRect 1, P 1⟩, ⟨oRect 0, P 0⟩]

/-- The four stores tile the buffer. -/
theorem cover (P : Fin 4 → FVec F S1x1x128x1024 .bf16) (y : S1x4x128x1024.Idx) : ∃ pc ∈ pieces P, y ∈ pc.1.set :=
  View.cover_of_tiled (pieces P) S1x1x128x1024.size (by rfl) y

/-- The block that the head pair `p` ends with: the shifted one if some denominator was small. -/
def pairOut (x2 : Vec F S1x8x1024x128 .bf16) (x3 : Vec F S1x8x2048x128 .bf16) (x4 : Vec F S1x8x256x128 .bf16)
    (x5 : Vec F S1x4x128x2048 .bf16) (x6 : Vec F S1x4x128x256 .bf16) (p : Fin 4) : FVec F S1x1x128x1024 .bf16 :=
  if small x2 x3 x4 = 1#1 then slowPair x2 x3 x4 x5 x6 p else fastPair x2 x3 x4 x5 x6 p

/-- The output's buffer after the body. -/
def outBlock (x2 : Vec F S1x8x1024x128 .bf16) (x3 : Vec F S1x8x2048x128 .bf16) (x4 : Vec F S1x8x256x128 .bf16)
    (x5 : Vec F S1x4x128x2048 .bf16) (x6 : Vec F S1x4x128x256 .bf16) : Vec F S1x4x128x1024 .bf16 :=
  View.canon (pieces (pairOut x2 x3 x4 x5 x6))

/-- The pieces that the loop's trip `k` writes are the shifted head pair `k`. -/
theorem trip_pieces (c : Dev nD) (i : grid0.Coords) (arg2 : Memref sig .tc .vmem S1x8x1024x128 .bf16) (harg2 : arg2.IsWhole) (arg3 : Memref sig .tc .vmem S1x8x2048x128 .bf16) (harg3 : arg3.IsWhole) (arg4 : Memref sig .tc .vmem S1x8x256x128 .bf16) (harg4 : arg4.IsWhole) (arg5 : Memref sig .tc .vmem S1x4x128x2048 .bf16) (harg5 : arg5.IsWhole) (arg6 : Memref sig .tc .vmem S1x4x128x256 .bf16) (harg6 : arg6.IsWhole) (arg7 : Memref sig .tc .vmem S1x4x128x1024 .bf16) (harg7 : arg7.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (k : Fin 4) :
    tripL_k0_t1 (F := F) Variants.none c none i arg2 harg2 arg3 harg3 arg4 harg4 arg5 harg5 arg6 harg6 arg7 harg7 (iota .tc S128x1024 32 [0] iota_S128x1024_d0_w32) f2 f3 f4 f5 f6 k
      = [⟨oRect k, slowPair (arg2.view.read (Elt F) f2) (arg3.view.read (Elt F) f3) (arg4.view.read (Elt F) f4) (arg5.view.read (Elt F) f5) (arg6.view.read (Elt F) f6) k⟩] := by
  unfold tripL_k0_t1 trip_k0_t1
  dsimp only
  fin_cases k <;> rfl

/-- The pieces that the whole loop writes are the four shifted head pairs, the last first. -/
theorem loop_pieces (c : Dev nD) (i : grid0.Coords) (arg2 : Memref sig .tc .vmem S1x8x1024x128 .bf16) (harg2 : arg2.IsWhole) (arg3 : Memref sig .tc .vmem S1x8x2048x128 .bf16) (harg3 : arg3.IsWhole) (arg4 : Memref sig .tc .vmem S1x8x256x128 .bf16) (harg4 : arg4.IsWhole) (arg5 : Memref sig .tc .vmem S1x4x128x2048 .bf16) (harg5 : arg5.IsWhole) (arg6 : Memref sig .tc .vmem S1x4x128x256 .bf16) (harg6 : arg6.IsWhole) (arg7 : Memref sig .tc .vmem S1x4x128x1024 .bf16) (harg7 : arg7.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) :
    pb_k0_t1 (F := F) Variants.none c none i arg2 harg2 arg3 harg3 arg4 harg4 arg5 harg5 arg6 harg6 arg7 harg7 (iota .tc S128x1024 32 [0] iota_S128x1024_d0_w32) f2 f3 f4 f5 f6 4
      = pieces (slowPair (arg2.view.read (Elt F) f2) (arg3.view.read (Elt F) f3) (arg4.view.read (Elt F) f4) (arg5.view.read (Elt F) f5) (arg6.view.read (Elt F) f6)) := by
  have step := fun k : Fin 4 => (pb_k0_t1_succ (F := F) Variants.none c none i arg2 harg2 arg3 harg3 arg4 harg4 arg5 harg5 arg6 harg6 arg7 harg7
    (iota .tc S128x1024 32 [0] iota_S128x1024_d0_w32) f2 f3 f4 f5 f6 k).trans (by rw [trip_pieces])
  exact (step 3).trans (congrArg (_ :: ·) ((step 2).trans (congrArg (_ :: ·) ((step 1).trans (congrArg (_ :: ·) (step 0))))))

/-! ## The body's triple -/

/-- The body on whole memrefs, the inputs' at their contents and the output's at anything, ends with the inputs' as they were
    and the output's at `outBlock` of the inputs. -/
theorem sound_kernel (c : Dev nD) (E : Set ℕ) (i : grid0.Coords) (arg2 : Memref sig .tc .vmem S1x8x1024x128 .bf16) (harg2 : arg2.IsWhole) (arg3 : Memref sig .tc .vmem S1x8x2048x128 .bf16) (harg3 : arg3.IsWhole) (arg4 : Memref sig .tc .vmem S1x8x256x128 .bf16) (harg4 : arg4.IsWhole) (arg5 : Memref sig .tc .vmem S1x4x128x2048 .bf16) (harg5 : arg5.IsWhole) (arg6 : Memref sig .tc .vmem S1x4x128x256 .bf16) (harg6 : arg6.IsWhole) (arg7 : Memref sig .tc .vmem S1x4x128x1024 .bf16) (harg7 : arg7.IsWhole)
    (x2 : Vec F S1x8x1024x128 .bf16) (x3 : Vec F S1x8x2048x128 .bf16) (x4 : Vec F S1x8x256x128 .bf16) (x5 : Vec F S1x4x128x2048 .bf16) (x6 : Vec F S1x4x128x256 .bf16) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ (∃ d, owns (c : Thread nD τ) arg7 fullShare d)
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare (outBlock x2 x3 x4 x5 x6)) -∗ K ⟨⟩))
      ⊢ wp frame (wpE (defs₀ (F := F)) Variants.none c none) E (cc0_attn i arg2 harg2 arg3 harg3 arg4 harg4 arg5 harg5 arg6 harg6 arg7 harg7) K := by
  simp only [cc0_attn_eq_skeleton]; unfold cc0_attn_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf2 hf3 hf4 hf5 hf6
  sl_exec
  by_cases hC : small (arg2.view.read (Elt F) f2) (arg3.view.read (Elt F) f3) (arg4.view.read (Elt F) f4) = 1#1
  · sl_exec (disch := exact hC)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    have hp : pairOut (arg2.view.read (Elt F) f2) (arg3.view.read (Elt F) f3) (arg4.view.read (Elt F) f4) (arg5.view.read (Elt F) f5) (arg6.view.read (Elt F) f6)
        = slowPair (arg2.view.read (Elt F) f2) (arg3.view.read (Elt F) f3) (arg4.view.read (Elt F) f4) (arg5.view.read (Elt F) f5) (arg6.view.read (Elt F) f6) := by
      funext p; unfold pairOut; exact if_pos hC
    unfold outBlock
    rw [hp, View.writes_append]
    exact (congrArg (fun L => arg7.view.read (Elt F) (arg7.view.writes (Elt F) _ L)) (loop_pieces c i arg2 harg2 arg3 harg3 arg4 harg4 arg5 harg5 arg6 harg6 arg7 harg7 f2 f3 f4 f5 f6)).trans
      (View.read_writes_eq_canon _ _ _ (cover _))
  · sl_exec (disch := exact hC)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    have hp : pairOut (arg2.view.read (Elt F) f2) (arg3.view.read (Elt F) f3) (arg4.view.read (Elt F) f4) (arg5.view.read (Elt F) f5) (arg6.view.read (Elt F) f6)
        = fastPair (arg2.view.read (Elt F) f2) (arg3.view.read (Elt F) f3) (arg4.view.read (Elt F) f4) (arg5.view.read (Elt F) f5) (arg6.view.read (Elt F) f6) := by
      funext p; unfold pairOut; exact if_neg hC
    unfold outBlock
    rw [hp]
    exact View.read_writes_eq_canon _ _ (pieces (fastPair (arg2.view.read (Elt F) f2) (arg3.view.read (Elt F) f3) (arg4.view.read (Elt F) f4) (arg5.view.read (Elt F) f5) (arg6.view.read (Elt F) f6))) (cover _)

/-! ## The pipeline's proof data -/

variable (m : (ℓ : Loc nD τ sig) → Buf (Elt F) ℓ) (ρ : Dev nD → PrngReg)

/-- The proof data: the arrays as the call finds them; after the body each input's buffer at its block and the output's at
    `outBlock` of the input blocks; nothing else is touched and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

/-- The arrays of the proof data are what the call finds. -/
theorem A_eq (c : Dev nD) (w : Fin cfg0.W) : (dats m 0 c).A w = V m c (Pipeline.arrRef spec0 w) := by
  dsimp only [dats]

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlock (iblk m c 0 t) (iblk m c 1 t) (iblk m c 2 t) (iblk m c 3 t) (iblk m c 4 t) := by dsimp only [dats]

/-- Each input's buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at one grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, from the triple at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every run of @main ends with the pipeline's arrays at what the proof data says and every semaphore counter at
    zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Attn
end
-- ==== Proof.Softmax.lean ====
/-
  Softmax over the extended reals: the weighted mean with base-two weights, and two other ways to compute it from finite scores
  and finite values, one with the scores shifted and one with natural exponentials.
-/
module

public import Idealize.ShloMosaic.Lib.Claim
public import Idealize.ShloMosaic.PureOps.Ideal.Laws

@[expose] public section

noncomputable section

namespace Cert.Softmax

open Idealize.ShloMosaic

/-- An extended real that is a real. -/
def Fin' (x : EReal) : Prop := ∃ r : ℝ, x = (r : EReal)

theorem coe_sum {ι : Type} [Fintype ι] (f : ι → ℝ) : (∑ k, ((f k : ℝ) : EReal)) = ((∑ k, f k : ℝ) : EReal) := by
  classical
  induction (Finset.univ : Finset ι) using Finset.induction_on with
  | empty => simp
  | insert a s ha ih => rw [Finset.sum_insert ha, Finset.sum_insert ha, ih, EReal.coe_add]

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.sum {ι : Type} [Fintype ι] {f : ι → EReal} (h : ∀ k, Fin' (f k)) : Fin' (∑ k, f k) := by
  choose g hg using h
  exact ⟨∑ k, g k, by rw [← coe_sum]; exact Finset.sum_congr rfl fun k _ => hg k⟩

/-- The largest of finitely many reals, at least one, is a real. -/
theorem fold_max_real {ι : Type} [Fintype ι] [Nonempty ι] (f : ι → EReal) (h : ∀ k, Fin' (f k)) :
    Fin' ((Finset.univ : Finset ι).fold max ⊥ f) := by
  classical
  have key : ∀ s : Finset ι, s.Nonempty → Fin' (s.fold max ⊥ f) := by
    intro s hs
    induction hs using Finset.Nonempty.cons_induction with
    | singleton a => obtain ⟨r, hr⟩ := h a; exact ⟨r, by simp [hr]⟩
    | cons a s ha hs ih =>
      obtain ⟨r, hr⟩ := h a; obtain ⟨q, hq⟩ := ih
      rw [Finset.fold_cons, hr, hq]
      rcases le_total (r : EReal) (q : EReal) with hle | hle
      · exact ⟨q, max_eq_right hle⟩
      · exact ⟨r, max_eq_left hle⟩
  exact key _ Finset.univ_nonempty

theorem Fin'.max {x y : EReal} (hx : Fin' x) (hy : Fin' y) : Fin' (max x y) := by
  rcases le_total x y with hle | hle
  · rw [max_eq_right hle]; exact hy
  · rw [max_eq_left hle]; exact hx

theorem coe_div_pos (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]

/-- The mean of the values `u` and `w` with the weights `2^a` and `2^b`. -/
def soft {A B : Type} [Fintype A] [Fintype B] (a : A → EReal) (b : B → EReal) (u : A → EReal) (w : B → EReal) : EReal :=
  Ideal.div (∑ k, u k * Ideal.exp2 (a k) + ∑ k, w k * Ideal.exp2 (b k)) (∑ k, Ideal.exp2 (a k) + ∑ k, Ideal.exp2 (b k))

section
variable {A B : Type} [Fintype A] [Fintype B] [Nonempty A]

/-- The mean of finite values at finite scores, as a real. -/
theorem soft_coe (a : A → ℝ) (b : B → ℝ) (u : A → ℝ) (w : B → ℝ) :
    soft (fun k => (a k : EReal)) (fun k => (b k : EReal)) (fun k => (u k : EReal)) (fun k => (w k : EReal))
      = (((∑ k, u k * (2 : ℝ) ^ (a k) + ∑ k, w k * (2 : ℝ) ^ (b k)) / (∑ k, (2 : ℝ) ^ (a k) + ∑ k, (2 : ℝ) ^ (b k)) : ℝ) : EReal) := by
  have e2 : ∀ r : ℝ, Ideal.exp2 (r : EReal) = (((2 : ℝ) ^ r : ℝ) : EReal) := fun r => rfl
  unfold soft
  simp only [e2, ← EReal.coe_mul, coe_sum, ← EReal.coe_add]
  exact coe_div_pos _ _ (add_pos_of_pos_of_nonneg (Finset.sum_pos (fun _ _ => Real.rpow_pos_of_pos two_pos _) Finset.univ_nonempty)
    (Finset.sum_nonneg fun _ _ => (Real.rpow_pos_of_pos two_pos _).le))

/-- Shifting all the scores by one real leaves the mean alone. -/
theorem soft_shift (a : A → EReal) (b : B → EReal) (u : A → EReal) (w : B → EReal) (m : EReal)
    (ha : ∀ k, Fin' (a k)) (hb : ∀ k, Fin' (b k)) (hu : ∀ k, Fin' (u k)) (hw : ∀ k, Fin' (w k)) (hm : Fin' m) :
    soft (fun k => a k - m) (fun k => b k - m) u w = soft a b u w := by
  choose a' ha using ha
  choose b' hb using hb
  choose u' hu using hu
  choose w' hw using hw
  obtain ⟨m', rfl⟩ := hm
  obtain rfl : a = fun k => (a' k : EReal) := funext ha
  obtain rfl : b = fun k => (b' k : EReal) := funext hb
  obtain rfl : u = fun k => (u' k : EReal) := funext hu
  obtain rfl : w = fun k => (w' k : EReal) := funext hw
  simp only [← EReal.coe_sub]
  rw [soft_coe, soft_coe]
  congr 1
  have hpos : (0 : ℝ) < 2 ^ m' := Real.rpow_pos_of_pos two_pos _
  simp only [Real.rpow_sub two_pos, ← mul_div_assoc, ← Finset.sum_div, ← add_div]
  exact div_div_div_cancel_right₀ hpos.ne' _ _

/-- The mean as a sum of the values times their normalised natural exponentials, the scores scaled by `log 2` and shifted. -/
theorem soft_exp {n : ℕ} [NeZero n] (p q : ℕ) [NeZero p] (hn : p + q = n) (s v : Fin n → EReal) (m l : EReal) (hl : l = ((Real.log 2 : ℝ) : EReal))
    (hs : ∀ k, Fin' (s k)) (hv : ∀ k, Fin' (v k)) (hm : Fin' m) :
    (∑ k, v k * Ideal.div (Ideal.exp (s k * l - m)) (∑ j, Ideal.exp (s j * l - m)))
      = soft (fun k : Fin p => s ⟨k.val, by omega⟩) (fun k : Fin q => s ⟨p + k.val, by omega⟩)
          (fun k : Fin p => v ⟨k.val, by omega⟩) (fun k : Fin q => v ⟨p + k.val, by omega⟩) := by
  subst hn hl
  choose s' hs using hs
  choose v' hv using hv
  obtain ⟨m', rfl⟩ := hm
  obtain rfl : s = fun k => (s' k : EReal) := funext hs
  obtain rfl : v = fun k => (v' k : EReal) := funext hv
  have ee : ∀ r : ℝ, Ideal.exp (r : EReal) = ((Real.exp r : ℝ) : EReal) := fun r => rfl
  haveI : Nonempty (Fin (p + q)) := ⟨⟨0, Nat.pos_of_ne_zero (NeZero.ne _)⟩⟩
  have hZ : 0 < ∑ j, Real.exp (s' j * Real.log 2 - m') := Finset.sum_pos (fun _ _ => Real.exp_pos _) Finset.univ_nonempty
  rw [soft_coe]
  simp only [← EReal.coe_mul, ← EReal.coe_sub, ee, coe_sum]
  simp only [coe_div_pos _ _ hZ, ← EReal.coe_mul, coe_sum]
  congr 1
  have key : ∀ x : ℝ, Real.exp (x * Real.log 2 - m') = 2 ^ x / Real.exp m' := fun x => by
    rw [Real.exp_sub, Real.rpow_def_of_pos two_pos, mul_comm x]
  simp only [key, ← Finset.sum_div, ← mul_div_assoc]
  rw [div_div_div_cancel_right₀ (Real.exp_pos m').ne', Fin.sum_univ_add, Fin.sum_univ_add]
  rfl

end

/-- A sum over `Fin 2048` in eight chunks of 256. -/
theorem sum_chunks {M : Type} [AddCommMonoid M] (f : Fin 2048 → M) :
    ∑ k, f k = ∑ c : Fin 8, ∑ k : Fin 256, f ⟨256 * c.val + k.val, by omega⟩ := by
  rw [← Finset.sum_product', ← Equiv.sum_comp (finProdFinEquiv (m := 8) (n := 256))]
  refine Finset.sum_congr rfl fun x _ => congrArg f (Fin.ext ?_)
  show x.2.val + 256 * x.1.val = 256 * x.1.val + x.2.val
  omega

end Cert.Softmax

end
-- ==== Proof.BlockValue.lean ====
/-
  WHAT ONE GRID POINT OF THE ATTENTION KERNEL STORES, element by element, at the extended reals.

  Every stage of the block terms of `KernelIdealRun.lean` is read at an index: a load is the array at the load's own
  rectangle, a product is the sum over the contracted dimension, the running sums over the chunks of keys are one sum. Both
  forms of a head, with the greatest score taken off and without it, come to the softmax mean `soft` (`fastHead_apply`,
  `slowHead_apply`); so the stored block is that mean whichever way the branch goes (`outBlock_apply`).
-/
module

public import proofs.«01_k».proof.Proof.KernelIdealRun
public import proofs.«01_k».proof.Proof.Softmax
public import Idealize.ShloMosaic.Lib.Pointwise
public import Idealize.ShloMosaic.Lib.Pipeline.ValueKit

@[expose] public section

set_option maxRecDepth 16384
noncomputable section

namespace Cert.KernelIdeal.Attn

open Cert.KernelIdeal Cert.KernelIdeal.Gen Cert.Softmax
open Idealize.ShloMosaic Idealize.ShloMosaic.TcCoe Idealize.ShloMosaic.Tactic Idealize.ShloMosaic.Pointwise

variable (x2 : Vec Ideal S1x8x1024x128 .bf16) (x3 : Vec Ideal S1x8x2048x128 .bf16) (x4 : Vec Ideal S1x8x256x128 .bf16)
  (x5 : Vec Ideal S1x4x128x2048 .bf16) (x6 : Vec Ideal S1x4x128x256 .bf16)

/-- An index of rank four whose coordinates are those of another is that one. -/
theorem idx4_of_val {n0 n1 n2 n3 : Nat} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d := by
  funext k; apply Fin.ext
  match k with
  | ⟨0, _⟩ => exact h0
  | ⟨1, _⟩ => exact h1
  | ⟨2, _⟩ => exact h2
  | ⟨3, _⟩ => exact h3

theorem ld_q (h : Fin 8) (q : Fin 1024) (d : Fin 128) : View.ld x2 (qRect h) (ix4 0 0 q d) = x2 (ix4 0 h q d) :=
  congrArg x2 (idx4_of_val _ _ _ _ _ (by show 0 + 1 * 0 = 0; omega) (by show h.val + 1 * 0 = h.val; omega)
    (by show 0 + 1 * q.val = q.val; omega) (by show 0 + 1 * d.val = d.val; omega))

theorem cast_q (y : FVec Ideal S1x1x1024x128 .bf16) (q : Fin 1024) (d : Fin 128) :
    shapeCast S1024x128 y shapeCasts_S1x1x1024x128_S1024x128 (ix2 q d) = y (ix4 0 0 q d) := by pointwise

theorem cast_k (y : FVec Ideal S1x1x2048x128 .bf16) (q : Fin 2048) (d : Fin 128) :
    shapeCast S2048x128 y shapeCasts_S1x1x2048x128_S2048x128 (ix2 q d) = y (ix4 0 0 q d) := by pointwise

theorem qMat_apply (h : Fin 8) (q : Fin 1024) (d : Fin 128) : qMat (F := Ideal) x2 h (ix2 q d) = x2 (ix4 0 h q d) :=
  (cast_q (View.ld x2 (qRect h)) q d).trans (ld_q x2 h q d)

theorem prod_all (y : FVec Ideal S2048x128 .bf16) (z : FVec Ideal S1024x128 .bf16) (r : Fin 2048) (q : Fin 1024) :
    matmul (F := Ideal) dot_S2048x128_S1024x128_S2048x1024_1_1_0_0_n_n none y z (constant S2048x1024 .f32 0x00000000#32) (ix2 r q)
      = ∑ d : Fin 128, y (ix2 r d) * z (ix2 q d) := by
  pointwise

theorem ld_k (h : Fin 8) (r : Fin 2048) (d : Fin 128) : View.ld x3 (kAllRect h) (ix4 0 0 r d) = x3 (ix4 0 h r d) :=
    congrArg x3 (idx4_of_val _ _ _ _ _ (by show 0 + 1 * 0 = 0; omega) (by show h.val + 1 * 0 = h.val; omega)
      (by show 0 + 1 * r.val = r.val; omega) (by show 0 + 1 * d.val = d.val; omega))

theorem scoreAll_apply (h : Fin 8) (r : Fin 2048) (q : Fin 1024) :
    scoreAll (F := Ideal) x2 x3 h (ix2 r q) = ∑ d : Fin 128, x3 (ix4 0 h r d) * x2 (ix4 0 h q d) :=
  (prod_all _ _ r q).trans (Finset.sum_congr rfl fun d _ =>
    congrArg₂ (· * ·) ((cast_k (View.ld x3 (kAllRect h)) r d).trans (ld_k x3 h r d)) (qMat_apply x2 h q d))

theorem score256_apply (h : Fin 8) (k : FVec Ideal S1x1x256x128 .bf16) (r : Fin 256) (q : Fin 1024) :
    score256 (F := Ideal) x2 h k (ix2 r q) = ∑ d : Fin 128, k (ix4 0 0 r d) * x2 (ix4 0 h q d) := by
  simp only [← qMat_apply]
  unfold score256
  generalize qMat x2 h = z
  pointwise

theorem keySum_apply (e : FVec Ideal S256x1024 .f32) (q : Fin 1024) :
    keySum (F := Ideal) e (ix2 0 q) = ∑ r : Fin 256, e (ix2 r q) := by
  pointwise [keySum]

theorem mix256_apply (v : FVec Ideal S1x1x128x256 .bf16) (e : FVec Ideal S256x1024 .f32) (r : Fin 128) (q : Fin 1024) :
    mix256 (F := Ideal) v e (ix2 r q) = ∑ k : Fin 256, v (ix4 0 0 r k) * e (ix2 k q) := by
  pointwise [mix256]

theorem ofBits_bot : Ideal.ofBits .f32 0xFF800000#32 = ⊥ := by
  simp [Ideal.ofBits, Ideal.ieee]

theorem cast_row (y : FVec Ideal S1024 .f32) (q : Fin 1024) :
    shapeCast S1x1024 y shapeCasts_S1024_S1x1024 (ix2 0 q) = y (ix1 q) := by pointwise

theorem max_all (e : FVec Ideal S2048x1024 .f32) (q : Fin 1024) :
    multiReduction (F := Ideal) .maximumf [0] S1024 e 0xFF800000#32 reduces_S2048x1024_S1024 (.inl rfl) rfl (ix1 q)
      = Finset.univ.fold max ⊥ fun k : Fin 2048 => e (ix2 k q) := by
  refine (Ideal.multiReduction_maximumf_single e _ _ _ _ _).trans ?_
  rw [show (FloatOps.ofBits (F := Ideal) .f32 0xFF800000#32) = (⊥ : EReal) from ofBits_bot]
  refine congrArg (fun f => Finset.fold max ⊥ f Finset.univ) (funext fun k => congrArg e (funext fun a => Fin.ext ?_))
  match a with
  | ⟨0, _⟩ => rfl
  | ⟨1, _⟩ => rfl

theorem max_ctx (e : FVec Ideal S256x1024 .f32) (q : Fin 1024) :
    multiReduction (F := Ideal) .maximumf [0] S1024 e 0xFF800000#32 reduces_S256x1024_S1024 (.inl rfl) rfl (ix1 q)
      = Finset.univ.fold max ⊥ fun k : Fin 256 => e (ix2 k q) := by
  refine (Ideal.multiReduction_maximumf_single e _ _ _ _ _).trans ?_
  rw [show (FloatOps.ofBits (F := Ideal) .f32 0xFF800000#32) = (⊥ : EReal) from ofBits_bot]
  refine congrArg (fun f => Finset.fold max ⊥ f Finset.univ) (funext fun k => congrArg e (funext fun a => Fin.ext ?_))
  match a with
  | ⟨0, _⟩ => rfl
  | ⟨1, _⟩ => rfl

theorem max_both (y : FVec Ideal S2048x1024 .f32) (z : FVec Ideal S256x1024 .f32) (q : Fin 1024) :
    maximumf (F := Ideal) (shapeCast S1x1024 (multiReduction .maximumf [0] S1024 y 0xFF800000#32 reduces_S2048x1024_S1024 (.inl rfl) rfl) shapeCasts_S1024_S1x1024)
      (shapeCast S1x1024 (multiReduction .maximumf [0] S1024 z 0xFF800000#32 reduces_S256x1024_S1024 (.inl rfl) rfl) shapeCasts_S1024_S1x1024) (ix2 0 q)
      = max (Finset.univ.fold max ⊥ fun k => y (ix2 k q)) (Finset.univ.fold max ⊥ fun k => z (ix2 k q)) := by
  rw [maximumf_apply, cast_row, cast_row, max_all, max_ctx]
  rfl

theorem top_apply (h : Fin 8) (q : Fin 1024) :
    top (F := Ideal) x2 x3 x4 h (ix2 0 q) = max (Finset.univ.fold max ⊥ fun k => scoreAll x2 x3 h (ix2 k q)) (Finset.univ.fold max ⊥ fun k => scoreCtx x2 x4 h (ix2 k q)) := by
  unfold top
  exact max_both _ _ q

theorem sum_all (e : FVec Ideal S2048x1024 .f32) (q : Fin 1024) :
    multiReduction (F := Ideal) .add [0] S1024 e 0x00000000#32 reduces_S2048x1024_S1024 (.inl rfl) rfl (ix1 q)
      = ∑ k : Fin 2048, e (ix2 k q) := by
  refine (Ideal.multiReduction_add_single e _ _ _ _ _).trans ?_
  refine Finset.sum_congr rfl (fun k _ => congrArg e (funext fun a => Fin.ext ?_))
  match a with
  | ⟨0, _⟩ => rfl
  | ⟨1, _⟩ => rfl

theorem bcast_row (n : Nat) (x : FVec Ideal S1x1024 .f32) (h : S1x1024.Broadcasts ⟨2, ![n, 1024]⟩) (r : Fin n) (q : Fin 1024) :
    broadcastTo ⟨2, ![n, 1024]⟩ x h (ix2 r q) = x (ix2 0 q) := by pointwise

theorem joined_apply (a b : FVec Ideal S128x1024 .f32) (r : Fin 128) (q : Fin 1024) :
    joined (F := Ideal) a b (ix4 0 0 r q) = if r.val < 64 then a (ix2 r q) else b (ix2 r q) := by
  have hc : IntOp.cmpi CmpIPredicate.slt (BitVec.ofNat 32 r.val) 64#32 = if r.val < 64 then 1#1 else 0#1 := by
    revert r; decide +kernel
  pointwise [joined]
  rw [hc]
  split <;> rfl

/-! ## One head at one query -/

/-- The score of latent key `k` against query `q`, in head `h`. -/
def latScore (h : Fin 8) (q : Fin 1024) (k : Fin 2048) : EReal := ∑ d : Fin 128, x3 (ix4 0 h k d) * x2 (ix4 0 h q d)
/-- The score of context key `k` against query `q`, in head `h`. -/
def ctxScore (h : Fin 8) (q : Fin 1024) (k : Fin 256) : EReal := ∑ d : Fin 128, x4 (ix4 0 h k d) * x2 (ix4 0 h q d)

theorem ld_kc (h : Fin 8) (r : Fin 256) (d : Fin 128) : View.ld x4 (kcRect h) (ix4 0 0 r d) = x4 (ix4 0 h r d) :=
  congrArg x4 (idx4_of_val _ _ _ _ _ (by show 0 + 1 * 0 = 0; omega) (by show h.val + 1 * 0 = h.val; omega)
    (by show 0 + 1 * r.val = r.val; omega) (by show 0 + 1 * d.val = d.val; omega))

theorem ld_kchunk (h c : Fin 8) (r : Fin 256) (d : Fin 128) :
    View.ld x3 (kRect h c) (ix4 0 0 r d) = x3 (ix4 0 h ⟨256 * c.val + r.val, by omega⟩ d) :=
  congrArg x3 (idx4_of_val _ _ _ _ _ (by show 0 + 1 * 0 = 0; omega) (by show h.val + 1 * 0 = h.val; omega)
    (by show 256 * c.val + 1 * r.val = 256 * c.val + r.val; omega) (by show 0 + 1 * d.val = d.val; omega))

theorem ld_vc (p : Fin 4) (r : Fin 128) (k : Fin 256) : View.ld x6 (vcRect p) (ix4 0 0 r k) = x6 (ix4 0 p r k) :=
  congrArg x6 (idx4_of_val _ _ _ _ _ (by show 0 + 1 * 0 = 0; omega) (by show p.val + 1 * 0 = p.val; omega)
    (by show 0 + 1 * r.val = r.val; omega) (by show 0 + 1 * k.val = k.val; omega))

theorem ld_vchunk (p : Fin 4) (c : Fin 8) (r : Fin 128) (k : Fin 256) :
    View.ld x5 (vRect p c) (ix4 0 0 r k) = x5 (ix4 0 p r ⟨256 * c.val + k.val, by omega⟩) :=
  congrArg x5 (idx4_of_val _ _ _ _ _ (by show 0 + 1 * 0 = 0; omega) (by show p.val + 1 * 0 = p.val; omega)
    (by show 0 + 1 * r.val = r.val; omega) (by show 256 * c.val + 1 * k.val = 256 * c.val + k.val; omega))

theorem ld_vall (p : Fin 4) (r : Fin 128) (k : Fin 2048) : View.ld x5 (vAllRect p) (ix4 0 0 r k) = x5 (ix4 0 p r k) :=
  congrArg x5 (idx4_of_val _ _ _ _ _ (by show 0 + 1 * 0 = 0; omega) (by show p.val + 1 * 0 = p.val; omega)
    (by show 0 + 1 * r.val = r.val; omega) (by show 0 + 1 * k.val = k.val; omega))

theorem wLat_apply (h c : Fin 8) (k : Fin 256) (q : Fin 1024) :
    wLat (F := Ideal) x2 x3 h c (ix2 k q) = Ideal.exp2 (latScore x2 x3 h q ⟨256 * c.val + k.val, by omega⟩) := by
  refine (exp2_apply _ _).trans (congrArg Ideal.exp2 ((score256_apply x2 h _ k q).trans ?_))
  exact Finset.sum_congr rfl fun d _ => congrArg (· * _) (ld_kchunk x3 h c k d)

theorem scoreCtx_apply (h : Fin 8) (k : Fin 256) (q : Fin 1024) :
    scoreCtx (F := Ideal) x2 x4 h (ix2 k q) = ctxScore x2 x4 h q k :=
  (score256_apply x2 h _ k q).trans (Finset.sum_congr rfl fun d _ => congrArg (· * _) (ld_kc x4 h k d))

theorem wCtx_apply (h : Fin 8) (k : Fin 256) (q : Fin 1024) :
    wCtx (F := Ideal) x2 x4 h (ix2 k q) = Ideal.exp2 (ctxScore x2 x4 h q k) :=
  (exp2_apply _ _).trans (congrArg Ideal.exp2 (scoreCtx_apply x2 x4 h k q))

theorem keySum_lat (h c : Fin 8) (q : Fin 1024) : keySum (F := Ideal) (wLat x2 x3 h c) (ix2 0 q)
    = ∑ k : Fin 256, Ideal.exp2 (latScore x2 x3 h q ⟨256 * c.val + k.val, by omega⟩) :=
  (keySum_apply _ q).trans (Finset.sum_congr rfl fun k _ => wLat_apply x2 x3 h c k q)

theorem keySum_ctx (h : Fin 8) (q : Fin 1024) : keySum (F := Ideal) (wCtx x2 x4 h) (ix2 0 q)
    = ∑ k : Fin 256, Ideal.exp2 (ctxScore x2 x4 h q k) :=
  (keySum_apply _ q).trans (Finset.sum_congr rfl fun k _ => wCtx_apply x2 x4 h k q)

/-- The denominator of head `h` at query `q`. -/
theorem den_apply (h : Fin 8) (q : Fin 1024) : den (F := Ideal) x2 x3 x4 h (ix2 0 q)
    = ∑ k, Ideal.exp2 (latScore x2 x3 h q k) + ∑ k, Ideal.exp2 (ctxScore x2 x4 h q k) := by
  unfold den
  simp only [addf_apply, keySum_lat, keySum_ctx]
  rw [sum_chunks, Fin.sum_univ_eight]
  refine congrArg (· + _) ?_
  show (Ideal.ofBits .f32 0#32 + _ + _ + _ + _ + _ + _ + _ + _ : EReal) = _
  rw [Ideal.ofBits_zero_f32, zero_add]

theorem mix_lat (h c : Fin 8) (p : Fin 4) (r : Fin 128) (q : Fin 1024) :
    mix256 (F := Ideal) (View.ld x5 (vRect p c)) (wLat x2 x3 h c) (ix2 r q)
      = ∑ k : Fin 256, x5 (ix4 0 p r ⟨256 * c.val + k.val, by omega⟩) * Ideal.exp2 (latScore x2 x3 h q ⟨256 * c.val + k.val, by omega⟩) :=
  (mix256_apply _ _ r q).trans (Finset.sum_congr rfl fun k _ => congrArg₂ (· * ·) (ld_vchunk x5 p c r k) (wLat_apply x2 x3 h c k q))

theorem mix_ctx (h : Fin 8) (p : Fin 4) (r : Fin 128) (q : Fin 1024) :
    mix256 (F := Ideal) (View.ld x6 (vcRect p)) (wCtx x2 x4 h) (ix2 r q)
      = ∑ k : Fin 256, x6 (ix4 0 p r k) * Ideal.exp2 (ctxScore x2 x4 h q k) :=
  (mix256_apply _ _ r q).trans (Finset.sum_congr rfl fun k _ => congrArg₂ (· * ·) (ld_vc x6 p r k) (wCtx_apply x2 x4 h k q))

/-- The numerator of head `h` against row `r` of the pair `p`'s values, at query `q`. -/
theorem num_apply (h : Fin 8) (p : Fin 4) (r : Fin 128) (q : Fin 1024) : num (F := Ideal) x2 x3 x4 x5 x6 h p (ix2 r q)
    = ∑ k, x5 (ix4 0 p r k) * Ideal.exp2 (latScore x2 x3 h q k) + ∑ k, x6 (ix4 0 p r k) * Ideal.exp2 (ctxScore x2 x4 h q k) := by
  unfold num
  simp only [addf_apply, mix_lat, mix_ctx]
  rw [sum_chunks, Fin.sum_univ_eight]
  generalize (∑ k : Fin 256, x6 (ix4 0 p r k) * Ideal.exp2 (ctxScore x2 x4 h q k)) = z
  show (z + _ + _ + _ + _ + _ + _ + _ + _ : EReal) = _
  rw [add_comm _ z]
  simp only [← add_assoc]

/-- Without the shift a head is the softmax mean of its values. -/
theorem fastHead_apply (h : Fin 8) (p : Fin 4) (r : Fin 128) (q : Fin 1024) : fastHead (F := Ideal) x2 x3 x4 x5 x6 h p (ix2 r q)
    = soft (latScore x2 x3 h q) (ctxScore x2 x4 h q) (fun k => x5 (ix4 0 p r k)) (fun k => x6 (ix4 0 p r k)) := by
  unfold fastHead
  rw [divf_apply, num_apply, bcast_row, den_apply]
  rfl

/-! ## One head, shifted -/

theorem sAll_apply (h : Fin 8) (k : Fin 2048) (q : Fin 1024) : sAll (F := Ideal) x2 x3 x4 h (ix2 k q)
    = Ideal.exp2 (latScore x2 x3 h q k - top x2 x3 x4 h (ix2 0 q)) := by
  unfold sAll
  rw [exp2_apply, subf_apply, bcast_row, scoreAll_apply]
  rfl

theorem sCtx_apply (h : Fin 8) (k : Fin 256) (q : Fin 1024) : sCtx (F := Ideal) x2 x3 x4 h (ix2 k q)
    = Ideal.exp2 (ctxScore x2 x4 h q k - top x2 x3 x4 h (ix2 0 q)) := by
  unfold sCtx
  rw [exp2_apply, subf_apply, bcast_row, scoreCtx_apply]
  rfl

theorem sDen_apply (h : Fin 8) (q : Fin 1024) : sDen (F := Ideal) x2 x3 x4 h (ix2 0 q)
    = ∑ k, Ideal.exp2 (latScore x2 x3 h q k - top x2 x3 x4 h (ix2 0 q)) + ∑ k, Ideal.exp2 (ctxScore x2 x4 h q k - top x2 x3 x4 h (ix2 0 q)) := by
  unfold sDen
  rw [addf_apply, cast_row, sum_all, keySum_apply]
  simp only [sAll_apply, sCtx_apply]
  rfl

theorem prod_vals (y : FVec Ideal S128x2048 .bf16) (z : FVec Ideal S2048x1024 .bf16) (r : Fin 128) (q : Fin 1024) :
    matmul (F := Ideal) dot_S128x2048_S2048x1024_S128x1024_1_0_0_1_n_n none y z (constant S128x1024 .f32 0x00000000#32) (ix2 r q)
      = ∑ d : Fin 2048, y (ix2 r d) * z (ix2 d q) := by
  pointwise

theorem cast_v (y : FVec Ideal S1x1x128x2048 .bf16) (r : Fin 128) (k : Fin 2048) :
    shapeCast S128x2048 y shapeCasts_S1x1x128x2048_S128x2048 (ix2 r k) = y (ix4 0 0 r k) := by pointwise

theorem sNum_apply (h : Fin 8) (p : Fin 4) (r : Fin 128) (q : Fin 1024) : sNum (F := Ideal) x2 x3 x4 x5 x6 h p (ix2 r q)
    = ∑ k, x5 (ix4 0 p r k) * Ideal.exp2 (latScore x2 x3 h q k - top x2 x3 x4 h (ix2 0 q))
      + ∑ k, x6 (ix4 0 p r k) * Ideal.exp2 (ctxScore x2 x4 h q k - top x2 x3 x4 h (ix2 0 q)) := by
  unfold sNum
  rw [addf_apply]
  exact congrArg₂ (· + ·)
    ((prod_vals _ _ r q).trans (Finset.sum_congr rfl fun k _ => congrArg₂ (· * ·) ((cast_v _ r k).trans (ld_vall x5 p r k)) (sAll_apply x2 x3 x4 h k q)))
    ((mix256_apply _ _ r q).trans (Finset.sum_congr rfl fun k _ => congrArg₂ (· * ·) (ld_vc x6 p r k) (sCtx_apply x2 x3 x4 h k q)))

/-- The buffer that four stores, one for each head pair, leave holds at pair `p` what that pair stored. -/
theorem canon_pieces (P : Fin 4 → FVec Ideal S1x1x128x1024 .bf16) (p : Fin 4) (r : Fin 128) (q : Fin 1024) :
    View.canon (pieces P) (ix4 0 p r q) = P p (ix4 0 0 r q) := by
  have one : ∀ p' : Fin 4, View.RectAt (Val := Elt Ideal) (e := .bf16) (ix4 0 p r q : S1x4x128x1024.Idx) (oRect p') (P p') (P p (ix4 0 0 r q)) := by
    intro p' x hx
    have h1 : p'.val + 1 * (x 1).val = p.val := congrArg Fin.val (congrFun hx 1)
    have h2 : 0 + 1 * (x 2).val = r.val := congrArg Fin.val (congrFun hx 2)
    have h3 : 0 + 1 * (x 3).val = q.val := congrArg Fin.val (congrFun hx 3)
    have l0 : (x 0).val < 1 := (x 0).isLt
    have l1 : (x 1).val < 1 := (x 1).isLt
    obtain rfl : p' = p := Fin.ext (by omega)
    exact congrArg (P p') (idx4_of_val x 0 0 r q (by show (x 0).val = 0; omega) (by show (x 1).val = 0; omega) (by omega) (by omega))
  exact View.canon_eq_of_allAt _ _ _ (cover P _)
    (View.allAt_cons _ _ _ (one 3) (View.allAt_cons _ _ _ (one 2) (View.allAt_cons _ _ _ (one 1) (View.allAt_cons _ _ _ (one 0) (View.allAt_nil _ _)))))

section Finite
variable (h2 : ∀ i, Fin' (x2 i)) (h3 : ∀ i, Fin' (x3 i)) (h4 : ∀ i, Fin' (x4 i)) (h5 : ∀ i, Fin' (x5 i)) (h6 : ∀ i, Fin' (x6 i))
include h2 h3

theorem latScore_real (h : Fin 8) (q : Fin 1024) (k : Fin 2048) : Fin' (latScore x2 x3 h q k) := Fin'.sum fun d => (h3 _).mul (h2 _)
include h4
omit h3 in
theorem ctxScore_real (h : Fin 8) (q : Fin 1024) (k : Fin 256) : Fin' (ctxScore x2 x4 h q k) := Fin'.sum fun d => (h4 _).mul (h2 _)

theorem top_real (h : Fin 8) (q : Fin 1024) : Fin' (top x2 x3 x4 h (ix2 0 q)) := by
  rw [top_apply]
  refine Fin'.max (fold_max_real _ fun k => ?_) (fold_max_real _ fun k => ?_)
  · rw [scoreAll_apply]; exact latScore_real x2 x3 h2 h3 h q k
  · rw [scoreCtx_apply]; exact ctxScore_real x2 x4 h2 h4 h q k

include h5 h6

/-- With the shift a head is, at finite inputs, the same softmax mean. -/
theorem slowHead_apply (h : Fin 8) (p : Fin 4) (r : Fin 128) (q : Fin 1024) : slowHead (F := Ideal) x2 x3 x4 x5 x6 h p (ix2 r q)
    = soft (latScore x2 x3 h q) (ctxScore x2 x4 h q) (fun k => x5 (ix4 0 p r k)) (fun k => x6 (ix4 0 p r k)) := by
  rw [← soft_shift (latScore x2 x3 h q) (ctxScore x2 x4 h q) (fun k => x5 (ix4 0 p r k)) (fun k => x6 (ix4 0 p r k)) (top x2 x3 x4 h (ix2 0 q))
    (latScore_real x2 x3 h2 h3 h q) (ctxScore_real x2 x4 h2 h4 h q) (fun _ => h5 _) (fun _ => h6 _) (top_real x2 x3 x4 h2 h3 h4 h q)]
  unfold slowHead
  rw [divf_apply, sNum_apply, bcast_row, sDen_apply]
  rfl

/-- Whichever way the branch goes, the pair `p` stores the softmax means of its two heads. -/
theorem pairOut_apply (p : Fin 4) (r : Fin 128) (q : Fin 1024) : pairOut (F := Ideal) x2 x3 x4 x5 x6 p (ix4 0 0 r q)
    = soft (latScore x2 x3 (if r.val < 64 then evenHead p else oddHead p) q) (ctxScore x2 x4 (if r.val < 64 then evenHead p else oddHead p) q)
        (fun k => x5 (ix4 0 p r k)) (fun k => x6 (ix4 0 p r k)) := by
  unfold pairOut
  split
  · unfold slowPair
    rw [joined_apply, slowHead_apply x2 x3 x4 x5 x6 h2 h3 h4 h5 h6, slowHead_apply x2 x3 x4 x5 x6 h2 h3 h4 h5 h6]
    split <;> rfl
  · unfold fastPair
    rw [joined_apply, fastHead_apply, fastHead_apply]
    split <;> rfl

/-- So the block that one grid point leaves is, element by element, the softmax means. -/
theorem outBlock_apply (p : Fin 4) (r : Fin 128) (q : Fin 1024) : outBlock (F := Ideal) x2 x3 x4 x5 x6 (ix4 0 p r q)
    = soft (latScore x2 x3 (if r.val < 64 then evenHead p else oddHead p) q) (ctxScore x2 x4 (if r.val < 64 then evenHead p else oddHead p) q)
        (fun k => x5 (ix4 0 p r k)) (fun k => x6 (ix4 0 p r k)) := by
  rw [← pairOut_apply x2 x3 x4 x5 x6 h2 h3 h4 h5 h6]
  unfold outBlock
  exact canon_pieces _ p r q

end Finite

end Cert.KernelIdeal.Attn
end
-- ==== Proof.Attention.lean ====
/-
  THE ATTENTION AS A FUNCTION OF ITS FIVE ARRAYS, at the extended reals: queries [32, 8, 2048, 128], latent keys and context
  keys, latent values and context values. The values of two neighbouring heads lie in one block of 128 rows: head `2 * p` in
  the first 64 rows of pair `p`, head `2 * p + 1` in the last 64.
-/
module

public import proofs.«01_k».proof.Proof.Softmax
public import Idealize.ShloMosaic.Lib.Pointwise

@[expose] public section

noncomputable section

namespace Cert.Attention

open Idealize.ShloMosaic Idealize.ShloMosaic.Pointwise Cert.Softmax

/-- The index type of an array of rank four. -/
abbrev Ix (a b c d : Nat) := (⟨4, ![a, b, c, d]⟩ : Shape).Idx

variable (q : Ix 32 8 2048 128 → EReal) (kl : Ix 32 8 2048 128 → EReal) (kc : Ix 32 8 256 128 → EReal)
  (vl : Ix 32 4 128 2048 → EReal) (vc : Ix 32 4 128 256 → EReal)

/-- The score of latent key `k` against query `j`, in head `h` of sample `b`. -/
def latent (b : Fin 32) (h : Fin 8) (j : Fin 2048) (k : Fin 2048) : EReal := ∑ d : Fin 128, kl (ix4 b h k d) * q (ix4 b h j d)

/-- The score of context key `k` against query `j`, in head `h` of sample `b`. -/
def context (b : Fin 32) (h : Fin 8) (j : Fin 2048) (k : Fin 256) : EReal := ∑ d : Fin 128, kc (ix4 b h k d) * q (ix4 b h j d)

/-- The head whose values row `r` of pair `p` holds. -/
def headOf (p : Fin 4) (r : Fin 128) : Fin 8 := ⟨2 * p.val + r.val / 64, by omega⟩

/-- The attention's result: the mean of a row of values over all the keys, weighted by two to the power of the scores. -/
def mean (b : Fin 32) (p : Fin 4) (r : Fin 128) (j : Fin 2048) : EReal :=
  soft (latent q kl b (headOf p r) j) (context q kc b (headOf p r) j) (fun k => vl (ix4 b p r k)) (fun k => vc (ix4 b p r k))

/-- The result array. -/
def out (i : Ix 32 4 128 2048) : EReal := mean q kl kc vl vc (i 0) (i 1) (i 2) (i 3)

end Cert.Attention

end
-- ==== Proof.ArrayValue.lean ====
/-
  THE KERNEL'S RESULT ARRAY, at the extended reals and finite arguments: the attention of its five arguments. Grid point `t`
  takes sample `t / 2` and the queries `1024 * (t % 2) …`; its blocks of keys and values are the whole sample's. What it
  writes back is its block of `Attention.out`, and the blocks cover the array.
-/
module

public import proofs.«01_k».proof.Proof.BlockValue
public import proofs.«01_k».proof.Proof.Attention
public import Idealize.ShloMosaic.Lib.Pipeline.Value

@[expose] public section

set_option maxRecDepth 16384
noncomputable section

namespace Cert.KernelIdeal.Attn

open Cert.KernelIdeal Cert.KernelIdeal.Gen Cert.Softmax
open Idealize.ShloMosaic Idealize.ShloMosaic.TcCoe Idealize.ShloMosaic.Tactic Idealize.ShloMosaic.Pointwise Idealize.SL.Sem

variable (m : (ℓ : Loc nD τ sig) → Buf (Elt Ideal) ℓ) (ρ : Dev nD → PrngReg)

/-! ## Where the blocks lie -/

/-- The query block and the result block of point `t`, by their block indices. -/
theorem index0 : ∀ t : Fin cfg0.N, win0_0.index t (0 : Fin 4) = t.val / 2 ∧ win0_0.index t (1 : Fin 4) = 0
    ∧ win0_0.index t (2 : Fin 4) = t.val % 2 ∧ win0_0.index t (3 : Fin 4) = 0 := (by decide +kernel : ∀ t : Fin grid0.N, _)
theorem index1 : ∀ t : Fin cfg0.N, win0_1.index t (0 : Fin 4) = t.val / 2 ∧ win0_1.index t (1 : Fin 4) = 0
    ∧ win0_1.index t (2 : Fin 4) = 0 ∧ win0_1.index t (3 : Fin 4) = 0 := (by decide +kernel : ∀ t : Fin grid0.N, _)
theorem index2 : ∀ t : Fin cfg0.N, win0_2.index t (0 : Fin 4) = t.val / 2 ∧ win0_2.index t (1 : Fin 4) = 0
    ∧ win0_2.index t (2 : Fin 4) = 0 ∧ win0_2.index t (3 : Fin 4) = 0 := (by decide +kernel : ∀ t : Fin grid0.N, _)
theorem index3 : ∀ t : Fin cfg0.N, win0_3.index t (0 : Fin 4) = t.val / 2 ∧ win0_3.index t (1 : Fin 4) = 0
    ∧ win0_3.index t (2 : Fin 4) = 0 ∧ win0_3.index t (3 : Fin 4) = 0 := (by decide +kernel : ∀ t : Fin grid0.N, _)
theorem index4 : ∀ t : Fin cfg0.N, win0_4.index t (0 : Fin 4) = t.val / 2 ∧ win0_4.index t (1 : Fin 4) = 0
    ∧ win0_4.index t (2 : Fin 4) = 0 ∧ win0_4.index t (3 : Fin 4) = 0 := (by decide +kernel : ∀ t : Fin grid0.N, _)
theorem index5 : ∀ t : Fin cfg0.N, win0_5.index t (0 : Fin 4) = t.val / 2 ∧ win0_5.index t (1 : Fin 4) = 0
    ∧ win0_5.index t (2 : Fin 4) = 0 ∧ win0_5.index t (3 : Fin 4) = t.val % 2 := (by decide +kernel : ∀ t : Fin grid0.N, _)

theorem t_lt (t : Fin cfg0.N) : t.val < 64 := lt_of_lt_of_eq t.isLt Gen.N_0

/-- The sample of a grid point. -/
def sample (t : Fin cfg0.N) : Fin 32 := ⟨t.val / 2, by have := t_lt t; omega⟩
/-- The query that place `j` of a point's block is. -/
def query (t : Fin cfg0.N) (j : Fin 1024) : Fin 2048 := ⟨1024 * (t.val % 2) + j.val, by omega⟩

theorem iblk0_apply (c : Dev nD) (t : Fin cfg0.N) (h : Fin 8) (j : Fin 1024) (d : Fin 128) :
    iblk m c 0 t (ix4 0 h j d) = V m c main_arg0 (ix4 (sample t) h (query t j) d) := by
  obtain ⟨e0, e1, e2, e3⟩ := index0 t
  exact congrArg (V m c main_arg0) (idx4_of_val _ _ _ _ _
    (by show win0_0.index t (0 : Fin 4) * 1 + 1 * 0 = t.val / 2; omega)
    (by show win0_0.index t (1 : Fin 4) * 8 + 1 * h.val = h.val; omega)
    (by show win0_0.index t (2 : Fin 4) * 1024 + 1 * j.val = 1024 * (t.val % 2) + j.val; omega)
    (by show win0_0.index t (3 : Fin 4) * 128 + 1 * d.val = d.val; omega))

theorem iblk1_apply (c : Dev nD) (t : Fin cfg0.N) (h : Fin 8) (k : Fin 2048) (d : Fin 128) :
    iblk m c 1 t (ix4 0 h k d) = V m c main_arg1 (ix4 (sample t) h k d) := by
  obtain ⟨e0, e1, e2, e3⟩ := index1 t
  exact congrArg (V m c main_arg1) (idx4_of_val _ _ _ _ _
    (by show win0_1.index t (0 : Fin 4) * 1 + 1 * 0 = t.val / 2; omega)
    (by show win0_1.index t (1 : Fin 4) * 8 + 1 * h.val = h.val; omega)
    (by show win0_1.index t (2 : Fin 4) * 2048 + 1 * k.val = k.val; omega)
    (by show win0_1.index t (3 : Fin 4) * 128 + 1 * d.val = d.val; omega))

theorem iblk2_apply (c : Dev nD) (t : Fin cfg0.N) (h : Fin 8) (k : Fin 256) (d : Fin 128) :
    iblk m c 2 t (ix4 0 h k d) = V m c main_arg2 (ix4 (sample t) h k d) := by
  obtain ⟨e0, e1, e2, e3⟩ := index2 t
  exact congrArg (V m c main_arg2) (idx4_of_val _ _ _ _ _
    (by show win0_2.index t (0 : Fin 4) * 1 + 1 * 0 = t.val / 2; omega)
    (by show win0_2.index t (1 : Fin 4) * 8 + 1 * h.val = h.val; omega)
    (by show win0_2.index t (2 : Fin 4) * 256 + 1 * k.val = k.val; omega)
    (by show win0_2.index t (3 : Fin 4) * 128 + 1 * d.val = d.val; omega))

theorem iblk3_apply (c : Dev nD) (t : Fin cfg0.N) (p : Fin 4) (r : Fin 128) (k : Fin 2048) :
    iblk m c 3 t (ix4 0 p r k) = V m c main_arg3 (ix4 (sample t) p r k) := by
  obtain ⟨e0, e1, e2, e3⟩ := index3 t
  exact congrArg (V m c main_arg3) (idx4_of_val _ _ _ _ _
    (by show win0_3.index t (0 : Fin 4) * 1 + 1 * 0 = t.val / 2; omega)
    (by show win0_3.index t (1 : Fin 4) * 4 + 1 * p.val = p.val; omega)
    (by show win0_3.index t (2 : Fin 4) * 128 + 1 * r.val = r.val; omega)
    (by show win0_3.index t (3 : Fin 4) * 2048 + 1 * k.val = k.val; omega))

theorem iblk4_apply (c : Dev nD) (t : Fin cfg0.N) (p : Fin 4) (r : Fin 128) (k : Fin 256) :
    iblk m c 4 t (ix4 0 p r k) = V m c main_arg4 (ix4 (sample t) p r k) := by
  obtain ⟨e0, e1, e2, e3⟩ := index4 t
  exact congrArg (V m c main_arg4) (idx4_of_val _ _ _ _ _
    (by show win0_4.index t (0 : Fin 4) * 1 + 1 * 0 = t.val / 2; omega)
    (by show win0_4.index t (1 : Fin 4) * 4 + 1 * p.val = p.val; omega)
    (by show win0_4.index t (2 : Fin 4) * 128 + 1 * r.val = r.val; omega)
    (by show win0_4.index t (3 : Fin 4) * 256 + 1 * k.val = k.val; omega))

/-- Where an index of the result block lies in the result array. -/
theorem emb5 (t : Fin cfg0.N) (p : Fin 4) (r : Fin 128) (j : Fin 1024) :
    ((cfg0.win 5).blk t).view.emb (ix4 0 p r j : S1x4x128x1024.Idx) = ix4 (sample t) p r (query t j) := by
  obtain ⟨e0, e1, e2, e3⟩ := index5 t
  exact idx4_of_val _ _ _ _ _
    (by show win0_5.index t (0 : Fin 4) * 1 + 1 * 0 = t.val / 2; omega)
    (by show win0_5.index t (1 : Fin 4) * 4 + 1 * p.val = p.val; omega)
    (by show win0_5.index t (2 : Fin 4) * 128 + 1 * r.val = r.val; omega)
    (by show win0_5.index t (3 : Fin 4) * 1024 + 1 * j.val = 1024 * (t.val % 2) + j.val; omega)

/-! ## The result array -/

/-- The attention of the five arrays that device `c` holds. -/
def attn (c : Dev nD) : Vec Ideal S32x4x128x2048 .bf16 :=
  Attention.out (V m c main_arg0) (V m c main_arg1) (V m c main_arg2) (V m c main_arg3) (V m c main_arg4)

/-- Every element of the five arguments is a real number. -/
structure Real (c : Dev nD) : Prop where
  h0 : ∀ i, Fin' (V m c main_arg0 i)
  h1 : ∀ i, Fin' (V m c main_arg1 i)
  h2 : ∀ i, Fin' (V m c main_arg2 i)
  h3 : ∀ i, Fin' (V m c main_arg3 i)
  h4 : ∀ i, Fin' (V m c main_arg4 i)

theorem head_eq (p : Fin 4) (r : Fin 128) : (if r.val < 64 then evenHead p else oddHead p) = Attention.headOf p r := by
  apply Fin.ext
  split
  · show 2 * p.val = 2 * p.val + r.val / 64; omega
  · show 2 * p.val + 1 = 2 * p.val + r.val / 64; omega

theorem latent_eq (c : Dev nD) (t : Fin cfg0.N) (h : Fin 8) (j : Fin 1024) : latScore (iblk m c 0 t) (iblk m c 1 t) h j
    = Attention.latent (V m c main_arg0) (V m c main_arg1) (sample t) h (query t j) :=
  funext fun k => Finset.sum_congr rfl fun d _ => congrArg₂ (· * ·) (iblk1_apply m c t h k d) (iblk0_apply m c t h j d)

theorem context_eq (c : Dev nD) (t : Fin cfg0.N) (h : Fin 8) (j : Fin 1024) : ctxScore (iblk m c 0 t) (iblk m c 2 t) h j
    = Attention.context (V m c main_arg0) (V m c main_arg2) (sample t) h (query t j) :=
  funext fun k => Finset.sum_congr rfl fun d _ => congrArg₂ (· * ·) (iblk2_apply m c t h k d) (iblk0_apply m c t h j d)

/-- An index of the result block by its last three coordinates. -/
theorem block_idx (i : S1x4x128x1024.Idx) : ∃ (p : Fin 4) (r : Fin 128) (j : Fin 1024), i = ix4 0 p r j :=
  ⟨i 1, i 2, i 3, idx4_of_val _ _ _ _ _ (by have h : (i 0).val < 1 := (i 0).isLt; show (i 0).val = 0; omega) rfl rfl rfl⟩

/-- What point `t` leaves in the output's buffer, at finite arguments. -/
theorem block_eq (c : Dev nD) (hr : Real m c) (t : Fin cfg0.N) (i : S1x4x128x1024.Idx) :
    outBlock (iblk m c 0 t) (iblk m c 1 t) (iblk m c 2 t) (iblk m c 3 t) (iblk m c 4 t) i
      = attn m c (((cfg0.win 5).blk t).view.emb i) := by
  obtain ⟨p, r, j, rfl⟩ := block_idx i
  have h0 : ∀ i, Fin' (iblk m c 0 t i) := fun _ => hr.h0 _
  have h1 : ∀ i, Fin' (iblk m c 1 t i) := fun _ => hr.h1 _
  have h2 : ∀ i, Fin' (iblk m c 2 t i) := fun _ => hr.h2 _
  have h3 : ∀ i, Fin' (iblk m c 3 t i) := fun _ => hr.h3 _
  have h4 : ∀ i, Fin' (iblk m c 4 t i) := fun _ => hr.h4 _
  rw [emb5, outBlock_apply _ _ _ _ _ h0 h1 h2 h3 h4,
    head_eq, latent_eq, context_eq]
  simp only [iblk3_apply, iblk4_apply]
  rfl

/-- What point `t` writes back is its block of the attention. -/
theorem flushed_eq (c : Dev nD) (hr : Real m c) (t : Fin cfg0.N) :
    (dats m 0 c).flushed 5 t = ((cfg0.win 5).blk t).view.read (Elt Ideal) (attn m c) := by
  show (cfg0.win 5).cut (grid0.coords t) ((dats m 0 c).after 5 t) = _
  rw [after0_5]
  funext i
  exact block_eq m c hr t i

/-- Every index of the result array is in some point's block. -/
theorem covered (i : S32x4x128x2048.Idx) : ∃ t : Fin cfg0.N, (cfg0.win 5).flush t = true ∧ i ∈ ((cfg0.win 5).blk t).view.set := by
  have l0 : (i 0).val < 32 := (i 0).isLt
  have l3 : (i 3).val < 2048 := (i 3).isLt
  let t : Fin cfg0.N := ⟨2 * (i 0).val + (i 3).val / 1024, lt_of_lt_of_eq (by omega) Gen.N_0.symm⟩
  have e : i = ix4 (sample t) (i 1) (i 2) (query t ⟨(i 3).val % 1024, by omega⟩) :=
    idx4_of_val i _ _ _ _ (by show (i 0).val = (2 * (i 0).val + (i 3).val / 1024) / 2; omega) rfl rfl
      (by show (i 3).val = 1024 * ((2 * (i 0).val + (i 3).val / 1024) % 2) + (i 3).val % 1024; omega)
  have h := ((cfg0.win 5).blk t).view.emb_mem_set (ix4 0 (i 1) (i 2) ⟨(i 3).val % 1024, by omega⟩ : S1x4x128x1024.Idx)
  rw [emb5 t (i 1) (i 2)] at h
  exact ⟨t, flush0_5 _, e ▸ h⟩

/-- The result array after the run. -/
theorem final (c : Dev nD) (hr : Real m c) : (dats m 0 c).arrAt 5 cfg0.N = attn m c :=
  (dats m 0 c).arrAt_eq_of_cover 5 (attn m c) (fun t _ => flushed_eq m c hr t) covered

/-- At finite arguments every run ends with the attention in the result array, and the arguments as they were. -/
theorem run (hr : ∀ c, Real m c) : θ_run defs (onTc (τ := τ) (main (F := Ideal))) ⟨m, fun _ => 0, ρ⟩ (fun r => ∀ c : Dev nD,
      r.2.mem ((c.tc : Thread nD τ).loc main_v0) = attn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final m c (hr c)), h.2 c⟩)
    (θ_run_and (run_main m ρ) (unchanged m ρ))

end Cert.KernelIdeal.Attn

end
-- ==== Proof.RefValue.lean ====
/-
  THE REFERENCE'S RESULT, at the extended reals and finite arguments: the attention of its five arguments. The reference joins
  latent and context keys (and values) into 2304 of them, takes a softmax to the base `e` of the scores times `log 2`, and
  mixes the values; by `soft_exp` that is the mean with weights two to the power of the scores.
-/
module

public import proofs.«01_k».proof.Proof.Attention
public import proofs.«01_k».proof.Proof.Gen.ReferenceIdeal.Run
public import proofs.«01_k».proof.Proof.Gen.ReferenceIdeal.Read
public import Idealize.ShloMosaic.Lib.KernelVsHost

@[expose] public section

set_option maxRecDepth 16384
noncomputable section

namespace Cert.ReferenceIdeal.Attn

open Cert.ReferenceIdeal Cert.ReferenceIdeal.Gen Cert.ReferenceIdeal.Read Cert.Softmax
open Idealize.ShloMosaic Idealize.ShloMosaic.TcCoe Idealize.ShloMosaic.Pointwise Idealize.SL.Sem

variable (x0 : Vec Ideal S32x8x2048x128 .bf16) (x1 : Vec Ideal S32x8x2048x128 .bf16) (x2 : Vec Ideal S32x8x256x128 .bf16)
  (x3 : Vec Ideal S32x4x128x2048 .bf16) (x4 : Vec Ideal S32x4x128x256 .bf16)

/-- Key `k` of the joined keys: a latent key, -/
theorem keys_left (b : Fin 32) (h : Fin 8) (k : Fin 2048) (d : Fin 128) :
    val_main_v1 (F := Ideal) x1 x2 (ix4 b h ⟨k.val, by omega⟩ d) = x1 (ix4 b h k d) := by
  unfold val_main_v1
  pointwise
/-- or a context key. -/
theorem keys_right (b : Fin 32) (h : Fin 8) (k : Fin 256) (d : Fin 128) :
    val_main_v1 (F := Ideal) x1 x2 (ix4 b h ⟨2048 + k.val, by omega⟩ d) = x2 (ix4 b h k d) := by
  unfold val_main_v1
  pointwise
theorem vals_left (b : Fin 32) (p : Fin 4) (r : Fin 128) (k : Fin 2048) :
    val_main_v3 (F := Ideal) x3 x4 (ix4 b p r ⟨k.val, by omega⟩) = x3 (ix4 b p r k) := by
  unfold val_main_v3
  pointwise
theorem vals_right (b : Fin 32) (p : Fin 4) (r : Fin 128) (k : Fin 256) :
    val_main_v3 (F := Ideal) x3 x4 (ix4 b p r ⟨2048 + k.val, by omega⟩) = x4 (ix4 b p r k) := by
  unfold val_main_v3
  pointwise

theorem ix4_ext {n0 n1 n2 n3 : Nat} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d := by
  funext k; apply Fin.ext
  match k with
  | ⟨0, _⟩ => exact h0
  | ⟨1, _⟩ => exact h1
  | ⟨2, _⟩ => exact h2
  | ⟨3, _⟩ => exact h3

/-- The score of joined key `k`. -/
def score (b : Fin 32) (h : Fin 8) (j : Fin 2048) (k : Fin 2304) : EReal := val_main_v6 (F := Ideal) x0 x1 x2 (ix4 b h j k)

theorem score_sum (b : Fin 32) (h : Fin 8) (j : Fin 2048) (k : Fin 2304) :
    score x0 x1 x2 b h j k = ∑ d : Fin 128, val_main_v1 (F := Ideal) x1 x2 (ix4 b h k d) * x0 (ix4 b h j d) := by
  unfold score
  rw [val_main_v6_apply]
  refine Finset.sum_congr rfl fun d _ => ?_
  rw [mul_comm]
  exact congrArg₂ (· * ·) (congrArg (val_main_v1 (F := Ideal) x1 x2) (ix4_ext _ b h k d rfl rfl rfl rfl))
    (congrArg x0 (ix4_ext _ b h j d rfl rfl rfl rfl))

theorem score_left (b : Fin 32) (h : Fin 8) (j : Fin 2048) (k : Fin 2048) :
    score x0 x1 x2 b h j ⟨k.val, by omega⟩ = Attention.latent x0 x1 b h j k := by
  rw [score_sum]
  exact Finset.sum_congr rfl fun d _ => congrArg (· * _) (keys_left x1 x2 b h k d)

theorem score_right (b : Fin 32) (h : Fin 8) (j : Fin 2048) (k : Fin 256) :
    score x0 x1 x2 b h j ⟨2048 + k.val, by omega⟩ = Attention.context x0 x2 b h j k := by
  rw [score_sum]
  exact Finset.sum_congr rfl fun d _ => congrArg (· * _) (keys_right x1 x2 b h k d)

/-- Below 2048 or not: a property of all latent keys and of all context keys holds of all the keys. -/
theorem joined_cases {P : Fin 2304 → Prop} (hl : ∀ k : Fin 2048, P ⟨k.val, by omega⟩) (hr : ∀ k : Fin 256, P ⟨2048 + k.val, by omega⟩) (k : Fin 2304) : P k := by
  by_cases hk : k.val < 2048
  · exact hl ⟨k.val, hk⟩
  · have e : k = ⟨2048 + (k.val - 2048), by omega⟩ := Fin.ext (by show k.val = 2048 + (k.val - 2048); omega)
    rw [e]; exact hr ⟨k.val - 2048, by omega⟩

/-- The factor that turns a score to the base two into one to the base `e`. -/
theorem factor (i : S32x8x2048x2304.Idx) : val_main_v8 (F := Ideal) i = ((Real.log 2 : ℝ) : EReal) := by
  rw [val_main_v8_apply, val_main_v7_apply, val_main_cst_apply]
  have h2 : Ideal.ofBits .f32 0x40000000#32 = ((2 : ℝ) : EReal) := by
    simp [Ideal.ofBits, Ideal.ieee]
    rw [← EReal.coe_mul]; norm_num
  show Ideal.log (Ideal.ofBits .f32 0x40000000#32) = _
  rw [h2]
  show (if (2 : ℝ) ≤ 0 then (⊥ : EReal) else ((Real.log 2 : ℝ) : EReal)) = _
  rw [if_neg (by norm_num)]

theorem bot_bits : Ideal.ofBits .f32 0xFF800000#32 = ⊥ := by simp [Ideal.ofBits, Ideal.ieee]

/-- The score that is taken off before the exponential. -/
def off (b : Fin 32) (h : Fin 8) (j : Fin 2048) : EReal := val_main_v12 (F := Ideal) x0 x1 x2 (ix3 b h j)

theorem weight (b : Fin 32) (h : Fin 8) (j : Fin 2048) (k : Fin 2304) : val_main_v16 (F := Ideal) x0 x1 x2 (ix4 b h j k)
    = Ideal.exp (score x0 x1 x2 b h j k * ((Real.log 2 : ℝ) : EReal) - off x0 x1 x2 b h j) := by
  rw [val_main_v16_apply, val_main_v15_apply, val_main_v9_apply, factor, val_main_v14_apply, val_main_v13_apply]
  have e : idx_main_v13 (idx_main_v14 (ix4 b h j k)) = ix3 b h j := by
    funext a; apply Fin.ext
    match a with
    | ⟨0, _⟩ => rfl
    | ⟨1, _⟩ => rfl
    | ⟨2, _⟩ => rfl
  rw [e]
  rfl

theorem total (b : Fin 32) (h : Fin 8) (j : Fin 2048) (k : Fin 2304) : val_main_v19 (F := Ideal) x0 x1 x2 (ix4 b h j k)
    = ∑ k, Ideal.exp (score x0 x1 x2 b h j k * ((Real.log 2 : ℝ) : EReal) - off x0 x1 x2 b h j) := by
  rw [val_main_v19_apply, val_main_v18_apply, val_main_v17_apply, val_main_cst_2_apply]
  show Ideal.ofBits .f32 0#32 + _ = _
  rw [Ideal.ofBits_zero_f32, zero_add]
  refine Finset.sum_congr rfl fun k' _ => ?_
  rw [← weight]
  exact congrArg _ (ix4_ext _ b h j k' rfl rfl rfl rfl)

theorem result (b : Fin 32) (p : Fin 4) (r : Fin 128) (j : Fin 2048) : val_main_v23 (F := Ideal) x0 x1 x2 x3 x4 (ix4 b p r j)
    = ∑ k : Fin 2304, val_main_v3 (F := Ideal) x3 x4 (ix4 b p r k)
        * Ideal.div (Ideal.exp (score x0 x1 x2 b (Attention.headOf p r) j k * ((Real.log 2 : ℝ) : EReal) - off x0 x1 x2 b (Attention.headOf p r) j))
            (∑ k, Ideal.exp (score x0 x1 x2 b (Attention.headOf p r) j k * ((Real.log 2 : ℝ) : EReal) - off x0 x1 x2 b (Attention.headOf p r) j)) := by
  rw [val_main_v23_apply, val_main_v22_apply]
  show val_main_v21 (F := Ideal) x0 x1 x2 x3 x4 _ = _
  have e : idx_main_v22 (ix4 b p r j) = ix4 b (Attention.headOf p r) (⟨r.val % 64, by omega⟩ : Fin 64) j :=
    ix4_ext _ _ _ _ _
      (by show (((b.val * 4 + p.val) * 128 + r.val) * 2048 + j.val) / 1048576 = b.val; omega)
      (by show (((b.val * 4 + p.val) * 128 + r.val) * 2048 + j.val) / 131072 % 8 = 2 * p.val + r.val / 64; omega)
      (by show (((b.val * 4 + p.val) * 128 + r.val) * 2048 + j.val) / 2048 % 64 = r.val % 64; omega)
      (by show (((b.val * 4 + p.val) * 128 + r.val) * 2048 + j.val) % 2048 = j.val; omega)
  rw [e, val_main_v21_apply]
  refine Finset.sum_congr rfl fun k _ => congrArg₂ (· * ·) ?_ ?_
  · rw [val_main_v5_apply, val_main_v4_apply]
    show val_main_v3 (F := Ideal) x3 x4 _ = _
    refine congrArg _ (ix4_ext _ _ _ _ _ ?_ ?_ ?_ ?_)
    · show (((b.val * 8 + (2 * p.val + r.val / 64)) * 64 + r.val % 64) * 2304 + k.val) / 1179648 = b.val; omega
    · show (((b.val * 8 + (2 * p.val + r.val / 64)) * 64 + r.val % 64) * 2304 + k.val) / 294912 % 4 = p.val; omega
    · show (((b.val * 8 + (2 * p.val + r.val / 64)) * 64 + r.val % 64) * 2304 + k.val) / 2304 % 128 = r.val; omega
    · show (((b.val * 8 + (2 * p.val + r.val / 64)) * 64 + r.val % 64) * 2304 + k.val) % 2304 = k.val; omega
  · have e' : ridx_main_v21 (ix4 b (Attention.headOf p r) (⟨r.val % 64, by omega⟩ : Fin 64) j) k = ix4 b (Attention.headOf p r) j k :=
      ix4_ext _ _ _ _ _ rfl rfl rfl rfl
    rw [e', val_main_v20_apply, weight, total]
    rfl

section Finite
variable (h0 : ∀ i, Fin' (x0 i)) (h1 : ∀ i, Fin' (x1 i)) (h2 : ∀ i, Fin' (x2 i)) (h3 : ∀ i, Fin' (x3 i)) (h4 : ∀ i, Fin' (x4 i))
include h0 h1 h2

theorem score_real (b : Fin 32) (h : Fin 8) (j : Fin 2048) (k : Fin 2304) : Fin' (score x0 x1 x2 b h j k) :=
  joined_cases (P := fun k => Fin' (score x0 x1 x2 b h j k)) (fun k => by rw [score_left]; exact Fin'.sum fun _ => (h1 _).mul (h0 _))
    (fun k => by rw [score_right]; exact Fin'.sum fun _ => (h2 _).mul (h0 _)) k

theorem every_real (i : S32x8x2048x2304.Idx) : Fin' (val_main_v6 (F := Ideal) x0 x1 x2 i) := by
  obtain ⟨b, h, j, k, rfl⟩ : ∃ (b : Fin 32) (h : Fin 8) (j : Fin 2048) (k : Fin 2304), i = ix4 b h j k :=
    ⟨i 0, i 1, i 2, i 3, ix4_ext _ _ _ _ _ rfl rfl rfl rfl⟩
  exact score_real x0 x1 x2 h0 h1 h2 b h j k

theorem off_real (b : Fin 32) (h : Fin 8) (j : Fin 2048) : Fin' (off x0 x1 x2 b h j) := by
  unfold off
  rw [val_main_v12_apply, val_main_v11_apply, val_main_cst_1_apply]
  show Fin' (max (Ideal.ofBits .f32 0xFF800000#32) _)
  rw [bot_bits, max_eq_right bot_le]
  unfold val_main_v10 val_main_cst_0
  rw [hostReduce_maximumf_eq_multiReduction _ _ _ _ (by decide) (by decide) (by decide), Ideal.multiReduction_maximumf_single]
  show Fin' (Finset.fold max (Ideal.ofBits .f32 0xFF800000#32) _ _)
  rw [bot_bits]
  refine fold_max_real (ι := Fin 2304) _ fun k => ?_
  show Fin' (val_main_v9 (F := Ideal) x0 x1 x2 _)
  rw [val_main_v9_apply, factor]
  exact Fin'.mul (every_real x0 x1 x2 h0 h1 h2 _) ⟨_, rfl⟩

include h3 h4

/-- At finite arguments the reference's result is the attention. -/
theorem value (i : S32x4x128x2048.Idx) : val_main_v23 (F := Ideal) x0 x1 x2 x3 x4 i = Attention.out x0 x1 x2 x3 x4 i := by
  obtain ⟨b, p, r, j, rfl⟩ : ∃ (b : Fin 32) (p : Fin 4) (r : Fin 128) (j : Fin 2048), i = ix4 b p r j :=
    ⟨i 0, i 1, i 2, i 3, ix4_ext _ _ _ _ _ rfl rfl rfl rfl⟩
  rw [result, soft_exp 2048 256 rfl (score x0 x1 x2 b (Attention.headOf p r) j) (fun k => val_main_v3 (F := Ideal) x3 x4 (ix4 b p r k)) _ _ rfl
    (score_real x0 x1 x2 h0 h1 h2 b (Attention.headOf p r) j)
    (joined_cases (fun k => by rw [vals_left]; exact h3 _) (fun k => by rw [vals_right]; exact h4 _))
    (off_real x0 x1 x2 h0 h1 h2 b (Attention.headOf p r) j)]
  simp only [score_left, score_right, vals_left, vals_right]
  rfl

end Finite

end Cert.ReferenceIdeal.Attn

end
-- ==== Proof.Finite.lean ====
/-
  WHAT THE PRECONDITION SAYS: `finite` asks of each of the five arguments that the absolute value of every element be below
  +∞, so every element is a real number.
-/
module

public import proofs.«01_k».proof.Proof.Softmax
public import proofs.«01_k».proof.Proof.Gen.Pre_finite
public import Idealize.ShloMosaic.Lib.ReduceAll

@[expose] public section

noncomputable section

namespace Cert.Pre_finite

open Idealize.ShloMosaic Cert.Softmax

instance : Subsingleton S_.Idx := ⟨fun a b => funext fun k => k.elim0⟩

/-- An extended real whose absolute value is below +∞ is a real number. -/
theorem real_of_abs_lt (x : EReal) (h : max x (-x) < ⊤) : Fin' x := by
  induction x using EReal.rec with
  | bot => simp at h
  | coe r => exact ⟨r, rfl⟩
  | top => simp at h

/-- One argument's check. -/
theorem checked {s : Shape} {axes : List (Fin s.rank)} (x : FVec Ideal s .bf16) (hw : FTy.bits .bf16 < FTy.bits .f32)
    (hb : S_.BroadcastsInDim s (![] : Fin 0 → Fin s.rank)) (hr : s.ReducesTo axes S_) (hu : 0 < S_.numel) (j : S_.Idx)
    (e : Host.reduce IntOp.andi (cmpf (F := Ideal) .olt (Host.absf (extf .f32 x hw)) (broadcastInDim s ![] hb (constant S_ .f32 0x7F800000#32)))
      (constantI S_ 1 1#1) hr hu j = 1#1) (i : s.Idx) : Fin' (x i) := by
  have h := Host.reduce_andi_all _ _ hr hu j e i
  have ht : Ideal.ofBits .f32 0x7F800000#32 = ⊤ := by simp [Ideal.ofBits, Ideal.ieee]
  change FloatOps.cmpf (F := Ideal) .olt (max (x i) (-(x i)) : EReal) (Ideal.ofBits .f32 0x7F800000#32) = 1#1 at h
  rw [ht, Ideal.cmpf_def] at h
  refine real_of_abs_lt _ ?_
  by_contra hn
  simp [hn, Ideal.cmp] at h

/-- So at arguments that pass every element of all five is a real number. -/
theorem finite (x0 x1 : FVec Ideal S32x8x2048x128 .bf16) (x2 : FVec Ideal S32x8x256x128 .bf16)
    (x3 : FVec Ideal S32x4x128x2048 .bf16) (x4 : FVec Ideal S32x4x128x256 .bf16) (h : fn (F := Ideal) x0 x1 x2 x3 x4 = fun _ => 1#1) :
    (∀ i, Fin' (x0 i)) ∧ (∀ i, Fin' (x1 i)) ∧ (∀ i, Fin' (x2 i)) ∧ (∀ i, Fin' (x3 i)) ∧ (∀ i, Fin' (x4 i)) := by
  have e := congrFun h (Shape.Idx.first Gen.h_S_)
  unfold fn fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨checked x0 _ _ _ _ _ e0, checked x1 _ _ _ _ _ e1, checked x2 _ _ _ _ _ e2, checked x3 _ _ _ _ _ e3, checked x4 _ _ _ _ _ e4⟩

end Cert.Pre_finite

end
-- ==== Proof.Projection.lean ====
/-
  THE LATENT PROJECTION AS A FUNCTION OF ONE TOKEN, at the extended reals. Everything the projection leaves of a token (its
  queries, keys and values of eight heads, its Fourier channels and its two gates) is a function of the token's own row, of its
  sample's scale and shift, of the weights and of the token's row of the rotation tables: a `Token`. The six result arrays are
  this read at every token (`queries` … `gateB`).
-/
module

public import Idealize.ShloMosaic.Lib.Pointwise

@[expose] public section

noncomputable section

namespace Cert.Projection

open Idealize.ShloMosaic Idealize.ShloMosaic.Pointwise

/-- The number that the mean of the squares is raised by before the root. -/
def eps : EReal := Ideal.ofBits .f32 0x358637BD#32

/-- The factor that makes a mean of a sum. -/
def per (n : ℝ) : EReal := ((1 / n : ℝ) : EReal)

/-- Entry `j` of a row over the root mean square of the row, the mean taken as the sum times `c`. -/
def rms {n : Nat} (c : EReal) (y : Fin n → EReal) (j : Fin n) : EReal := y j * Ideal.rsqrt ((∑ k, y k * y k) * c + eps)

/-- Lane `l` turned by half a slot of 128 lanes. -/
def half (l : Fin 128) : Fin 128 := ⟨(l.val + 64) % 128, by omega⟩

/-- Column `l` of head `h` in a row of eight slots. -/
def slot (h : Fin 8) (l : Fin 128) : Fin 1024 := ⟨128 * h.val + l.val, by omega⟩

/-- A head of a token: normalized, scaled by `g`, rotated by the tables' rows `c` and `s`, with `a` added. -/
def head (g a c s y : Fin 128 → EReal) (l : Fin 128) : EReal :=
  rms (per 96) y l * g l * c l + rms (per 96) y (half l) * g (half l) * s l + a l

/-- The logistic function. -/
def sigmoid (x : EReal) : EReal := Ideal.div 1 (1 + Ideal.exp (-x))

/-- A token: its row, and what the projection takes beside it. -/
@[ext] structure Token where
  x : Fin 1024 → EReal
  gain : Fin 1024 → EReal
  scale : Fin 1024 → EReal
  shift : Fin 1024 → EReal
  win : Fin 1024 → Fin 3328 → EReal
  qaGain : Fin 384 → EReal
  kvaGain : Fin 256 → EReal
  wq : Fin 384 → Fin 1024 → EReal
  wk : Fin 256 → Fin 1024 → EReal
  wv : Fin 256 → Fin 512 → EReal
  qGain : Fin 128 → EReal
  kGain : Fin 128 → EReal
  qAdd : Fin 128 → EReal
  kAdd : Fin 128 → EReal
  cos : Fin 128 → EReal
  sin : Fin 128 → EReal

namespace Token

variable (k : Token)

/-- The token normalized and modulated. -/
def hidden (d : Fin 1024) : EReal := rms (per 1024) k.x d * k.gain d * (1 + k.scale d) + k.shift d
/-- Column `j` of its combined input projection. -/
def input (j : Fin 3328) : EReal := ∑ d, k.hidden d * k.win d j
/-- Its query latent, normalized. -/
def qLatent (e : Fin 384) : EReal := rms (per 384) (fun e => k.input ⟨e.val, by omega⟩) e * k.qaGain e
/-- Its key and value latent, normalized. -/
def kvLatent (e : Fin 256) : EReal := rms (per 256) (fun e => k.input ⟨512 + e.val, by omega⟩) e * k.kvaGain e
/-- Head `h` of its query before the norm, -/
def rawQuery (h : Fin 8) (l : Fin 128) : EReal := ∑ e, k.qLatent e * k.wq e (slot h l)
/-- and of its key: the part from the latent and the rotary part that all heads share. -/
def rawKey (h : Fin 8) (l : Fin 128) : EReal := ∑ e, k.kvLatent e * k.wk e (slot h l) + k.input ⟨384 + l.val, by omega⟩
/-- Head `h` of its query. -/
def query (h : Fin 8) (l : Fin 128) : EReal := head k.qGain k.qAdd k.cos k.sin (k.rawQuery h) l
/-- Head `h` of its key. -/
def key (h : Fin 8) (l : Fin 128) : EReal := head k.kGain k.kAdd k.cos k.sin (k.rawKey h) l
/-- Column `j` of its values. -/
def value (j : Fin 512) : EReal := ∑ e, k.kvLatent e * k.wv e j
/-- Its Fourier channel `j`. -/
def fourier (j : Fin 512) : EReal := k.input ⟨768 + j.val, by omega⟩
/-- Channel `j` of its first gate, -/
def gateA (j : Fin 1024) : EReal := sigmoid (k.input ⟨1280 + j.val, by omega⟩)
/-- and of its second. -/
def gateB (j : Fin 1024) : EReal := sigmoid (k.input ⟨2304 + j.val, by omega⟩)

end Token

/-- The index types of arrays of rank two, three and four. -/
abbrev Ix2 (a b : Nat) := (⟨2, ![a, b]⟩ : Shape).Idx
abbrev Ix3 (a b c : Nat) := (⟨3, ![a, b, c]⟩ : Shape).Idx
abbrev Ix4 (a b c d : Nat) := (⟨4, ![a, b, c, d]⟩ : Shape).Idx

/-- Token `t` of sample `b` of arrays with `B` samples of `T` tokens. -/
def token {B T : Nat} (x : Ix3 B T 1024 → EReal) (g : Ix2 1 1024 → EReal) (sc sh : Ix3 B 1 1024 → EReal) (w : Ix2 1024 3328 → EReal)
    (qag : Ix2 1 384 → EReal) (kvag : Ix2 1 256 → EReal) (wq : Ix2 384 1024 → EReal) (wk : Ix2 256 1024 → EReal)
    (wv : Ix2 256 512 → EReal) (qg kg qa ka : Ix2 1 128 → EReal) (cos sin : Ix2 T 128 → EReal) (b : Fin B) (t : Fin T) : Token where
  x d := x (ix3 b t d)
  gain d := g (ix2 0 d)
  scale d := sc (ix3 b 0 d)
  shift d := sh (ix3 b 0 d)
  win d j := w (ix2 d j)
  qaGain e := qag (ix2 0 e)
  kvaGain e := kvag (ix2 0 e)
  wq e j := wq (ix2 e j)
  wk e j := wk (ix2 e j)
  wv e j := wv (ix2 e j)
  qGain l := qg (ix2 0 l)
  kGain l := kg (ix2 0 l)
  qAdd l := qa (ix2 0 l)
  kAdd l := ka (ix2 0 l)
  cos l := cos (ix2 t l)
  sin l := sin (ix2 t l)

variable {B T : Nat} (tok : Fin B → Fin T → Token)

/-- The result arrays: queries and keys by sample, head, token and lane; -/
def queries (i : Ix4 B 8 T 128) : EReal := (tok (i 0) (i 2)).query (i 1) (i 3)
def keys (i : Ix4 B 8 T 128) : EReal := (tok (i 0) (i 2)).key (i 1) (i 3)
/-- values by sample, pair of heads, row of the pair and token; -/
def values (i : Ix4 B 4 128 T) : EReal := (tok (i 0) (i 3)).value ⟨128 * (i 1).val + (i 2).val, by
  have h1 : (i 1).val < 4 := (i 1).isLt
  have h2 : (i 2).val < 128 := (i 2).isLt
  omega⟩
/-- Fourier channels and gates by sample, token and channel. -/
def fouriers (i : Ix3 B T 512) : EReal := (tok (i 0) (i 1)).fourier (i 2)
def gatesA (i : Ix3 B T 1024) : EReal := (tok (i 0) (i 1)).gateA (i 2)
def gatesB (i : Ix3 B T 1024) : EReal := (tok (i 0) (i 1)).gateB (i 2)

end Cert.Projection

end
-- ==== Proof.ProjBlock.lean ====
/-
  WHAT A GRID POINT OF THE PROJECTION LEAVES, at the extended reals. Every value that the body computes for row `r` of its block
  is the part of `Projection.Token` it stands for, read at the token that the point's blocks give the row; the eight heads of the
  queries and of the keys are one tile (`headTile`) over the eight slots of a product. Each result block is the array of
  `Projection` over the block's tokens.
-/
module

public import proofs.«01_k».proof.Proof.Projection
public import proofs.«01_k».proof.Proof.Gen.ProjIdeal.Frame
public import Idealize.ShloMosaic.PureOps.IdealRules
public import Idealize.ShloMosaic.Lib.Pointwise
public import Idealize.ShloMosaic.Lib.Pipeline.ValueKit
public import Idealize.ShloMosaic.Lib.Pipeline.Value

@[expose] public section

set_option maxRecDepth 16384
noncomputable section

namespace Cert.ProjIdeal.Lat

open Cert.ProjIdeal Cert.ProjIdeal.Gen Cert.Projection
open Idealize.ShloMosaic Idealize.ShloMosaic.TcCoe Idealize.ShloMosaic.Tactic Idealize.ShloMosaic.Pointwise

/-! ## The reciprocals of the norms -/

theorem per_1024 : Ideal.ofBits .f32 0x3A800000#32 = per 1024 := by
  simp [Ideal.ofBits, Ideal.ieee, per]
  rw [← EReal.coe_mul]
  norm_num
theorem per_256 : Ideal.ofBits .f32 0x3B800000#32 = per 256 := by
  simp [Ideal.ofBits, Ideal.ieee, per]
  rw [← EReal.coe_mul]
  norm_num
theorem per_384 : Named.named (F := Ideal) κ "inv_q" (φ := .f32) 0x3B2AAAAB#32 = per 384 :=
  IdealRules.named_const.ideal_named_scalar _ _ _ _ rfl
theorem per_96 : Named.named (F := Ideal) κ "inv_qk" (φ := .f32) 0x3C2AAAAB#32 = per 96 :=
  IdealRules.named_const.ideal_named_scalar _ _ _ _ rfl

/-! ## The values of the body, over any operands -/

theorem hidden_pay (v0 : Vec Ideal S1x512x1024 .f32) (v12 : Vec Ideal S1x1024 .f32) (v13 v20 : Vec Ideal S1x1x1024 .f32)
    (r : Fin 512) (d : Fin 1024) : k0_pay3 (F := Ideal) v0 v12 v13 v20 (ix2 r d)
      = rms (per 1024) (fun d => v0 (ix3 0 r d)) d * v12 (ix2 0 d) * (1 + v13 (ix3 0 0 d)) + v20 (ix3 0 0 d) := by
  pointwise [k0_pay3]
  rw [per_1024, ← mul_assoc]
  rfl

theorem rotary_pay (v0 : Vec Ideal S1x512x1024 .f32) (v12 : Vec Ideal S1x1024 .f32) (v13 v20 : Vec Ideal S1x1x1024 .f32)
    (w : Vec Ideal S1024x128 .bf16) (r : Fin 512) (j : Fin 128) :
    k0_pay4 (F := Ideal) v0 v12 v13 v20 w (ix2 r j) = ∑ d, k0_pay3 (F := Ideal) v0 v12 v13 v20 (ix2 r d) * w (ix2 d j) := by
  unfold k0_pay4
  generalize k0_pay3 (F := Ideal) v0 v12 v13 v20 = h
  pointwise

theorem latent_pay (v0 : Vec Ideal S1x512x1024 .f32) (v12 : Vec Ideal S1x1024 .f32) (v13 v20 : Vec Ideal S1x1x1024 .f32)
    (w : Vec Ideal S1024x256 .bf16) (r : Fin 512) (j : Fin 256) :
    k0_pay5 (F := Ideal) v0 v12 v13 v20 w (ix2 r j) = ∑ d, k0_pay3 (F := Ideal) v0 v12 v13 v20 (ix2 r d) * w (ix2 d j) := by
  unfold k0_pay5
  generalize k0_pay3 (F := Ideal) v0 v12 v13 v20 = h
  pointwise

theorem kvLatent_pay (y : FVec Ideal S512x256 .f32) (g : Vec Ideal S1x256 .f32) (r : Fin 512) (e : Fin 256) :
    k0_pay7 (F := Ideal) y (mulf y y) g (ix2 r e) = rms (per 256) (fun e => y (ix2 r e)) e * g (ix2 0 e) := by
  pointwise [k0_pay7]
  rw [per_256]
  rfl

theorem rawKey_pay (y z : FVec Ideal S512x256 .f32) (g : Vec Ideal S1x256 .f32) (w : Vec Ideal S256x1024 .bf16) (r : Fin 512) (j : Fin 1024) :
    k0_pay8 (F := Ideal) y z g w (ix2 r j) = ∑ e, k0_pay7 (F := Ideal) y z g (ix2 r e) * w (ix2 e j) := by
  unfold k0_pay8
  generalize k0_pay7 (F := Ideal) y z g = h
  pointwise

theorem value_pay (h : FVec Ideal S512x256 .bf16) (w : Vec Ideal S256x512 .bf16) (r : Fin 512) (j : Fin 512) :
    k0_pay23 (F := Ideal) h w (ix2 r j) = ∑ e, h (ix2 r e) * w (ix2 e j) := by
  pointwise [k0_pay23]

theorem qLatent_pay (h : FVec Ideal S512x1024 .bf16) (w : Vec Ideal S1024x384 .bf16) (r : Fin 512) (e : Fin 384) :
    k0_pay29 (F := Ideal) h w (ix2 r e) = rms (per 384) (fun e => ∑ d, h (ix2 r d) * w (ix2 d e)) e := by
  pointwise [k0_pay29]
  rw [per_384]
  rfl

theorem rawQuery_pay (y : FVec Ideal S512x384 .f32) (g : Vec Ideal S1x384 .f32) (w : Vec Ideal S384x1024 .bf16) (r : Fin 512) (j : Fin 1024) :
    k0_pay30 (F := Ideal) y g w (ix2 r j) = ∑ e, y (ix2 r e) * g (ix2 0 e) * w (ix2 e j) := by
  pointwise [k0_pay30]

theorem fourier_pay (h : FVec Ideal S512x1024 .bf16) (w : Vec Ideal S1024x512 .bf16) (r : Fin 512) (j : Fin 512) :
    k0_pay45 (F := Ideal) h w (ix3 0 r j) = ∑ d, h (ix2 r d) * w (ix2 d j) := by
  pointwise [k0_pay45]

theorem gateA_pay (h : FVec Ideal S512x1024 .bf16) (w : Vec Ideal S1024x1024 .bf16) (r : Fin 512) (j : Fin 1024) :
    k0_pay1 (F := Ideal) (k0_pay46 (F := Ideal) h w) (ix3 0 r j) = sigmoid (∑ d, h (ix2 r d) * w (ix2 d j)) := by
  pointwise [k0_pay1, k0_pay46]
  rw [zero_sub]
  rfl

theorem gateB_pay (h : FVec Ideal S512x1024 .bf16) (w : Vec Ideal S1024x1024 .bf16) (r : Fin 512) (j : Fin 1024) :
    k0_pay2 (F := Ideal) h w (ix3 0 r j) = sigmoid (∑ d, h (ix2 r d) * w (ix2 d j)) := by
  pointwise [k0_pay2]
  rw [zero_sub]
  rfl

/-! ## A head and a pair of heads -/

/-- A head's tile: the rows `y` normalized, scaled, rotated and raised. -/
def headTile (y : FVec Ideal S512x128 .f32) (g a : Vec Ideal S1x128 .f32) (c s : Vec Ideal S512x128 .f32) : FVec Ideal S1x1x512x128 .bf16 :=
  let n := mulf (mulf y (broadcastTo S512x128 (rsqrt (addf (mulf (shapeCast S512x1
    (multiReduction .add [1] S512 (mulf y y) 0x00000000#32 reduces_S512x128_S512 (.inl rfl) rfl) shapeCasts_S512_S512x1)
    (broadcast S512x1 (Named.named κ "inv_qk" 0x3C2AAAAB#32))) (broadcast S512x1 (Scalar.ofBits .f32 0x358637BD#32)))) broadcasts_S512x1_S512x128))
    (broadcastTo S512x128 g broadcasts_S1x128_S512x128)
  shapeCast S1x1x512x128 (truncf .bf16 (addf (addf (mulf n c) (mulf (dynamicRotate 1 64#32 none n rotates_S512x128_d1) s))
    (broadcastTo S512x128 a broadcasts_S1x128_S512x128)) bitsLt_bf16_f32) shapeCasts_S512x128_S1x1x512x128

theorem headTile_apply (y : FVec Ideal S512x128 .f32) (g a : Vec Ideal S1x128 .f32) (c s : Vec Ideal S512x128 .f32) (r : Fin 512) (l : Fin 128) :
    headTile y g a c s (ix4 0 0 r l) = head (fun l => g (ix2 0 l)) (fun l => a (ix2 0 l)) (fun l => c (ix2 r l)) (fun l => s (ix2 r l))
      (fun l => y (ix2 r l)) l := by
  have e : (⟨(l.val + 128 - 64) % 128, Nat.mod_lt _ (by decide)⟩ : Fin 128) = half l := Fin.ext (by show (l.val + 128 - 64) % 128 = (l.val + 64) % 128; omega)
  pointwise [headTile]
  rw [per_96, e]
  rfl

/-- Head `h` of eight slots. -/
def headSlice (y : FVec Ideal S512x1024 .f32) (h : Fin 8) : FVec Ideal S512x128 .f32 :=
  extractStridedSlice S512x128 ![0, 128 * h.val] y (by revert h; decide +kernel)

theorem headSlice_apply (y : FVec Ideal S512x1024 .f32) (h : Fin 8) (r : Fin 512) (l : Fin 128) :
    headSlice y h (ix2 r l) = y (ix2 r (slot h l)) := by
  pointwise [headSlice]
  rfl

/-- The part of the block of queries, or of keys, that head `h` fills. -/
abbrev hRect (h : Fin 8) : Rect S1x8x512x128 :=
  Rect.unit (s := S1x8x512x128) ![0, h.val, 0, 0] S1x1x512x128.size (by revert h; decide +kernel)

/-- The eight stores of a block of heads, last first. -/
abbrev heads (p : Fin 8 → FVec Ideal S1x1x512x128 .bf16) : List (View.Piece (Elt Ideal) S1x8x512x128 .bf16) :=
  [⟨hRect 7, p 7⟩, ⟨hRect 6, p 6⟩, ⟨hRect 5, p 5⟩, ⟨hRect 4, p 4⟩, ⟨hRect 3, p 3⟩, ⟨hRect 2, p 2⟩, ⟨hRect 1, p 1⟩, ⟨hRect 0, p 0⟩]

theorem ix4_of_val {a b c d : Nat} (i : Ix4 a b c d) (p : Fin a) (q : Fin b) (r : Fin c) (s : Fin d) (h0 : (i 0).val = p.val) (h1 : (i 1).val = q.val)
    (h2 : (i 2).val = r.val) (h3 : (i 3).val = s.val) : i = ix4 p q r s := by
  funext k; fin_cases k
  · exact Fin.ext h0
  · exact Fin.ext h1
  · exact Fin.ext h2
  · exact Fin.ext h3

theorem ix3_of_val {a b c : Nat} (i : Ix3 a b c) (p : Fin a) (q : Fin b) (r : Fin c) (h0 : (i 0).val = p.val) (h1 : (i 1).val = q.val)
    (h2 : (i 2).val = r.val) : i = ix3 p q r := by
  funext k; fin_cases k
  · exact Fin.ext h0
  · exact Fin.ext h1
  · exact Fin.ext h2

theorem ix2_of_val {a b : Nat} (i : Ix2 a b) (p : Fin a) (q : Fin b) (h0 : (i 0).val = p.val) (h1 : (i 1).val = q.val) : i = ix2 p q := by
  funext k; fin_cases k
  · exact Fin.ext h0
  · exact Fin.ext h1

theorem hRect_emb (h : Fin 8) (x : S1x1x512x128.Idx) : (hRect h).emb x = ix4 0 h (x 2) (x 3) := by
  have h0 : (x 0).val < 1 := (x 0).isLt
  have h1 : (x 1).val < 1 := (x 1).isLt
  exact ix4_of_val _ _ _ _ _ (by show 0 + 1 * (x 0).val = 0; omega) (by show h.val + 1 * (x 1).val = h.val; omega)
    (by show 0 + 1 * (x 2).val = (x 2).val; omega) (by show 0 + 1 * (x 3).val = (x 3).val; omega)

theorem tile_idx (x : S1x1x512x128.Idx) : x = ix4 0 0 (x 2) (x 3) := by
  have h0 : (x 0).val < 1 := (x 0).isLt
  have h1 : (x 1).val < 1 := (x 1).isLt
  exact ix4_of_val _ _ _ _ _ (by show (x 0).val = 0; omega) (by show (x 1).val = 0; omega) rfl rfl

/-- A block whose eight stores are the heads of `G` holds `G`. -/
theorem heads_eq (G : S1x8x512x128.Idx → EReal) (p : Fin 8 → FVec Ideal S1x1x512x128 .bf16)
    (hp : ∀ h r l, p h (ix4 0 0 r l) = G (ix4 0 h r l)) : View.canon (heads p) = G := by
  funext y
  have key : ∀ (h : Fin 8) (x : S1x1x512x128.Idx), p h x = G ((hRect h).emb x) := fun h x => by
    rw [hRect_emb]
    exact (congrArg (p h) (tile_idx x)).trans (hp h _ _)
  refine View.canon_apply_of_pieces (Val := Elt Ideal) (e := .bf16) G (heads p) ?_ y (cover0_16 (F := Ideal) _ _ _ _ _ _ _ _ y)
  intro q hq
  simp only [heads, List.mem_cons, List.not_mem_nil, or_false] at hq
  rcases hq with rfl | rfl | rfl | rfl | rfl | rfl | rfl | rfl <;> exact key _

/-- A pair of heads' tile of values: columns `128 p …` of the values, turned. -/
def pairTile (y : FVec Ideal S512x512 .f32) (p : Fin 4) : FVec Ideal S1x1x128x512 .bf16 :=
  shapeCast S1x1x128x512 (truncf .bf16 (transpose S128x512 [1, 0] (extractStridedSlice S512x128 ![0, 128 * p.val] y (by revert p; decide +kernel) : FVec Ideal S512x128 .f32)
    transposes_S512x128_p1_0_S128x512) bitsLt_bf16_f32) shapeCasts_S128x512_S1x1x128x512

theorem pairTile_apply (y : FVec Ideal S512x512 .f32) (p : Fin 4) (c : Fin 128) (r : Fin 512) :
    pairTile y p (ix4 0 0 c r) = y (ix2 r ⟨128 * p.val + c.val, by omega⟩) := by
  pointwise [pairTile]

/-- The part of the block of values that pair `p` fills. -/
abbrev pRect (p : Fin 4) : Rect S1x4x128x512 :=
  Rect.unit (s := S1x4x128x512) ![0, p.val, 0, 0] S1x1x128x512.size (by revert p; decide +kernel)

/-- The four stores of a block of values, last first. -/
abbrev pairs (p : Fin 4 → FVec Ideal S1x1x128x512 .bf16) : List (View.Piece (Elt Ideal) S1x4x128x512 .bf16) :=
  [⟨pRect 3, p 3⟩, ⟨pRect 2, p 2⟩, ⟨pRect 1, p 1⟩, ⟨pRect 0, p 0⟩]

theorem pRect_emb (p : Fin 4) (x : S1x1x128x512.Idx) : (pRect p).emb x = ix4 0 p (x 2) (x 3) := by
  have h0 : (x 0).val < 1 := (x 0).isLt
  have h1 : (x 1).val < 1 := (x 1).isLt
  exact ix4_of_val _ _ _ _ _ (by show 0 + 1 * (x 0).val = 0; omega) (by show p.val + 1 * (x 1).val = p.val; omega)
    (by show 0 + 1 * (x 2).val = (x 2).val; omega) (by show 0 + 1 * (x 3).val = (x 3).val; omega)

theorem pair_idx (x : S1x1x128x512.Idx) : x = ix4 0 0 (x 2) (x 3) := by
  have h0 : (x 0).val < 1 := (x 0).isLt
  have h1 : (x 1).val < 1 := (x 1).isLt
  exact ix4_of_val _ _ _ _ _ (by show (x 0).val = 0; omega) (by show (x 1).val = 0; omega) rfl rfl

/-- A block whose four stores are the pairs of `G` holds `G`. -/
theorem pairs_eq (G : S1x4x128x512.Idx → EReal) (p : Fin 4 → FVec Ideal S1x1x128x512 .bf16)
    (hp : ∀ q c r, p q (ix4 0 0 c r) = G (ix4 0 q c r)) : View.canon (pairs p) = G := by
  funext y
  have key : ∀ (q : Fin 4) (x : S1x1x128x512.Idx), p q x = G ((pRect q).emb x) := fun q x => by
    rw [pRect_emb]
    exact (congrArg (p q) (pair_idx x)).trans (hp q _ _)
  refine View.canon_apply_of_pieces (Val := Elt Ideal) (e := .bf16) G (pairs p) ?_ y (cover0_18 (F := Ideal) _ _ _ _ y)
  intro q hq
  simp only [pairs, List.mem_cons, List.not_mem_nil, or_false] at hq
  rcases hq with rfl | rfl | rfl | rfl <;> exact key _

/-! ## The loads -/

theorem zero2 : (![0, 0] : Fin 2 → Nat) = fun _ => 0 := by decide
theorem zero3 : (![0, 0, 0] : Fin 3 → Nat) = fun _ => 0 := by decide

section
variable (x0 : Vec Ideal S1x512x1024 .f32) (x1 : Vec Ideal S1x1024 .f32) (x2 x3 : Vec Ideal S1x1x1024 .f32) (x4 : Vec Ideal S1024x3328 .bf16)
  (x5 : Vec Ideal S1x384 .f32) (x6 : Vec Ideal S1x256 .f32) (x7 : Vec Ideal S384x1024 .bf16) (x8 : Vec Ideal S256x1024 .bf16)
  (x9 : Vec Ideal S256x512 .bf16) (x10 x11 x12 x13 : Vec Ideal S1x128 .f32) (x14 x15 : Vec Ideal S512x128 .f32)

theorem ld0 : View.ld x0 r0_0 = x0 := View.ld_unit_zero zero3 _ x0
theorem ld1 : View.ld x1 r0_1 = x1 := View.ld_unit_zero zero2 _ x1
theorem ld2 : View.ld x2 r0_2 = x2 := View.ld_unit_zero zero3 _ x2
theorem ld3 : View.ld x14 r0_3 = x14 := View.ld_unit_zero zero2 _ x14
theorem ld6 : View.ld x6 r0_6 = x6 := View.ld_unit_zero zero2 _ x6
theorem ld7 : View.ld x8 r0_7 = x8 := View.ld_unit_zero zero2 _ x8
theorem ld8 : View.ld x10 r0_8 = x10 := View.ld_unit_zero zero2 _ x10
theorem ld17 : View.ld x9 r0_17 = x9 := View.ld_unit_zero zero2 _ x9
theorem ld23 : View.ld x5 r0_23 = x5 := View.ld_unit_zero zero2 _ x5
theorem ld24 : View.ld x7 r0_24 = x7 := View.ld_unit_zero zero2 _ x7

/-- A load of columns `o …` of the input projection's weights. -/
theorem ldw {n : Nat} (o : Nat) (inb) (d : Fin 1024) (j : Fin n) (ho : o + j.val < 3328) :
    View.ld x4 (Rect.unit (s := S1024x3328) ![0, o] ![1024, n] inb) (ix2 d j) = x4 (ix2 d ⟨o + j.val, ho⟩) :=
  congrArg x4 (ix2_of_val _ _ _ (by show 0 + 1 * d.val = d.val; omega) (by show o + 1 * j.val = o + j.val; omega))

/-! ## The block's tokens -/

/-- The token of row `r` of a point's blocks. -/
abbrev tok : Fin 1 → Fin 512 → Token := token (B := 1) (T := 512) x0 x1 x2 x3 x4 x5 x6 x7 x8 x9 x10 x11 x12 x13 x14 x15

theorem hidden_eq (r : Fin 512) (d : Fin 1024) : k0_pay47 (F := Ideal) x0 x1 x2 x3 x4 x5 x6 x7 x8 x9 x10 x11 x12 x13 x14 x15 (ix2 r d) = (tok x0 x1 x2 x3 x4 x5 x6 x7 x8 x9 x10 x11 x12 x13 x14 x15 0 r).hidden d := by
  unfold k0_pay47
  rw [ld0, ld1, ld2, ld2, hidden_pay]
  rfl

/-- A product of the hidden rows with columns `o …` of the weights. -/
theorem input_eq {n : Nat} (o : Nat) (inb) (r : Fin 512) (j : Fin n) (ho : o + j.val < 3328) :
    ∑ d, k0_pay47 (F := Ideal) x0 x1 x2 x3 x4 x5 x6 x7 x8 x9 x10 x11 x12 x13 x14 x15 (ix2 r d) * View.ld x4 (Rect.unit (s := S1024x3328) ![0, o] ![1024, n] inb) (ix2 d j)
      = (tok x0 x1 x2 x3 x4 x5 x6 x7 x8 x9 x10 x11 x12 x13 x14 x15 0 r).input ⟨o + j.val, ho⟩ :=
  Finset.sum_congr rfl fun d _ => congrArg₂ (· * ·) (hidden_eq x0 x1 x2 x3 x4 x5 x6 x7 x8 x9 x10 x11 x12 x13 x14 x15 r d) (ldw x4 o inb d j ho)

theorem rotary_eq (r : Fin 512) (l : Fin 128) : k0_pay48 (F := Ideal) x0 x1 x2 x3 x4 x5 x6 x7 x8 x9 x10 x11 x12 x13 x14 x15 (ix2 r l) = (tok x0 x1 x2 x3 x4 x5 x6 x7 x8 x9 x10 x11 x12 x13 x14 x15 0 r).input ⟨384 + l.val, by omega⟩ :=
  (rotary_pay _ _ _ _ _ r l).trans (input_eq x0 x1 x2 x3 x4 x5 x6 x7 x8 x9 x10 x11 x12 x13 x14 x15 384 _ r l _)

theorem latent_eq (r : Fin 512) (e : Fin 256) : k0_pay49 (F := Ideal) x0 x1 x2 x3 x4 x5 x6 x7 x8 x9 x10 x11 x12 x13 x14 x15 (ix2 r e) = (tok x0 x1 x2 x3 x4 x5 x6 x7 x8 x9 x10 x11 x12 x13 x14 x15 0 r).input ⟨512 + e.val, by omega⟩ :=
  (latent_pay _ _ _ _ _ r e).trans (input_eq x0 x1 x2 x3 x4 x5 x6 x7 x8 x9 x10 x11 x12 x13 x14 x15 512 _ r e _)

theorem kvLatent_eq (r : Fin 512) (e : Fin 256) : k0_pay51 (F := Ideal) x0 x1 x2 x3 x4 x5 x6 x7 x8 x9 x10 x11 x12 x13 x14 x15 (ix2 r e) = (tok x0 x1 x2 x3 x4 x5 x6 x7 x8 x9 x10 x11 x12 x13 x14 x15 0 r).kvLatent e := by
  refine (kvLatent_pay (k0_pay49 (F := Ideal) x0 x1 x2 x3 x4 x5 x6 x7 x8 x9 x10 x11 x12 x13 x14 x15) _ r e).trans ?_
  rw [ld6]
  simp only [latent_eq]
  rfl

theorem keys_eq (r : Fin 512) (j : Fin 1024) : k0_pay52 (F := Ideal) x0 x1 x2 x3 x4 x5 x6 x7 x8 x9 x10 x11 x12 x13 x14 x15 (ix2 r j) = ∑ e, (tok x0 x1 x2 x3 x4 x5 x6 x7 x8 x9 x10 x11 x12 x13 x14 x15 0 r).kvLatent e * x8 (ix2 e j) := by
  refine (rawKey_pay _ _ _ _ r j).trans (Finset.sum_congr rfl fun e _ => congrArg₂ (· * ·) (kvLatent_eq x0 x1 x2 x3 x4 x5 x6 x7 x8 x9 x10 x11 x12 x13 x14 x15 r e) ?_)
  rw [ld7]

theorem value_eq (r : Fin 512) (j : Fin 512) : k0_pay53 (F := Ideal) x0 x1 x2 x3 x4 x5 x6 x7 x8 x9 x10 x11 x12 x13 x14 x15 (ix2 r j) = (tok x0 x1 x2 x3 x4 x5 x6 x7 x8 x9 x10 x11 x12 x13 x14 x15 0 r).value j := by
  refine (value_pay _ _ r j).trans (Finset.sum_congr rfl fun e _ => congrArg₂ (· * ·) (kvLatent_eq x0 x1 x2 x3 x4 x5 x6 x7 x8 x9 x10 x11 x12 x13 x14 x15 r e) ?_)
  rw [ld17]
  rfl

theorem qScaled_eq (r : Fin 512) (e : Fin 384) : k0_pay54 (F := Ideal) x0 x1 x2 x3 x4 x5 x6 x7 x8 x9 x10 x11 x12 x13 x14 x15 (ix2 r e)
    = rms (per 384) (fun e => (tok x0 x1 x2 x3 x4 x5 x6 x7 x8 x9 x10 x11 x12 x13 x14 x15 0 r).input ⟨e.val, by omega⟩) e := by
  refine (qLatent_pay _ _ r e).trans (congrArg (rms (per 384) · e) (funext fun e => ?_))
  refine (input_eq x0 x1 x2 x3 x4 x5 x6 x7 x8 x9 x10 x11 x12 x13 x14 x15 0 _ r e (by omega)).trans (congrArg (tok x0 x1 x2 x3 x4 x5 x6 x7 x8 x9 x10 x11 x12 x13 x14 x15 0 r).input (Fin.ext ?_))
  show 0 + e.val = e.val
  omega

theorem queries_eq (r : Fin 512) (j : Fin 1024) : k0_pay55 (F := Ideal) x0 x1 x2 x3 x4 x5 x6 x7 x8 x9 x10 x11 x12 x13 x14 x15 (ix2 r j) = ∑ e, (tok x0 x1 x2 x3 x4 x5 x6 x7 x8 x9 x10 x11 x12 x13 x14 x15 0 r).qLatent e * x7 (ix2 e j) := by
  refine (rawQuery_pay _ _ _ r j).trans (Finset.sum_congr rfl fun e _ => ?_)
  rw [ld23, ld24, qScaled_eq]
  rfl

/-! ## The six result blocks -/

theorem out16_eq : out0_16 (F := Ideal) x0 x1 x2 x3 x4 x5 x6 x7 x8 x9 x10 x11 x12 x13 x14 x15 = View.canon (heads fun h => headTile (headSlice (k0_pay55 x0 x1 x2 x3 x4 x5 x6 x7 x8 x9 x10 x11 x12 x13 x14 x15) h)
    (View.ld x10 r0_8) (View.ld x12 r0_8) (View.ld x14 r0_3) (View.ld x15 r0_3)) := rfl

theorem out17_eq : out0_17 (F := Ideal) x0 x1 x2 x3 x4 x5 x6 x7 x8 x9 x10 x11 x12 x13 x14 x15 = View.canon (heads fun h => headTile (addf (headSlice (k0_pay52 x0 x1 x2 x3 x4 x5 x6 x7 x8 x9 x10 x11 x12 x13 x14 x15) h) (k0_pay48 x0 x1 x2 x3 x4 x5 x6 x7 x8 x9 x10 x11 x12 x13 x14 x15))
    (View.ld x11 r0_8) (View.ld x13 r0_8) (View.ld x14 r0_3) (View.ld x15 r0_3)) := rfl

theorem out18_eq : out0_18 (F := Ideal) x0 x1 x2 x3 x4 x5 x6 x7 x8 x9 x10 x11 x12 x13 x14 x15 = View.canon (pairs fun p => pairTile (k0_pay53 x0 x1 x2 x3 x4 x5 x6 x7 x8 x9 x10 x11 x12 x13 x14 x15) p) := rfl

/-- The block of queries, -/
theorem block16 : out0_16 (F := Ideal) x0 x1 x2 x3 x4 x5 x6 x7 x8 x9 x10 x11 x12 x13 x14 x15 = queries (tok x0 x1 x2 x3 x4 x5 x6 x7 x8 x9 x10 x11 x12 x13 x14 x15) := by
  rw [out16_eq, ld8, ld8, ld3, ld3]
  refine heads_eq _ _ fun h r l => (headTile_apply _ _ _ _ _ r l).trans ?_
  refine congrArg (head _ _ _ _ · l) (funext fun l => (headSlice_apply _ h r l).trans ?_)
  exact queries_eq x0 x1 x2 x3 x4 x5 x6 x7 x8 x9 x10 x11 x12 x13 x14 x15 r (slot h l)

/-- of keys, -/
theorem block17 : out0_17 (F := Ideal) x0 x1 x2 x3 x4 x5 x6 x7 x8 x9 x10 x11 x12 x13 x14 x15 = keys (tok x0 x1 x2 x3 x4 x5 x6 x7 x8 x9 x10 x11 x12 x13 x14 x15) := by
  rw [out17_eq, ld8, ld8, ld3, ld3]
  refine heads_eq _ _ fun h r l => (headTile_apply _ _ _ _ _ r l).trans ?_
  refine congrArg (head _ _ _ _ · l) (funext fun l => ?_)
  exact congrArg₂ (· + ·) ((headSlice_apply _ h r l).trans (keys_eq x0 x1 x2 x3 x4 x5 x6 x7 x8 x9 x10 x11 x12 x13 x14 x15 r (slot h l))) (rotary_eq x0 x1 x2 x3 x4 x5 x6 x7 x8 x9 x10 x11 x12 x13 x14 x15 r l)

/-- of values, -/
theorem block18 : out0_18 (F := Ideal) x0 x1 x2 x3 x4 x5 x6 x7 x8 x9 x10 x11 x12 x13 x14 x15 = values (tok x0 x1 x2 x3 x4 x5 x6 x7 x8 x9 x10 x11 x12 x13 x14 x15) := by
  rw [out18_eq]
  exact pairs_eq _ _ fun p c r => (pairTile_apply _ p c r).trans (value_eq x0 x1 x2 x3 x4 x5 x6 x7 x8 x9 x10 x11 x12 x13 x14 x15 r _)

theorem block_idx {n : Nat} (i : Ix3 1 512 n) : ∃ (r : Fin 512) (j : Fin n), i = ix3 0 r j :=
  ⟨i 1, i 2, ix3_of_val _ _ _ _ (by have h : (i 0).val < 1 := (i 0).isLt; show (i 0).val = 0; omega) rfl rfl⟩

/-- of Fourier channels, -/
theorem block19 : out0_19 (F := Ideal) x0 x1 x2 x3 x4 x5 x6 x7 x8 x9 x10 x11 x12 x13 x14 x15 = fouriers (tok x0 x1 x2 x3 x4 x5 x6 x7 x8 x9 x10 x11 x12 x13 x14 x15) := by
  refine (View.canon_unit_zero (Val := Elt Ideal) zero3 _ _).trans (funext fun i => ?_)
  obtain ⟨r, j, rfl⟩ := block_idx i
  exact (fourier_pay _ _ r j).trans (input_eq x0 x1 x2 x3 x4 x5 x6 x7 x8 x9 x10 x11 x12 x13 x14 x15 768 _ r j _)

/-- and of the two gates. -/
theorem block20 : out0_20 (F := Ideal) x0 x1 x2 x3 x4 x5 x6 x7 x8 x9 x10 x11 x12 x13 x14 x15 = gatesA (tok x0 x1 x2 x3 x4 x5 x6 x7 x8 x9 x10 x11 x12 x13 x14 x15) := by
  refine (View.canon_unit_zero (Val := Elt Ideal) zero3 _ _).trans (funext fun i => ?_)
  obtain ⟨r, j, rfl⟩ := block_idx i
  exact (gateA_pay _ _ r j).trans (congrArg sigmoid (input_eq x0 x1 x2 x3 x4 x5 x6 x7 x8 x9 x10 x11 x12 x13 x14 x15 1280 _ r j _))

theorem block21 : out0_21 (F := Ideal) x0 x1 x2 x3 x4 x5 x6 x7 x8 x9 x10 x11 x12 x13 x14 x15 = gatesB (tok x0 x1 x2 x3 x4 x5 x6 x7 x8 x9 x10 x11 x12 x13 x14 x15) := by
  refine (View.canon_unit_zero (Val := Elt Ideal) zero3 _ _).trans (funext fun i => ?_)
  obtain ⟨r, j, rfl⟩ := block_idx i
  exact (gateB_pay _ _ r j).trans (congrArg sigmoid (input_eq x0 x1 x2 x3 x4 x5 x6 x7 x8 x9 x10 x11 x12 x13 x14 x15 2304 _ r j _))

end

end Cert.ProjIdeal.Lat

end
-- ==== Proof.ProjArray.lean ====
/-
  THE PROJECTION'S RESULT ARRAYS, at the extended reals: `Projection.queries` … `Projection.gatesB` over the tokens of its
  sixteen arguments. Grid point `t` takes tokens `512 * (t % 4) …` of sample `t / 4`; what it writes back are its blocks of the
  six arrays, and the blocks cover them.
-/
module

public import proofs.«01_k».proof.Proof.ProjBlock

@[expose] public section

set_option maxRecDepth 16384
noncomputable section

namespace Cert.ProjIdeal.Lat

open Cert.ProjIdeal Cert.ProjIdeal.Gen Cert.Projection
open Idealize.ShloMosaic Idealize.ShloMosaic.TcCoe Idealize.ShloMosaic.Tactic Idealize.ShloMosaic.Pointwise Idealize.SL.Sem

variable (m : (ℓ : Loc nD τ sig) → Buf (Elt Ideal) ℓ) (ρ : Dev nD → PrngReg)

/-! ## Where the blocks lie -/

theorem index0 : ∀ t : Fin cfg0.N, win0_0.index t (0 : Fin 3) = t.val / 4 ∧ win0_0.index t (1 : Fin 3) = t.val % 4
    ∧ win0_0.index t (2 : Fin 3) = 0 := (by decide +kernel : ∀ t : Fin grid0.N, _)
theorem index2 : ∀ t : Fin cfg0.N, win0_2.index t (0 : Fin 3) = t.val / 4 ∧ win0_2.index t (1 : Fin 3) = 0
    ∧ win0_2.index t (2 : Fin 3) = 0 := (by decide +kernel : ∀ t : Fin grid0.N, _)
theorem index3 : ∀ t : Fin cfg0.N, win0_3.index t (0 : Fin 3) = t.val / 4 ∧ win0_3.index t (1 : Fin 3) = 0
    ∧ win0_3.index t (2 : Fin 3) = 0 := (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = 0 ∧ win0_12.index t (1 : Fin 2) = 0 :=
  (by decide +kernel : ∀ t : Fin grid0.N, _)
theorem index13 : ∀ t : Fin cfg0.N, win0_13.index t (0 : Fin 2) = 0 ∧ win0_13.index t (1 : Fin 2) = 0 :=
  (by decide +kernel : ∀ t : Fin grid0.N, _)
theorem index14 : ∀ t : Fin cfg0.N, win0_14.index t (0 : Fin 2) = t.val % 4 ∧ win0_14.index t (1 : Fin 2) = 0 :=
  (by decide +kernel : ∀ t : Fin grid0.N, _)
theorem index15 : ∀ t : Fin cfg0.N, win0_15.index t (0 : Fin 2) = t.val % 4 ∧ win0_15.index t (1 : Fin 2) = 0 :=
  (by decide +kernel : ∀ t : Fin grid0.N, _)
theorem index16 : ∀ t : Fin cfg0.N, win0_16.index t (0 : Fin 4) = t.val / 4 ∧ win0_16.index t (1 : Fin 4) = 0
    ∧ win0_16.index t (2 : Fin 4) = t.val % 4 ∧ win0_16.index t (3 : Fin 4) = 0 := (by decide +kernel : ∀ t : Fin grid0.N, _)
theorem index17 : ∀ t : Fin cfg0.N, win0_17.index t (0 : Fin 4) = t.val / 4 ∧ win0_17.index t (1 : Fin 4) = 0
    ∧ win0_17.index t (2 : Fin 4) = t.val % 4 ∧ win0_17.index t (3 : Fin 4) = 0 := (by decide +kernel : ∀ t : Fin grid0.N, _)
theorem index18 : ∀ t : Fin cfg0.N, win0_18.index t (0 : Fin 4) = t.val / 4 ∧ win0_18.index t (1 : Fin 4) = 0
    ∧ win0_18.index t (2 : Fin 4) = 0 ∧ win0_18.index t (3 : Fin 4) = t.val % 4 := (by decide +kernel : ∀ t : Fin grid0.N, _)
theorem index19 : ∀ t : Fin cfg0.N, win0_19.index t (0 : Fin 3) = t.val / 4 ∧ win0_19.index t (1 : Fin 3) = t.val % 4
    ∧ win0_19.index t (2 : Fin 3) = 0 := (by decide +kernel : ∀ t : Fin grid0.N, _)
theorem index20 : ∀ t : Fin cfg0.N, win0_20.index t (0 : Fin 3) = t.val / 4 ∧ win0_20.index t (1 : Fin 3) = t.val % 4
    ∧ win0_20.index t (2 : Fin 3) = 0 := (by decide +kernel : ∀ t : Fin grid0.N, _)
theorem index21 : ∀ t : Fin cfg0.N, win0_21.index t (0 : Fin 3) = t.val / 4 ∧ win0_21.index t (1 : Fin 3) = t.val % 4
    ∧ win0_21.index t (2 : Fin 3) = 0 := (by decide +kernel : ∀ t : Fin grid0.N, _)

theorem t_lt (t : Fin cfg0.N) : t.val < 128 := lt_of_lt_of_eq t.isLt Gen.N_0

/-- The sample of a grid point. -/
def sample (t : Fin cfg0.N) : Fin 32 := ⟨t.val / 4, by have := t_lt t; omega⟩
/-- The token that row `r` of a point's block is. -/
def place (t : Fin cfg0.N) (r : Fin 512) : Fin 2048 := ⟨512 * (t.val % 4) + r.val, by omega⟩

theorem iblk0_apply (c : Dev nD) (t : Fin cfg0.N) (r : Fin 512) (d : Fin 1024) :
    iblk m c 0 t (ix3 0 r d) = V m c main_arg0 (ix3 (sample t) (place t r) d) := by
  obtain ⟨e0, e1, e2⟩ := index0 t
  exact congrArg (V m c main_arg0) (ix3_of_val _ _ _ _
    (by show win0_0.index t (0 : Fin 3) * 1 + 1 * 0 = t.val / 4; omega)
    (by show win0_0.index t (1 : Fin 3) * 512 + 1 * r.val = 512 * (t.val % 4) + r.val; omega)
    (by show win0_0.index t (2 : Fin 3) * 1024 + 1 * d.val = d.val; omega))

theorem iblk2_apply (c : Dev nD) (t : Fin cfg0.N) (d : Fin 1024) :
    iblk m c 2 t (ix3 0 0 d) = V m c main_arg2 (ix3 (sample t) 0 d) := by
  obtain ⟨e0, e1, e2⟩ := index2 t
  exact congrArg (V m c main_arg2) (ix3_of_val _ _ _ _
    (by show win0_2.index t (0 : Fin 3) * 1 + 1 * 0 = t.val / 4; omega)
    (by show win0_2.index t (1 : Fin 3) * 1 + 1 * 0 = 0; omega)
    (by show win0_2.index t (2 : Fin 3) * 1024 + 1 * d.val = d.val; omega))

theorem iblk3_apply (c : Dev nD) (t : Fin cfg0.N) (d : Fin 1024) :
    iblk m c 3 t (ix3 0 0 d) = V m c main_arg3 (ix3 (sample t) 0 d) := by
  obtain ⟨e0, e1, e2⟩ := index3 t
  exact congrArg (V m c main_arg3) (ix3_of_val _ _ _ _
    (by show win0_3.index t (0 : Fin 3) * 1 + 1 * 0 = t.val / 4; omega)
    (by show win0_3.index t (1 : Fin 3) * 1 + 1 * 0 = 0; omega)
    (by show win0_3.index t (2 : Fin 3) * 1024 + 1 * d.val = d.val; omega))

theorem iblk1_apply (c : Dev nD) (t : Fin cfg0.N) (a : Fin 1) (b : Fin 1024) :
    iblk m c 1 t (ix2 a b) = V m c main_arg1 (ix2 a b) := by
  obtain ⟨e0, e1⟩ := index1 t
  exact congrArg (V m c main_arg1) (ix2_of_val _ _ _ (by show win0_1.index t (0 : Fin 2) * 1 + 1 * a.val = a.val; omega)
    (by show win0_1.index t (1 : Fin 2) * 1024 + 1 * b.val = b.val; omega))

theorem iblk4_apply (c : Dev nD) (t : Fin cfg0.N) (a : Fin 1024) (b : Fin 3328) :
    iblk m c 4 t (ix2 a b) = V m c main_arg4 (ix2 a b) := by
  obtain ⟨e0, e1⟩ := index4 t
  exact congrArg (V m c main_arg4) (ix2_of_val _ _ _ (by show win0_4.index t (0 : Fin 2) * 1024 + 1 * a.val = a.val; omega)
    (by show win0_4.index t (1 : Fin 2) * 3328 + 1 * b.val = b.val; omega))

theorem iblk5_apply (c : Dev nD) (t : Fin cfg0.N) (a : Fin 1) (b : Fin 384) :
    iblk m c 5 t (ix2 a b) = V m c main_arg5 (ix2 a b) := by
  obtain ⟨e0, e1⟩ := index5 t
  exact congrArg (V m c main_arg5) (ix2_of_val _ _ _ (by show win0_5.index t (0 : Fin 2) * 1 + 1 * a.val = a.val; omega)
    (by show win0_5.index t (1 : Fin 2) * 384 + 1 * b.val = b.val; omega))

theorem iblk6_apply (c : Dev nD) (t : Fin cfg0.N) (a : Fin 1) (b : Fin 256) :
    iblk m c 6 t (ix2 a b) = V m c main_arg6 (ix2 a b) := by
  obtain ⟨e0, e1⟩ := index6 t
  exact congrArg (V m c main_arg6) (ix2_of_val _ _ _ (by show win0_6.index t (0 : Fin 2) * 1 + 1 * a.val = a.val; omega)
    (by show win0_6.index t (1 : Fin 2) * 256 + 1 * b.val = b.val; omega))

theorem iblk7_apply (c : Dev nD) (t : Fin cfg0.N) (a : Fin 384) (b : Fin 1024) :
    iblk m c 7 t (ix2 a b) = V m c main_arg7 (ix2 a b) := by
  obtain ⟨e0, e1⟩ := index7 t
  exact congrArg (V m c main_arg7) (ix2_of_val _ _ _ (by show win0_7.index t (0 : Fin 2) * 384 + 1 * a.val = a.val; omega)
    (by show win0_7.index t (1 : Fin 2) * 1024 + 1 * b.val = b.val; omega))

theorem iblk8_apply (c : Dev nD) (t : Fin cfg0.N) (a : Fin 256) (b : Fin 1024) :
    iblk m c 8 t (ix2 a b) = V m c main_arg8 (ix2 a b) := by
  obtain ⟨e0, e1⟩ := index8 t
  exact congrArg (V m c main_arg8) (ix2_of_val _ _ _ (by show win0_8.index t (0 : Fin 2) * 256 + 1 * a.val = a.val; omega)
    (by show win0_8.index t (1 : Fin 2) * 1024 + 1 * b.val = b.val; omega))

theorem iblk9_apply (c : Dev nD) (t : Fin cfg0.N) (a : Fin 256) (b : Fin 512) :
    iblk m c 9 t (ix2 a b) = V m c main_arg9 (ix2 a b) := by
  obtain ⟨e0, e1⟩ := index9 t
  exact congrArg (V m c main_arg9) (ix2_of_val _ _ _ (by show win0_9.index t (0 : Fin 2) * 256 + 1 * a.val = a.val; omega)
    (by show win0_9.index t (1 : Fin 2) * 512 + 1 * b.val = b.val; omega))

theorem iblk10_apply (c : Dev nD) (t : Fin cfg0.N) (a : Fin 1) (b : Fin 128) :
    iblk m c 10 t (ix2 a b) = V m c main_arg10 (ix2 a b) := by
  obtain ⟨e0, e1⟩ := index10 t
  exact congrArg (V m c main_arg10) (ix2_of_val _ _ _ (by show win0_10.index t (0 : Fin 2) * 1 + 1 * a.val = a.val; omega)
    (by show win0_10.index t (1 : Fin 2) * 128 + 1 * b.val = b.val; omega))

theorem iblk11_apply (c : Dev nD) (t : Fin cfg0.N) (a : Fin 1) (b : Fin 128) :
    iblk m c 11 t (ix2 a b) = V m c main_arg11 (ix2 a b) := by
  obtain ⟨e0, e1⟩ := index11 t
  exact congrArg (V m c main_arg11) (ix2_of_val _ _ _ (by show win0_11.index t (0 : Fin 2) * 1 + 1 * a.val = a.val; omega)
    (by show win0_11.index t (1 : Fin 2) * 128 + 1 * b.val = b.val; omega))

theorem iblk12_apply (c : Dev nD) (t : Fin cfg0.N) (a : Fin 1) (b : Fin 128) :
    iblk m c 12 t (ix2 a b) = V m c main_arg12 (ix2 a b) := by
  obtain ⟨e0, e1⟩ := index12 t
  exact congrArg (V m c main_arg12) (ix2_of_val _ _ _ (by show win0_12.index t (0 : Fin 2) * 1 + 1 * a.val = a.val; omega)
    (by show win0_12.index t (1 : Fin 2) * 128 + 1 * b.val = b.val; omega))

theorem iblk13_apply (c : Dev nD) (t : Fin cfg0.N) (a : Fin 1) (b : Fin 128) :
    iblk m c 13 t (ix2 a b) = V m c main_arg13 (ix2 a b) := by
  obtain ⟨e0, e1⟩ := index13 t
  exact congrArg (V m c main_arg13) (ix2_of_val _ _ _ (by show win0_13.index t (0 : Fin 2) * 1 + 1 * a.val = a.val; omega)
    (by show win0_13.index t (1 : Fin 2) * 128 + 1 * b.val = b.val; omega))

theorem iblk14_apply (c : Dev nD) (t : Fin cfg0.N) (r : Fin 512) (l : Fin 128) :
    iblk m c 14 t (ix2 r l) = V m c main_arg14 (ix2 (place t r) l) := by
  obtain ⟨e0, e1⟩ := index14 t
  exact congrArg (V m c main_arg14) (ix2_of_val _ _ _
    (by show win0_14.index t (0 : Fin 2) * 512 + 1 * r.val = 512 * (t.val % 4) + r.val; omega)
    (by show win0_14.index t (1 : Fin 2) * 128 + 1 * l.val = l.val; omega))

theorem iblk15_apply (c : Dev nD) (t : Fin cfg0.N) (r : Fin 512) (l : Fin 128) :
    iblk m c 15 t (ix2 r l) = V m c main_arg15 (ix2 (place t r) l) := by
  obtain ⟨e0, e1⟩ := index15 t
  exact congrArg (V m c main_arg15) (ix2_of_val _ _ _
    (by show win0_15.index t (0 : Fin 2) * 512 + 1 * r.val = 512 * (t.val % 4) + r.val; omega)
    (by show win0_15.index t (1 : Fin 2) * 128 + 1 * l.val = l.val; omega))

/-- The tokens of the sixteen arrays that device `c` holds. -/
abbrev tokens (c : Dev nD) : Fin 32 → Fin 2048 → Token :=
  token (B := 32) (T := 2048) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)

/-- Row `r` of a point's blocks is its token of the arrays. -/
theorem tok_eq (c : Dev nD) (t : Fin cfg0.N) (r : Fin 512) : tok (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) 0 r = tokens m c (sample t) (place t r) :=
  Token.ext (funext fun d => iblk0_apply m c t r d) (funext fun d => iblk1_apply m c t 0 d) (funext fun d => iblk2_apply m c t d)
    (funext fun d => iblk3_apply m c t d) (funext fun d => funext fun j => iblk4_apply m c t d j)
    (funext fun e => iblk5_apply m c t 0 e) (funext fun e => iblk6_apply m c t 0 e) (funext fun e => funext fun j => iblk7_apply m c t e j)
    (funext fun e => funext fun j => iblk8_apply m c t e j) (funext fun e => funext fun j => iblk9_apply m c t e j)
    (funext fun l => iblk10_apply m c t 0 l) (funext fun l => iblk11_apply m c t 0 l) (funext fun l => iblk12_apply m c t 0 l)
    (funext fun l => iblk13_apply m c t 0 l) (funext fun l => iblk14_apply m c t r l) (funext fun l => iblk15_apply m c t r l)

/-! ## The result blocks in their arrays -/

theorem emb16 (t : Fin cfg0.N) (h : Fin 8) (r : Fin 512) (l : Fin 128) :
    ((cfg0.win 16).blk t).view.emb (ix4 0 h r l : S1x8x512x128.Idx) = ix4 (sample t) h (place t r) l := by
  obtain ⟨e0, e1, e2, e3⟩ := index16 t
  exact ix4_of_val _ _ _ _ _
    (by show win0_16.index t (0 : Fin 4) * 1 + 1 * 0 = t.val / 4; omega)
    (by show win0_16.index t (1 : Fin 4) * 8 + 1 * h.val = h.val; omega)
    (by show win0_16.index t (2 : Fin 4) * 512 + 1 * r.val = 512 * (t.val % 4) + r.val; omega)
    (by show win0_16.index t (3 : Fin 4) * 128 + 1 * l.val = l.val; omega)

theorem emb17 (t : Fin cfg0.N) (h : Fin 8) (r : Fin 512) (l : Fin 128) :
    ((cfg0.win 17).blk t).view.emb (ix4 0 h r l : S1x8x512x128.Idx) = ix4 (sample t) h (place t r) l := by
  obtain ⟨e0, e1, e2, e3⟩ := index17 t
  exact ix4_of_val _ _ _ _ _
    (by show win0_17.index t (0 : Fin 4) * 1 + 1 * 0 = t.val / 4; omega)
    (by show win0_17.index t (1 : Fin 4) * 8 + 1 * h.val = h.val; omega)
    (by show win0_17.index t (2 : Fin 4) * 512 + 1 * r.val = 512 * (t.val % 4) + r.val; omega)
    (by show win0_17.index t (3 : Fin 4) * 128 + 1 * l.val = l.val; omega)

theorem emb18 (t : Fin cfg0.N) (p : Fin 4) (c : Fin 128) (r : Fin 512) :
    ((cfg0.win 18).blk t).view.emb (ix4 0 p c r : S1x4x128x512.Idx) = ix4 (sample t) p c (place t r) := by
  obtain ⟨e0, e1, e2, e3⟩ := index18 t
  exact ix4_of_val _ _ _ _ _
    (by show win0_18.index t (0 : Fin 4) * 1 + 1 * 0 = t.val / 4; omega)
    (by show win0_18.index t (1 : Fin 4) * 4 + 1 * p.val = p.val; omega)
    (by show win0_18.index t (2 : Fin 4) * 128 + 1 * c.val = c.val; omega)
    (by show win0_18.index t (3 : Fin 4) * 512 + 1 * r.val = 512 * (t.val % 4) + r.val; omega)

theorem emb19 (t : Fin cfg0.N) (r : Fin 512) (j : Fin 512) :
    ((cfg0.win 19).blk t).view.emb (ix3 0 r j : S1x512x512.Idx) = ix3 (sample t) (place t r) j := by
  obtain ⟨e0, e1, e2⟩ := index19 t
  exact ix3_of_val _ _ _ _
    (by show win0_19.index t (0 : Fin 3) * 1 + 1 * 0 = t.val / 4; omega)
    (by show win0_19.index t (1 : Fin 3) * 512 + 1 * r.val = 512 * (t.val % 4) + r.val; omega)
    (by show win0_19.index t (2 : Fin 3) * 512 + 1 * j.val = j.val; omega)

theorem emb20 (t : Fin cfg0.N) (r : Fin 512) (j : Fin 1024) :
    ((cfg0.win 20).blk t).view.emb (ix3 0 r j : S1x512x1024.Idx) = ix3 (sample t) (place t r) j := by
  obtain ⟨e0, e1, e2⟩ := index20 t
  exact ix3_of_val _ _ _ _
    (by show win0_20.index t (0 : Fin 3) * 1 + 1 * 0 = t.val / 4; omega)
    (by show win0_20.index t (1 : Fin 3) * 512 + 1 * r.val = 512 * (t.val % 4) + r.val; omega)
    (by show win0_20.index t (2 : Fin 3) * 1024 + 1 * j.val = j.val; omega)

theorem emb21 (t : Fin cfg0.N) (r : Fin 512) (j : Fin 1024) :
    ((cfg0.win 21).blk t).view.emb (ix3 0 r j : S1x512x1024.Idx) = ix3 (sample t) (place t r) j := by
  obtain ⟨e0, e1, e2⟩ := index21 t
  exact ix3_of_val _ _ _ _
    (by show win0_21.index t (0 : Fin 3) * 1 + 1 * 0 = t.val / 4; omega)
    (by show win0_21.index t (1 : Fin 3) * 512 + 1 * r.val = 512 * (t.val % 4) + r.val; omega)
    (by show win0_21.index t (2 : Fin 3) * 1024 + 1 * j.val = j.val; omega)

/-! ## The result arrays -/

theorem idx_q (i : Ix4 1 8 512 128) : ∃ (h : Fin 8) (r : Fin 512) (l : Fin 128), i = ix4 0 h r l :=
  ⟨i 1, i 2, i 3, ix4_of_val _ _ _ _ _ (by have h : (i 0).val < 1 := (i 0).isLt; show (i 0).val = 0; omega) rfl rfl rfl⟩

theorem idx_v (i : Ix4 1 4 128 512) : ∃ (p : Fin 4) (c : Fin 128) (r : Fin 512), i = ix4 0 p c r :=
  ⟨i 1, i 2, i 3, ix4_of_val _ _ _ _ _ (by have h : (i 0).val < 1 := (i 0).isLt; show (i 0).val = 0; omega) rfl rfl rfl⟩

/-- The point whose blocks hold token `n` of sample `b`. -/
def point (b : Fin 32) (n : Fin 2048) : Fin cfg0.N := ⟨4 * b.val + n.val / 512, lt_of_lt_of_eq (by omega) Gen.N_0.symm⟩

theorem sample_point (b : Fin 32) (n : Fin 2048) : sample (point b n) = b :=
  Fin.ext (by show (4 * b.val + n.val / 512) / 4 = b.val; omega)

theorem place_point (b : Fin 32) (n : Fin 2048) : place (point b n) ⟨n.val % 512, by omega⟩ = n :=
  Fin.ext (by show 512 * ((4 * b.val + n.val / 512) % 4) + n.val % 512 = n.val; omega)

/-- What a point leaves is its block of the queries, -/
theorem block_eq16 (c : Dev nD) (t : Fin cfg0.N) (i : S1x8x512x128.Idx) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) i = queries (tokens m c) (((cfg0.win 16).blk t).view.emb i) := by
  obtain ⟨h, r, l, rfl⟩ := idx_q i
  rw [emb16, block16]
  exact congrArg (fun k : Token => k.query h l) (tok_eq m c t r)

theorem covered16 (i : S32x8x2048x128.Idx) : ∃ t : Fin cfg0.N, (cfg0.win 16).flush t = true ∧ i ∈ ((cfg0.win 16).blk t).view.set := by
  obtain ⟨b, k, n, l, rfl⟩ : ∃ (b : Fin 32) (k : Fin 8) (n : Fin 2048) (l : Fin 128), i = ix4 b k n l := ⟨i 0, i 1, i 2, i 3, ix4_of_val i _ _ _ _ rfl rfl rfl rfl⟩
  have h := ((cfg0.win 16).blk (point b n)).view.emb_mem_set (ix4 0 k ⟨n.val % 512, by omega⟩ l : S1x8x512x128.Idx)
  rw [emb16 (point b n) k _ l, sample_point, place_point b n] at h
  exact ⟨point b n, flush0_16 _, h⟩

/-- and the array of queries holds them after the run. -/
theorem final16 (c : Dev nD) : (dats m 0 c).arrAt 16 cfg0.N = queries (tokens m c) := by
  refine (dats m 0 c).arrAt_eq_of_cover 16 (queries (tokens m c)) (fun t _ => ?_) covered16
  show (cfg0.win 16).cut (grid0.coords t) ((dats m 0 c).after 16 t) = _
  rw [after0_16]
  funext i
  exact block_eq16 m c t i

/-- What a point leaves is its block of the keys, -/
theorem block_eq17 (c : Dev nD) (t : Fin cfg0.N) (i : S1x8x512x128.Idx) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) i = keys (tokens m c) (((cfg0.win 17).blk t).view.emb i) := by
  obtain ⟨h, r, l, rfl⟩ := idx_q i
  rw [emb17, block17]
  exact congrArg (fun k : Token => k.key h l) (tok_eq m c t r)

theorem covered17 (i : S32x8x2048x128.Idx) : ∃ t : Fin cfg0.N, (cfg0.win 17).flush t = true ∧ i ∈ ((cfg0.win 17).blk t).view.set := by
  obtain ⟨b, k, n, l, rfl⟩ : ∃ (b : Fin 32) (k : Fin 8) (n : Fin 2048) (l : Fin 128), i = ix4 b k n l := ⟨i 0, i 1, i 2, i 3, ix4_of_val i _ _ _ _ rfl rfl rfl rfl⟩
  have h := ((cfg0.win 17).blk (point b n)).view.emb_mem_set (ix4 0 k ⟨n.val % 512, by omega⟩ l : S1x8x512x128.Idx)
  rw [emb17 (point b n) k _ l, sample_point, place_point b n] at h
  exact ⟨point b n, flush0_17 _, h⟩

/-- and the array of keys holds them after the run. -/
theorem final17 (c : Dev nD) : (dats m 0 c).arrAt 17 cfg0.N = keys (tokens m c) := by
  refine (dats m 0 c).arrAt_eq_of_cover 17 (keys (tokens m c)) (fun t _ => ?_) covered17
  show (cfg0.win 17).cut (grid0.coords t) ((dats m 0 c).after 17 t) = _
  rw [after0_17]
  funext i
  exact block_eq17 m c t i

/-- What a point leaves is its block of the values, -/
theorem block_eq18 (c : Dev nD) (t : Fin cfg0.N) (i : S1x4x128x512.Idx) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) i = values (tokens m c) (((cfg0.win 18).blk t).view.emb i) := by
  obtain ⟨p, c', r, rfl⟩ := idx_v i
  rw [emb18, block18]
  exact congrArg (fun k : Token => k.value ⟨128 * p.val + c'.val, by omega⟩) (tok_eq m c t r)

theorem covered18 (i : S32x4x128x2048.Idx) : ∃ t : Fin cfg0.N, (cfg0.win 18).flush t = true ∧ i ∈ ((cfg0.win 18).blk t).view.set := by
  obtain ⟨b, p, c, n, rfl⟩ : ∃ (b : Fin 32) (p : Fin 4) (c : Fin 128) (n : Fin 2048), i = ix4 b p c n := ⟨i 0, i 1, i 2, i 3, ix4_of_val i _ _ _ _ rfl rfl rfl rfl⟩
  have h := ((cfg0.win 18).blk (point b n)).view.emb_mem_set (ix4 0 p c ⟨n.val % 512, by omega⟩ : S1x4x128x512.Idx)
  rw [emb18 (point b n) p c _, sample_point, place_point b n] at h
  exact ⟨point b n, flush0_18 _, h⟩

/-- and the array of values holds them after the run. -/
theorem final18 (c : Dev nD) : (dats m 0 c).arrAt 18 cfg0.N = values (tokens m c) := by
  refine (dats m 0 c).arrAt_eq_of_cover 18 (values (tokens m c)) (fun t _ => ?_) covered18
  show (cfg0.win 18).cut (grid0.coords t) ((dats m 0 c).after 18 t) = _
  rw [after0_18]
  funext i
  exact block_eq18 m c t i

/-- What a point leaves is its block of the Fourier channels, -/
theorem block_eq19 (c : Dev nD) (t : Fin cfg0.N) (i : S1x512x512.Idx) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) i = fouriers (tokens m c) (((cfg0.win 19).blk t).view.emb i) := by
  obtain ⟨r, j, rfl⟩ := block_idx i
  rw [emb19, block19]
  exact congrArg (fun k : Token => k.fourier j) (tok_eq m c t r)

theorem covered19 (i : S32x2048x512.Idx) : ∃ t : Fin cfg0.N, (cfg0.win 19).flush t = true ∧ i ∈ ((cfg0.win 19).blk t).view.set := by
  obtain ⟨b, n, j, rfl⟩ : ∃ (b : Fin 32) (n : Fin 2048) (j : Fin 512), i = ix3 b n j := ⟨i 0, i 1, i 2, ix3_of_val i _ _ _ rfl rfl rfl⟩
  have h := ((cfg0.win 19).blk (point b n)).view.emb_mem_set (ix3 0 ⟨n.val % 512, by omega⟩ j : S1x512x512.Idx)
  rw [emb19 (point b n) _ j, sample_point, place_point b n] at h
  exact ⟨point b n, flush0_19 _, h⟩

/-- and the array of Fourier channels holds them after the run. -/
theorem final19 (c : Dev nD) : (dats m 0 c).arrAt 19 cfg0.N = fouriers (tokens m c) := by
  refine (dats m 0 c).arrAt_eq_of_cover 19 (fouriers (tokens m c)) (fun t _ => ?_) covered19
  show (cfg0.win 19).cut (grid0.coords t) ((dats m 0 c).after 19 t) = _
  rw [after0_19]
  funext i
  exact block_eq19 m c t i

/-- What a point leaves is its block of the first gates, -/
theorem block_eq20 (c : Dev nD) (t : Fin cfg0.N) (i : S1x512x1024.Idx) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) i = gatesA (tokens m c) (((cfg0.win 20).blk t).view.emb i) := by
  obtain ⟨r, j, rfl⟩ := block_idx i
  rw [emb20, block20]
  exact congrArg (fun k : Token => k.gateA j) (tok_eq m c t r)

theorem covered20 (i : S32x2048x1024.Idx) : ∃ t : Fin cfg0.N, (cfg0.win 20).flush t = true ∧ i ∈ ((cfg0.win 20).blk t).view.set := by
  obtain ⟨b, n, j, rfl⟩ : ∃ (b : Fin 32) (n : Fin 2048) (j : Fin 1024), i = ix3 b n j := ⟨i 0, i 1, i 2, ix3_of_val i _ _ _ rfl rfl rfl⟩
  have h := ((cfg0.win 20).blk (point b n)).view.emb_mem_set (ix3 0 ⟨n.val % 512, by omega⟩ j : S1x512x1024.Idx)
  rw [emb20 (point b n) _ j, sample_point, place_point b n] at h
  exact ⟨point b n, flush0_20 _, h⟩

/-- and the array of first gates holds them after the run. -/
theorem final20 (c : Dev nD) : (dats m 0 c).arrAt 20 cfg0.N = gatesA (tokens m c) := by
  refine (dats m 0 c).arrAt_eq_of_cover 20 (gatesA (tokens m c)) (fun t _ => ?_) covered20
  show (cfg0.win 20).cut (grid0.coords t) ((dats m 0 c).after 20 t) = _
  rw [after0_20]
  funext i
  exact block_eq20 m c t i

/-- What a point leaves is its block of the second gates, -/
theorem block_eq21 (c : Dev nD) (t : Fin cfg0.N) (i : S1x512x1024.Idx) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) i = gatesB (tokens m c) (((cfg0.win 21).blk t).view.emb i) := by
  obtain ⟨r, j, rfl⟩ := block_idx i
  rw [emb21, block21]
  exact congrArg (fun k : Token => k.gateB j) (tok_eq m c t r)

theorem covered21 (i : S32x2048x1024.Idx) : ∃ t : Fin cfg0.N, (cfg0.win 21).flush t = true ∧ i ∈ ((cfg0.win 21).blk t).view.set := by
  obtain ⟨b, n, j, rfl⟩ : ∃ (b : Fin 32) (n : Fin 2048) (j : Fin 1024), i = ix3 b n j := ⟨i 0, i 1, i 2, ix3_of_val i _ _ _ rfl rfl rfl⟩
  have h := ((cfg0.win 21).blk (point b n)).view.emb_mem_set (ix3 0 ⟨n.val % 512, by omega⟩ j : S1x512x1024.Idx)
  rw [emb21 (point b n) _ j, sample_point, place_point b n] at h
  exact ⟨point b n, flush0_21 _, h⟩

/-- and the array of second gates holds them after the run. -/
theorem final21 (c : Dev nD) : (dats m 0 c).arrAt 21 cfg0.N = gatesB (tokens m c) := by
  refine (dats m 0 c).arrAt_eq_of_cover 21 (gatesB (tokens m c)) (fun t _ => ?_) covered21
  show (cfg0.win 21).cut (grid0.coords t) ((dats m 0 c).after 21 t) = _
  rw [after0_21]
  funext i
  exact block_eq21 m c t i

/-- Every run ends with the six arrays over the arguments' tokens in the results, and the arguments as they were. -/
theorem run : θ_run defs (onTc (τ := τ) (main (F := Ideal))) ⟨m, fun _ => 0, ρ⟩ (fun r => ∀ c : Dev nD,
      r.2.mem ((c.tc : Thread nD τ).loc main_v0_0) = queries (tokens m c)
      ∧ r.2.mem ((c.tc : Thread nD τ).loc main_v0_1) = keys (tokens m c)
      ∧ r.2.mem ((c.tc : Thread nD τ).loc main_v0_2) = values (tokens m c)
      ∧ r.2.mem ((c.tc : Thread nD τ).loc main_v0_3) = fouriers (tokens m c)
      ∧ r.2.mem ((c.tc : Thread nD τ).loc main_v0_4) = gatesA (tokens m c)
      ∧ r.2.mem ((c.tc : Thread nD τ).loc main_v0_5) = gatesB (tokens m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h.1 c).1 16).trans (final16 m c), ((h.1 c).1 17).trans (final17 m c),
      ((h.1 c).1 18).trans (final18 m c), ((h.1 c).1 19).trans (final19 m c), ((h.1 c).1 20).trans (final20 m c),
      ((h.1 c).1 21).trans (final21 m c), h.2 c⟩)
    (θ_run_and (run_main m ρ) (unchanged m ρ))

end Cert.ProjIdeal.Lat

end
-- ==== Proof.ProjRef.lean ====
/-
  THE PROJECTION'S REFERENCE, at the extended reals: its six results are `Projection.queries` … `Projection.gatesB` over the tokens
  of its arguments. It divides the sums of squares where the kernel multiplies them by a reciprocal, joins the two halves of a
  head where the kernel turns its lanes, and works on whole arrays.
-/
module

public import proofs.«01_k».proof.Proof.Projection
public import proofs.«01_k».proof.Proof.Gen.ProjReferenceIdeal.Run
public import proofs.«01_k».proof.Proof.Gen.ProjReferenceIdeal.Read
public import Idealize.ShloMosaic.Lib.KernelVsHost
public import Idealize.ShloMosaic.Lib.Pointwise

@[expose] public section

set_option maxRecDepth 16384
noncomputable section

namespace Cert.ProjReferenceIdeal.Lat

open Cert.ProjReferenceIdeal Cert.ProjReferenceIdeal.Gen Cert.ProjReferenceIdeal.Read Cert.Projection
open Idealize.ShloMosaic Idealize.ShloMosaic.TcCoe Idealize.ShloMosaic.Pointwise Idealize.SL.Sem

variable (x0 : Vec Ideal S32x2048x1024 .f32) (x1 : Vec Ideal S1x1024 .f32) (x2 x3 : Vec Ideal S32x1x1024 .f32) (x4 : Vec Ideal S1024x3328 .bf16)
  (x5 : Vec Ideal S1x384 .f32) (x6 : Vec Ideal S1x256 .f32) (x7 : Vec Ideal S384x1024 .bf16) (x8 : Vec Ideal S256x1024 .bf16)
  (x9 : Vec Ideal S256x512 .bf16) (x10 x11 x12 x13 : Vec Ideal S1x128 .f32) (x14 x15 : Vec Ideal S2048x128 .f32)

/-- The tokens of the reference's arguments. -/
abbrev tokens : Fin 32 → Fin 2048 → Token := token (B := 32) (T := 2048) x0 x1 x2 x3 x4 x5 x6 x7 x8 x9 x10 x11 x12 x13 x14 x15

/-! ## A mean by division -/

theorem div_eq (s : EReal) (n : ℝ) (hn : n ≠ 0) : Ideal.div s (n : EReal) = s * per n := by
  unfold Ideal.div per
  rw [if_neg (by exact_mod_cast hn), one_div, EReal.coe_inv]

theorem div_1024 (s : EReal) : Ideal.div s (Ideal.ofBits .f32 0x44800000#32) = s * per 1024 := by
  have e : Ideal.ofBits .f32 0x44800000#32 = ((1024 : ℝ) : EReal) := by
    simp [Ideal.ofBits, Ideal.ieee]
    rw [← EReal.coe_mul]; norm_num
  rw [e, div_eq _ _ (by norm_num)]
theorem div_384 (s : EReal) : Ideal.div s (Ideal.ofBits .f32 0x43C00000#32) = s * per 384 := by
  have e : Ideal.ofBits .f32 0x43C00000#32 = ((384 : ℝ) : EReal) := by
    simp [Ideal.ofBits, Ideal.ieee]
    rw [← EReal.coe_mul]; norm_num
  rw [e, div_eq _ _ (by norm_num)]
theorem div_256 (s : EReal) : Ideal.div s (Ideal.ofBits .f32 0x43800000#32) = s * per 256 := by
  have e : Ideal.ofBits .f32 0x43800000#32 = ((256 : ℝ) : EReal) := by
    simp [Ideal.ofBits, Ideal.ieee]
    rw [← EReal.coe_mul]; norm_num
  rw [e, div_eq _ _ (by norm_num)]
theorem div_96 (s : EReal) : Ideal.div s (Ideal.ofBits .f32 0x42C00000#32) = s * per 96 := by
  have e : Ideal.ofBits .f32 0x42C00000#32 = ((96 : ℝ) : EReal) := by
    simp [Ideal.ofBits, Ideal.ieee]
    rw [← EReal.coe_mul]; norm_num
  rw [e, div_eq _ _ (by norm_num)]

/-! ## The stages -/

theorem hidden_eq (b : Fin 32) (n : Fin 2048) (d : Fin 1024) :
    val_main_v19 (F := Ideal) x0 x1 x2 x3 (ix3 b n d) = (tokens x0 x1 x2 x3 x4 x5 x6 x7 x8 x9 x10 x11 x12 x13 x14 x15 b n).hidden d := by
  unfold val_main_v19 val_main_v18 val_main_v17 val_main_v16 val_main_v15 val_main_v14 val_main_cst_2 val_main_v13 val_main_v12
    val_main_v11 val_main_v10 val_main_v9 val_main_v8 val_main_v7 val_main_v6 val_main_cst_1 val_main_v5 val_main_v4 val_main_cst_0
    val_main_v3 val_main_v2 val_main_cst val_main_v1 val_main_v0
  pointwise
  rw [div_1024]
  rfl

theorem input_eq (b : Fin 32) (n : Fin 2048) (j : Fin 3328) :
    val_main_v21 (F := Ideal) x0 x1 x2 x3 x4 (ix3 b n j) = (tokens x0 x1 x2 x3 x4 x5 x6 x7 x8 x9 x10 x11 x12 x13 x14 x15 b n).input j := by
  have h := hidden_eq x0 x1 x2 x3 x4 x5 x6 x7 x8 x9 x10 x11 x12 x13 x14 x15 b n
  unfold val_main_v21 val_main_v20
  revert h
  generalize val_main_v19 (F := Ideal) x0 x1 x2 x3 = y
  intro h
  pointwise
  exact Finset.sum_congr rfl fun d _ => congrArg (· * _) (h d)

theorem qLatent_eq (b : Fin 32) (n : Fin 2048) (e : Fin 384) :
    val_main_v36 (F := Ideal) x0 x1 x2 x3 x4 x5 (ix3 b n e) = (tokens x0 x1 x2 x3 x4 x5 x6 x7 x8 x9 x10 x11 x12 x13 x14 x15 b n).qLatent e := by
  have h := fun e : Fin 384 => input_eq x0 x1 x2 x3 x4 x5 x6 x7 x8 x9 x10 x11 x12 x13 x14 x15 b n ⟨e.val, by omega⟩
  unfold val_main_v36 val_main_v35 val_main_v34 val_main_v33 val_main_v32 val_main_v31 val_main_v30 val_main_v29 val_main_cst_5
    val_main_v28 val_main_v27 val_main_cst_4 val_main_v26 val_main_v25 val_main_cst_3 val_main_v24 val_main_v23 val_main_v22
  revert h
  generalize val_main_v21 (F := Ideal) x0 x1 x2 x3 x4 = y
  intro h
  pointwise
  simp only [h]
  rw [div_384]
  rfl

theorem kvLatent_eq (b : Fin 32) (n : Fin 2048) (e : Fin 256) :
    val_main_v52 (F := Ideal) x0 x1 x2 x3 x4 x6 (ix3 b n e) = (tokens x0 x1 x2 x3 x4 x5 x6 x7 x8 x9 x10 x11 x12 x13 x14 x15 b n).kvLatent e := by
  have h := fun e : Fin 256 => input_eq x0 x1 x2 x3 x4 x5 x6 x7 x8 x9 x10 x11 x12 x13 x14 x15 b n ⟨512 + e.val, by omega⟩
  unfold val_main_v52 val_main_v51 val_main_v50 val_main_v49 val_main_v48 val_main_v47 val_main_v46 val_main_v45 val_main_cst_8
    val_main_v44 val_main_v43 val_main_cst_7 val_main_v42 val_main_v41 val_main_cst_6 val_main_v40 val_main_v39 val_main_v38
  revert h
  generalize val_main_v21 (F := Ideal) x0 x1 x2 x3 x4 = y
  intro h
  pointwise
  simp only [h]
  rw [div_256]
  rfl

theorem slot_eq (h : Fin 8) (l : Fin 128) (p : h.val * 128 + l.val < 1024) : (⟨h.val * 128 + l.val, p⟩ : Fin 1024) = slot h l :=
  Fin.ext (by show h.val * 128 + l.val = 128 * h.val + l.val; omega)

theorem rawQuery_eq (b : Fin 32) (n : Fin 2048) (h : Fin 8) (l : Fin 128) :
    val_main_v55 (F := Ideal) x0 x1 x2 x3 x4 x5 x7 (ix4 b n h l) = (tokens x0 x1 x2 x3 x4 x5 x6 x7 x8 x9 x10 x11 x12 x13 x14 x15 b n).rawQuery h l := by
  have hq := qLatent_eq x0 x1 x2 x3 x4 x5 x6 x7 x8 x9 x10 x11 x12 x13 x14 x15 b n
  unfold val_main_v55 val_main_v54 val_main_v53
  revert hq
  generalize val_main_v36 (F := Ideal) x0 x1 x2 x3 x4 x5 = y
  intro hq
  pointwise
  rw [slot_eq]
  exact Finset.sum_congr rfl fun e _ => congrArg (· * _) (hq e)

theorem rawKey_eq (b : Fin 32) (n : Fin 2048) (h : Fin 8) (l : Fin 128) :
    val_main_v61 (F := Ideal) x0 x1 x2 x3 x4 x6 x8 (ix4 b n h l) = (tokens x0 x1 x2 x3 x4 x5 x6 x7 x8 x9 x10 x11 x12 x13 x14 x15 b n).rawKey h l := by
  have hk := kvLatent_eq x0 x1 x2 x3 x4 x5 x6 x7 x8 x9 x10 x11 x12 x13 x14 x15 b n
  have hp := input_eq x0 x1 x2 x3 x4 x5 x6 x7 x8 x9 x10 x11 x12 x13 x14 x15 b n ⟨384 + l.val, by omega⟩
  unfold val_main_v61 val_main_v60 val_main_v59 val_main_v58 val_main_v57 val_main_v56 val_main_v37
  revert hk hp
  generalize val_main_v52 (F := Ideal) x0 x1 x2 x3 x4 x6 = y
  generalize val_main_v21 (F := Ideal) x0 x1 x2 x3 x4 = z
  intro hk hp
  pointwise
  rw [slot_eq, hp]
  exact congrArg (· + _) (Finset.sum_congr rfl fun e _ => congrArg (· * _) (hk e))

/-! ## The heads -/

/-- The two halves of a head joined the other way round. -/
def swapped (y : FVec Ideal S32x2048x8x128 .f32) : FVec Ideal S32x2048x8x128 .f32 :=
  concatenate S32x2048x8x128 3 [⟨S32x2048x8x64, extractStridedSlice S32x2048x8x64 ![0, 0, 0, 64] y slices_S32x2048x8x128_S32x2048x8x64_0_0_0_64⟩, ⟨S32x2048x8x64, extractStridedSlice S32x2048x8x64 ![0, 0, 0, 0] y slices_S32x2048x8x128_S32x2048x8x64_0_0_0_0⟩] concatenates_S32x2048x8x64_S32x2048x8x64_S32x2048x8x128_d3

theorem swapped_left (y : FVec Ideal S32x2048x8x128 .f32) (b : Fin 32) (n : Fin 2048) (h : Fin 8) (k : Fin 64) :
    swapped y (ix4 b n h ⟨k.val, by omega⟩) = y (ix4 b n h ⟨64 + k.val, by omega⟩) := by
  unfold swapped
  pointwise
theorem swapped_right (y : FVec Ideal S32x2048x8x128 .f32) (b : Fin 32) (n : Fin 2048) (h : Fin 8) (k : Fin 64) :
    swapped y (ix4 b n h ⟨64 + k.val, by omega⟩) = y (ix4 b n h ⟨k.val, by omega⟩) := by
  unfold swapped
  pointwise

/-- It is the head turned by half. -/
theorem swapped_apply (y : FVec Ideal S32x2048x8x128 .f32) (b : Fin 32) (n : Fin 2048) (h : Fin 8) (l : Fin 128) :
    swapped y (ix4 b n h l) = y (ix4 b n h (half l)) := by
  by_cases hl : l.val < 64
  · refine (swapped_left y b n h ⟨l.val, hl⟩).trans (congrArg (fun l => y (ix4 b n h l)) (Fin.ext ?_))
    show 64 + l.val = (l.val + 64) % 128
    omega
  · have e : l = ⟨64 + (⟨l.val - 64, by omega⟩ : Fin 64).val, by show 64 + (l.val - 64) < 128; omega⟩ :=
      Fin.ext (by show l.val = 64 + (l.val - 64); omega)
    refine (congrArg (fun l => swapped y (ix4 b n h l)) e).trans ((swapped_right y b n h _).trans (congrArg (fun l => y (ix4 b n h l)) (Fin.ext ?_)))
    show l.val - 64 = (l.val + 64) % 128
    omega

theorem qNorm_eq (b : Fin 32) (n : Fin 2048) (h : Fin 8) (l : Fin 128) : val_main_v77 (F := Ideal) x0 x1 x2 x3 x4 x5 x7 x10 (ix4 b n h l)
    = rms (per 96) ((tokens x0 x1 x2 x3 x4 x5 x6 x7 x8 x9 x10 x11 x12 x13 x14 x15 b n).rawQuery h) l * x10 (ix2 0 l) := by
  have hy := rawQuery_eq x0 x1 x2 x3 x4 x5 x6 x7 x8 x9 x10 x11 x12 x13 x14 x15 b n h
  unfold val_main_v77 val_main_v76 val_main_v75 val_main_v74 val_main_v73 val_main_v72 val_main_v71 val_main_v70 val_main_cst_11
    val_main_v69 val_main_v68 val_main_cst_10 val_main_v67 val_main_v66 val_main_cst_9 val_main_v65 val_main_v64
  revert hy
  generalize val_main_v55 (F := Ideal) x0 x1 x2 x3 x4 x5 x7 = y
  intro hy
  pointwise
  simp only [hy]
  rw [div_96]
  rfl

theorem kNorm_eq (b : Fin 32) (n : Fin 2048) (h : Fin 8) (l : Fin 128) : val_main_v105 (F := Ideal) x0 x1 x2 x3 x4 x6 x8 x11 (ix4 b n h l)
    = rms (per 96) ((tokens x0 x1 x2 x3 x4 x5 x6 x7 x8 x9 x10 x11 x12 x13 x14 x15 b n).rawKey h) l * x11 (ix2 0 l) := by
  have hy := rawKey_eq x0 x1 x2 x3 x4 x5 x6 x7 x8 x9 x10 x11 x12 x13 x14 x15 b n h
  unfold val_main_v105 val_main_v104 val_main_v103 val_main_v102 val_main_v101 val_main_v100 val_main_v99 val_main_v98 val_main_cst_14
    val_main_v97 val_main_v96 val_main_cst_13 val_main_v95 val_main_v94 val_main_cst_12 val_main_v93 val_main_v92
  revert hy
  generalize val_main_v61 (F := Ideal) x0 x1 x2 x3 x4 x6 x8 = y
  intro hy
  pointwise
  simp only [hy]
  rw [div_96]
  rfl

theorem query_eq (b : Fin 32) (n : Fin 2048) (h : Fin 8) (l : Fin 128) :
    val_main_v121 (F := Ideal) x0 x1 x2 x3 x4 x5 x7 x10 x12 x14 x15 (ix4 b h n l) = (tokens x0 x1 x2 x3 x4 x5 x6 x7 x8 x9 x10 x11 x12 x13 x14 x15 b n).query h l := by
  have hy := qNorm_eq x0 x1 x2 x3 x4 x5 x6 x7 x8 x9 x10 x11 x12 x13 x14 x15 b n h
  have hj := swapped_apply (val_main_v77 (F := Ideal) x0 x1 x2 x3 x4 x5 x7 x10) b n h l
  unfold val_main_v121 val_main_v120 val_main_v91 val_main_v90 val_main_v89 val_main_v88 val_main_v87 val_main_v86 val_main_v85
    val_main_v84 val_main_v83 val_main_v82 val_main_v81 val_main_v80 val_main_v79 val_main_v78
  revert hy hj
  generalize val_main_v77 (F := Ideal) x0 x1 x2 x3 x4 x5 x7 x10 = y
  intro hy hj
  unfold swapped at hj
  revert hj
  generalize concatenate S32x2048x8x128 3 _ _ = z
  intro hj
  pointwise
  rw [hj, hy, hy]
  rfl

theorem key_eq (b : Fin 32) (n : Fin 2048) (h : Fin 8) (l : Fin 128) :
    val_main_v123 (F := Ideal) x0 x1 x2 x3 x4 x6 x8 x11 x13 x14 x15 (ix4 b h n l) = (tokens x0 x1 x2 x3 x4 x5 x6 x7 x8 x9 x10 x11 x12 x13 x14 x15 b n).key h l := by
  have hy := kNorm_eq x0 x1 x2 x3 x4 x5 x6 x7 x8 x9 x10 x11 x12 x13 x14 x15 b n h
  have hj := swapped_apply (val_main_v105 (F := Ideal) x0 x1 x2 x3 x4 x6 x8 x11) b n h l
  unfold val_main_v123 val_main_v122 val_main_v119 val_main_v118 val_main_v117 val_main_v116 val_main_v115 val_main_v114 val_main_v113
    val_main_v112 val_main_v111 val_main_v110 val_main_v109 val_main_v108 val_main_v107 val_main_v106
  revert hy hj
  generalize val_main_v105 (F := Ideal) x0 x1 x2 x3 x4 x6 x8 x11 = y
  intro hy hj
  unfold swapped at hj
  revert hj
  generalize concatenate S32x2048x8x128 3 _ _ = z
  intro hj
  pointwise
  rw [hj, hy, hy]
  rfl

/-! ## The values, the Fourier channels and the gates -/

theorem value_eq (b : Fin 32) (n : Fin 2048) (p : Fin 4) (c : Fin 128) : val_main_v126 (F := Ideal) x0 x1 x2 x3 x4 x6 x9 (ix4 b p c n)
    = (tokens x0 x1 x2 x3 x4 x5 x6 x7 x8 x9 x10 x11 x12 x13 x14 x15 b n).value ⟨128 * p.val + c.val, by omega⟩ := by
  have hk := kvLatent_eq x0 x1 x2 x3 x4 x5 x6 x7 x8 x9 x10 x11 x12 x13 x14 x15 b n
  unfold val_main_v126 val_main_v125 val_main_v124 val_main_v63 val_main_v62
  revert hk
  generalize val_main_v52 (F := Ideal) x0 x1 x2 x3 x4 x6 = y
  intro hk
  pointwise
  rw [show (⟨p.val * 128 + c.val, by omega⟩ : Fin 512) = ⟨128 * p.val + c.val, by omega⟩ from Fin.ext (by show p.val * 128 + c.val = 128 * p.val + c.val; omega)]
  exact Finset.sum_congr rfl fun e _ => congrArg (· * _) (hk e)

theorem fourier_eq (b : Fin 32) (n : Fin 2048) (j : Fin 512) :
    val_main_v128 (F := Ideal) x0 x1 x2 x3 x4 (ix3 b n j) = (tokens x0 x1 x2 x3 x4 x5 x6 x7 x8 x9 x10 x11 x12 x13 x14 x15 b n).fourier j := by
  have h := input_eq x0 x1 x2 x3 x4 x5 x6 x7 x8 x9 x10 x11 x12 x13 x14 x15 b n ⟨768 + j.val, by omega⟩
  unfold val_main_v128 val_main_v127
  revert h
  generalize val_main_v21 (F := Ideal) x0 x1 x2 x3 x4 = y
  intro h
  pointwise
  exact h

theorem gateA_eq (b : Fin 32) (n : Fin 2048) (j : Fin 1024) :
    val_main_v136 (F := Ideal) x0 x1 x2 x3 x4 (ix3 b n j) = (tokens x0 x1 x2 x3 x4 x5 x6 x7 x8 x9 x10 x11 x12 x13 x14 x15 b n).gateA j := by
  have h := input_eq x0 x1 x2 x3 x4 x5 x6 x7 x8 x9 x10 x11 x12 x13 x14 x15 b n ⟨1280 + j.val, by omega⟩
  unfold val_main_v136 val_main_v135 val_main_v134 val_main_cst_16 val_main_v133 val_main_v132 val_main_cst_15 val_main_v131
    val_main_v130 val_main_v129
  revert h
  generalize val_main_v21 (F := Ideal) x0 x1 x2 x3 x4 = y
  intro h
  pointwise
  rw [h]
  rfl

theorem gateB_eq (b : Fin 32) (n : Fin 2048) (j : Fin 1024) :
    val_main_v144 (F := Ideal) x0 x1 x2 x3 x4 (ix3 b n j) = (tokens x0 x1 x2 x3 x4 x5 x6 x7 x8 x9 x10 x11 x12 x13 x14 x15 b n).gateB j := by
  have h := input_eq x0 x1 x2 x3 x4 x5 x6 x7 x8 x9 x10 x11 x12 x13 x14 x15 b n ⟨2304 + j.val, by omega⟩
  unfold val_main_v144 val_main_v143 val_main_v142 val_main_cst_18 val_main_v141 val_main_v140 val_main_cst_17 val_main_v139
    val_main_v138 val_main_v137
  revert h
  generalize val_main_v21 (F := Ideal) x0 x1 x2 x3 x4 = y
  intro h
  pointwise
  rw [h]
  rfl

/-! ## The six results -/

theorem idx4 {a b c d : Nat} (i : Ix4 a b c d) : i = ix4 (i 0) (i 1) (i 2) (i 3) := by funext k; fin_cases k <;> rfl
theorem idx3 {a b c : Nat} (i : Ix3 a b c) : i = ix3 (i 0) (i 1) (i 2) := by funext k; fin_cases k <;> rfl

theorem queries_eq : val_main_v121 (F := Ideal) x0 x1 x2 x3 x4 x5 x7 x10 x12 x14 x15 = queries (tokens x0 x1 x2 x3 x4 x5 x6 x7 x8 x9 x10 x11 x12 x13 x14 x15) :=
  funext fun i => (congrArg _ (idx4 i)).trans (query_eq x0 x1 x2 x3 x4 x5 x6 x7 x8 x9 x10 x11 x12 x13 x14 x15 (i 0) (i 2) (i 1) (i 3))
theorem keys_eq : val_main_v123 (F := Ideal) x0 x1 x2 x3 x4 x6 x8 x11 x13 x14 x15 = keys (tokens x0 x1 x2 x3 x4 x5 x6 x7 x8 x9 x10 x11 x12 x13 x14 x15) :=
  funext fun i => (congrArg _ (idx4 i)).trans (key_eq x0 x1 x2 x3 x4 x5 x6 x7 x8 x9 x10 x11 x12 x13 x14 x15 (i 0) (i 2) (i 1) (i 3))
theorem values_eq : val_main_v126 (F := Ideal) x0 x1 x2 x3 x4 x6 x9 = values (tokens x0 x1 x2 x3 x4 x5 x6 x7 x8 x9 x10 x11 x12 x13 x14 x15) :=
  funext fun i => (congrArg _ (idx4 i)).trans (value_eq x0 x1 x2 x3 x4 x5 x6 x7 x8 x9 x10 x11 x12 x13 x14 x15 (i 0) (i 3) (i 1) (i 2))
theorem fouriers_eq : val_main_v128 (F := Ideal) x0 x1 x2 x3 x4 = fouriers (tokens x0 x1 x2 x3 x4 x5 x6 x7 x8 x9 x10 x11 x12 x13 x14 x15) :=
  funext fun i => (congrArg _ (idx3 i)).trans (fourier_eq x0 x1 x2 x3 x4 x5 x6 x7 x8 x9 x10 x11 x12 x13 x14 x15 (i 0) (i 1) (i 2))
theorem gatesA_eq : val_main_v136 (F := Ideal) x0 x1 x2 x3 x4 = gatesA (tokens x0 x1 x2 x3 x4 x5 x6 x7 x8 x9 x10 x11 x12 x13 x14 x15) :=
  funext fun i => (congrArg _ (idx3 i)).trans (gateA_eq x0 x1 x2 x3 x4 x5 x6 x7 x8 x9 x10 x11 x12 x13 x14 x15 (i 0) (i 1) (i 2))
theorem gatesB_eq : val_main_v144 (F := Ideal) x0 x1 x2 x3 x4 = gatesB (tokens x0 x1 x2 x3 x4 x5 x6 x7 x8 x9 x10 x11 x12 x13 x14 x15) :=
  funext fun i => (congrArg _ (idx3 i)).trans (gateB_eq x0 x1 x2 x3 x4 x5 x6 x7 x8 x9 x10 x11 x12 x13 x14 x15 (i 0) (i 1) (i 2))

/-- The tokens of the arrays that the reference starts from on device `c`. -/
abbrev held (m : (ℓ : Loc nD τ sig) → Buf (Elt Ideal) ℓ) (c : Dev nD) : Fin 32 → Fin 2048 → Token :=
  tokens (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- Every run of the reference ends with the six arrays in its results, and the arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v121) = queries (held m c)
      ∧ r.2.mem ((c.tc : Thread nD τ).loc main_v123) = keys (held m c)
      ∧ r.2.mem ((c.tc : Thread nD τ).loc main_v126) = values (held m c)
      ∧ r.2.mem ((c.tc : Thread nD τ).loc main_v128) = fouriers (held m c)
      ∧ r.2.mem ((c.tc : Thread nD τ).loc main_v136) = gatesA (held m c)
      ∧ r.2.mem ((c.tc : Thread nD τ).loc main_v144) = gatesB (held m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    have ⟨e0, e1, e2, e3, e4, e5, args⟩ := h c
    ⟨e0.trans ((val_main_v121_eq m c).trans (queries_eq ..)), e1.trans ((val_main_v123_eq m c).trans (keys_eq ..)),
      e2.trans ((val_main_v126_eq m c).trans (values_eq ..)), e3.trans ((val_main_v128_eq ..).trans (fouriers_eq ..)),
      e4.trans ((val_main_v136_eq ..).trans (gatesA_eq ..)), e5.trans ((val_main_v144_eq ..).trans (gatesB_eq ..)), args⟩)
    (Value.run (F := Ideal) m ρ)

end Cert.ProjReferenceIdeal.Lat

end
-- ==== Proof.Merging.lean ====
/-
  THE MERGE AS A FUNCTION OF ONE TOKEN, at the extended reals. Everything the merge leaves of a token (its new residual row, its
  normalized and modulated row, and its affinities to the sixteen experts) is a function of the token's own rows, of its sample's
  gate, scale and shift and of the weights: a `Token`. The three result arrays are this read at every token (`residuals`,
  `modulateds`, `affinities`). From finite gains, scales, shifts and router weights the modulated rows are real (`hidden_real`),
  whatever the other arguments hold.
-/
module

public import proofs.«01_k».proof.Proof.Projection
public import proofs.«01_k».proof.Proof.Softmax

@[expose] public section

noncomputable section

namespace Cert.Merging

open Idealize.ShloMosaic Idealize.ShloMosaic.Pointwise Cert.Projection Cert.Softmax

/-- The largest entry of a row. -/
def top {n : Nat} (y : Fin n → EReal) : EReal := (Finset.univ : Finset (Fin n)).fold max ⊥ y

/-- The softmax of a row. -/
def softmax {n : Nat} (y : Fin n → EReal) (e : Fin n) : EReal := Ideal.div (Ideal.exp (y e - top y)) (∑ k, Ideal.exp (y k - top y))

/-- A token: its rows, and what the merge takes beside them. -/
@[ext] structure Token where
  attn : Fin 512 → EReal
  four : Fin 512 → EReal
  gateA : Fin 1024 → EReal
  gateB : Fin 1024 → EReal
  x : Fin 1024 → EReal
  gate : Fin 1024 → EReal
  gain : Fin 1024 → EReal
  scale : Fin 1024 → EReal
  shift : Fin 1024 → EReal
  wo : Fin 512 → Fin 1024 → EReal
  wf : Fin 512 → Fin 1024 → EReal
  wout : Fin 1024 → Fin 1024 → EReal
  wr : Fin 1024 → Fin 16 → EReal

namespace Token

variable (k : Token)

/-- Channel `j` of the two mixers' gated outputs. -/
def mix (j : Fin 1024) : EReal := k.gateA j * ∑ a, k.attn a * k.wo a j + k.gateB j * ∑ a, k.four a * k.wf a j
/-- The token's new residual row. -/
def residual (d : Fin 1024) : EReal := k.x d + k.gate d * ∑ j, k.mix j * k.wout j d
/-- The row normalized and modulated. -/
def hidden (d : Fin 1024) : EReal := rms (per 1024) k.residual d * k.gain d * (1 + k.scale d) + k.shift d
/-- The score of expert `e`. -/
def logit (e : Fin 16) : EReal := ∑ d, k.hidden d * k.wr d e
/-- The affinities in a row of 128 lanes, zero beyond the sixteen experts. -/
def affinity (l : Fin 128) : EReal := if h : l.val < 16 then softmax k.logit ⟨l.val, h⟩ else 0

end Token

/-- Token `t` of sample `b` of arrays with `B` samples of `T` tokens; the attention lies channels first, in four planes of 128. -/
def token {B T : Nat} (attn : Ix4 B 4 128 T → EReal) (four : Ix3 B T 512 → EReal) (ga gb x : Ix3 B T 1024 → EReal) (g : Ix3 B 1 1024 → EReal)
    (gain : Ix2 1 1024 → EReal) (sc sh : Ix3 B 1 1024 → EReal) (wo wf : Ix2 512 1024 → EReal) (wout : Ix2 1024 1024 → EReal)
    (wr : Fin 1024 → Fin 16 → EReal) (b : Fin B) (t : Fin T) : Token where
  attn a := attn (ix4 b ⟨a.val / 128, by omega⟩ ⟨a.val % 128, by omega⟩ t)
  four a := four (ix3 b t a)
  gateA j := ga (ix3 b t j)
  gateB j := gb (ix3 b t j)
  x d := x (ix3 b t d)
  gate d := g (ix3 b 0 d)
  gain d := gain (ix2 0 d)
  scale d := sc (ix3 b 0 d)
  shift d := sh (ix3 b 0 d)
  wo a j := wo (ix2 a j)
  wf a j := wf (ix2 a j)
  wout j d := wout (ix2 j d)
  wr := wr

variable {B T : Nat} (tok : Fin B → Fin T → Token)

/-- The result arrays: residual rows by sample, token and channel; -/
def residuals (i : Ix3 B T 1024) : EReal := (tok (i 0) (i 1)).residual (i 2)
/-- modulated rows, each as eight rows of 128 lanes; -/
def modulateds (i : Ix3 B (T * 8) 128) : EReal := (tok (i 0) ⟨(i 1).val / 8, by
  have h1 : (i 1).val < T * 8 := (i 1).isLt
  omega⟩).hidden ⟨128 * ((i 1).val % 8) + (i 2).val, by
  have h2 : (i 2).val < 128 := (i 2).isLt
  omega⟩
/-- affinities by sample, token and lane. -/
def affinities (i : Ix3 B T 128) : EReal := (tok (i 0) (i 1)).affinity (i 2)

/-! ## The modulated rows are real -/

theorem eps_real : ∃ e : ℝ, 0 < e ∧ eps = (e : EReal) := by
  have h : eps = ((8796093 * 2 ^ (-43 : ℤ) : ℝ) : EReal) := by
    unfold eps
    simp [Ideal.ofBits, Ideal.ieee]
  exact ⟨_, by positivity, h⟩

/-- A sum of squares one of which is infinite is infinite. -/
theorem sum_sq_top {n : Nat} (y : Fin n → EReal) (j : Fin n) (hj : y j = ⊤ ∨ y j = ⊥) : ∑ k, y k * y k = ⊤ := by
  have nn : ∀ k, 0 ≤ y k * y k := fun k => by
    rcases le_total 0 (y k) with h | h
    · exact mul_nonneg h h
    · exact EReal.mul_nonneg_iff.mpr (.inr ⟨h, h⟩)
  have tj : y j * y j = ⊤ := by rcases hj with h | h <;> rw [h] <;> rfl
  exact top_le_iff.mp (tj ▸ Finset.single_le_sum (f := fun k => y k * y k) (fun k _ => nn k) (Finset.mem_univ j))

/-- An entry over the root mean square of its row is real, whatever the row holds. -/
theorem rms_real {n : Nat} (hn : 0 < n) (y : Fin n → EReal) (j : Fin n) : Fin' (rms (per n) y j) := by
  obtain ⟨e, he, hee⟩ := eps_real
  have hp : (0 : ℝ) < 1 / n := by positivity
  by_cases h : ∀ k, Fin' (y k)
  · choose r hr using h
    have s : (∑ k, y k * y k) * per n + eps = (((∑ k, r k * r k) * (1 / n) + e : ℝ) : EReal) := by
      rw [hee, EReal.coe_add, EReal.coe_mul, ← coe_sum]
      simp only [hr, EReal.coe_mul]
      rfl
    have pos : 0 < (∑ k, r k * r k) * (1 / (n : ℝ)) + e :=
      add_pos_of_nonneg_of_pos (mul_nonneg (Finset.sum_nonneg fun k _ => mul_self_nonneg _) hp.le) he
    unfold rms
    rw [s, hr j]
    refine ⟨r j * (√((∑ k, r k * r k) * (1 / (n : ℝ)) + e))⁻¹, ?_⟩
    rw [EReal.coe_mul]
    refine congrArg ((r j : EReal) * ·) ?_
    show (if _ < 0 then (⊥ : EReal) else if _ = 0 then ⊤ else _) = _
    rw [if_neg pos.not_gt, if_neg pos.ne']
  · rw [not_forall] at h
    obtain ⟨k, hk⟩ := h
    have hinf : y k = ⊤ ∨ y k = ⊥ := by
      generalize y k = z at hk
      induction z using EReal.rec with
      | bot => exact .inr rfl
      | coe r => exact (hk ⟨r, rfl⟩).elim
      | top => exact .inl rfl
    refine ⟨0, ?_⟩
    unfold rms
    rw [sum_sq_top y k hinf, hee, per, EReal.top_mul_coe_of_pos hp, EReal.top_add_coe]
    exact mul_zero _

/-- The modulated row of a token with real gains, scales and shifts. -/
theorem Token.hidden_real (k : Token) (hg : ∀ d, Fin' (k.gain d)) (hs : ∀ d, Fin' (k.scale d)) (hb : ∀ d, Fin' (k.shift d)) (d : Fin 1024) :
    Fin' (k.hidden d) := by
  have h := rms_real (n := 1024) (by norm_num) k.residual d
  exact (((by exact_mod_cast h : Fin' (rms (per 1024) k.residual d)).mul (hg d)).mul (Fin'.add ⟨1, rfl⟩ (hs d))).add (hb d)

/-! ## Sixteen lanes of 128 -/

theorem Fin'.sub_self {x : EReal} (h : Fin' x) : x - x = 0 := by
  obtain ⟨r, rfl⟩ := h
  rw [← EReal.coe_sub, _root_.sub_self]; rfl

/-- A row of 128 lanes that holds `y` in its first sixteen and `z` in the others. -/
def lanes (z : EReal) (y : Fin 16 → EReal) (l : Fin 128) : EReal := if h : l.val < 16 then y ⟨l.val, h⟩ else z

theorem sum_lanes (y : Fin 16 → EReal) : ∑ l, lanes 0 y l = ∑ e, y e := by
  rw [Fin.sum_univ_add (a := 16) (b := 112) (lanes 0 y)]
  have a : ∀ e : Fin 16, lanes 0 y (Fin.castAdd 112 e) = y e := fun e => dif_pos e.isLt
  have b : ∀ e : Fin 112, lanes 0 y (Fin.natAdd 16 e) = 0 := fun e => dif_neg (by show ¬ 16 + e.val < 16; omega)
  simp only [a, b, Finset.sum_const_zero, add_zero]

theorem top_lanes (y : Fin 16 → EReal) : top (lanes ⊥ y) = top y := by
  have g : ∀ (n : Nat) (z : Fin n → EReal) (c : EReal), top z ≤ c ↔ ∀ e, z e ≤ c := fun n z c => by
    unfold top
    rw [Finset.fold_max_le]
    simp
  refine le_antisymm ((g _ _ _).mpr fun l => ?_) ((g _ _ _).mpr fun e => ?_)
  · unfold lanes
    by_cases h : l.val < 16
    · rw [dif_pos h]; exact (g _ _ _).mp le_rfl _
    · rw [dif_neg h]; exact bot_le
  · have h : lanes ⊥ y ⟨e.val, by omega⟩ = y e := dif_pos e.isLt
    exact h ▸ (g _ _ _).mp le_rfl (⟨e.val, by omega⟩ : Fin 128)

/-- The softmax over 128 lanes of which all but sixteen, which are real, are minus infinity. -/
theorem softmax_lanes (y : Fin 16 → EReal) (hy : ∀ e, Fin' (y e)) (l : Fin 128) : softmax (lanes ⊥ y) l = if h : l.val < 16 then softmax y ⟨l.val, h⟩ else 0 := by
  have e : ∀ l, Ideal.exp (lanes ⊥ y l - top y) = lanes 0 (fun e => Ideal.exp (y e - top y)) l := fun l => by
    unfold lanes
    split
    · rfl
    · rw [EReal.bot_sub]; rfl
  unfold softmax
  rw [top_lanes]
  simp only [e, sum_lanes]
  unfold lanes
  split
  · rfl
  · obtain ⟨m, hm⟩ : Fin' (top y) := fold_max_real y hy
    choose r hr using hy
    have ee : ∀ q : ℝ, Ideal.exp (q : EReal) = ((Real.exp q : ℝ) : EReal) := fun q => rfl
    simp only [hm, hr, ← EReal.coe_sub, ee, coe_sum]
    rw [← EReal.coe_zero, coe_div_pos _ _ (Finset.sum_pos (fun _ _ => Real.exp_pos _) Finset.univ_nonempty), zero_div]

end Cert.Merging

end
-- ==== Proof.MergeBlock.lean ====
/-
  WHAT A GRID POINT OF THE MERGE LEAVES, at the extended reals. Every value that the body computes for row `r` of its block is the
  part of `Merging.Token` it stands for, read at the token that the point's blocks give the row. The router's weights come in two
  parts of 128 lanes, a first part and a second with what the first leaves out in its lanes 16 to 31; with finite weights the
  first part is all of them, and with real modulated rows the row has no rest either, so that the three products make the one of
  `Merging.Token.logit`.
-/
module

public import proofs.«01_k».proof.Proof.Merging
public import proofs.«01_k».proof.Proof.Gen.MergeIdeal.Frame
public import Idealize.ShloMosaic.PureOps.IdealRules
public import Idealize.ShloMosaic.Lib.Pointwise
public import Idealize.ShloMosaic.Lib.Pipeline.ValueKit
public import Idealize.ShloMosaic.Lib.Pipeline.Value
public import Idealize.ShloMosaic.Lib.WholeRead

@[expose] public section

set_option maxRecDepth 16384
noncomputable section

namespace Cert.MergeIdeal.Mrg

open Cert.MergeIdeal Cert.MergeIdeal.Gen Cert.Merging Cert.Softmax
open Cert.Projection (Ix2 Ix3 Ix4 rms per)
open Idealize.ShloMosaic Idealize.ShloMosaic.TcCoe Idealize.ShloMosaic.Tactic Idealize.ShloMosaic.Pointwise

theorem per_1024 : Ideal.ofBits .f32 0x3A800000#32 = per 1024 := by
  simp [Ideal.ofBits, Ideal.ieee, per]
  rw [← EReal.coe_mul]
  norm_num
theorem mask_bot : Named.named (F := Ideal) κ "mask" (φ := .f32) 0xF149F2CA#32 = ⊥ :=
  IdealRules.named_const.ideal_named_scalar _ _ _ _ rfl

/-! ## The values of the body, over any operands -/

/-- The four planes of attention channels, one under the other. -/
def joined (v0 v2 v4 v6 : Vec Ideal S1x1x128x512 .bf16) : FVec Ideal S512x512 .bf16 :=
  concatenate S512x512 0 [⟨S128x512, (shapeCast S128x512 v0 shapeCasts_S1x1x128x512_S128x512 : FVec Ideal S128x512 .bf16)⟩,
    ⟨S128x512, (shapeCast S128x512 v2 shapeCasts_S1x1x128x512_S128x512 : FVec Ideal S128x512 .bf16)⟩,
    ⟨S128x512, (shapeCast S128x512 v4 shapeCasts_S1x1x128x512_S128x512 : FVec Ideal S128x512 .bf16)⟩,
    ⟨S128x512, (shapeCast S128x512 v6 shapeCasts_S1x1x128x512_S128x512 : FVec Ideal S128x512 .bf16)⟩] concatenates_S128x512_S128x512_S128x512_S128x512_S512x512_d0

theorem joined_apply (y : Vec Ideal S1x4x128x512 .bf16) (v : Fin 4 → Vec Ideal S1x1x128x512 .bf16)
    (hv : ∀ p c r, v p (ix4 0 0 c r) = y (ix4 0 p c r)) (a r : Fin 512) :
    joined (v 0) (v 1) (v 2) (v 3) (ix2 a r) = y (ix4 0 ⟨a.val / 128, by omega⟩ ⟨a.val % 128, by omega⟩ r) := by
  have key : ∀ (p : Fin 4) (c : Fin 128), a.val = 128 * p.val + c.val →
      v p (ix4 0 0 c r) = y (ix4 0 ⟨a.val / 128, by omega⟩ ⟨a.val % 128, by omega⟩ r) := fun p c e => by
    exact (hv p c r).trans (congrArg₂ (fun p c => y (ix4 0 p c r)) (Fin.ext (by show p.val = a.val / 128; omega))
      (Fin.ext (by show c.val = a.val % 128; omega)))
  pointwise [joined]
  split
  · exact key 0 _ (by show a.val = 128 * 0 + a.val; omega)
  split
  · exact key 1 _ (by show a.val = 128 * 1 + (a.val - 128); omega)
  split
  · exact key 2 _ (by show a.val = 128 * 2 + (a.val - 128 - 128); omega)
  · exact key 3 _ (by show a.val = 128 * 3 + (a.val - 128 - 128 - 128); omega)

theorem mix_pay (v0 v2 v4 v6 : Vec Ideal S1x1x128x512 .bf16) (v9 : Vec Ideal S512x1024 .bf16) (v12 : Vec Ideal S1x512x512 .bf16)
    (v14 : Vec Ideal S512x1024 .bf16) (v17 v21 : Vec Ideal S1x512x1024 .bf16) (r : Fin 512) (j : Fin 1024) :
    k0_pay3 (F := Ideal) v0 v2 v4 v6 v9 v12 v14 v17 v21 (ix2 r j)
      = v17 (ix3 0 r j) * ∑ a, joined v0 v2 v4 v6 (ix2 a r) * v9 (ix2 a j) + v21 (ix3 0 r j) * ∑ a, v12 (ix3 0 r a) * v14 (ix2 a j) := by
  unfold k0_pay3
  show addf (mulf _ (matmul _ _ (joined v0 v2 v4 v6) _ _)) _ _ = _
  generalize joined v0 v2 v4 v6 = y
  pointwise

theorem residual_pay (v26 : FVec Ideal S512x1024 .bf16) (v27 : Vec Ideal S1024x1024 .bf16) (v30 : Vec Ideal S1x512x1024 .f32)
    (v32 : Vec Ideal S1x1x1024 .f32) (r : Fin 512) (d : Fin 1024) :
    k0_pay4 (F := Ideal) v26 v27 v30 v32 (ix2 r d) = v30 (ix3 0 r d) + v32 (ix3 0 0 d) * ∑ j, v26 (ix2 r j) * v27 (ix2 j d) := by
  pointwise [k0_pay4]

theorem residual_store (v26 : FVec Ideal S512x1024 .bf16) (v27 : Vec Ideal S1024x1024 .bf16) (v30 : Vec Ideal S1x512x1024 .f32)
    (v32 : Vec Ideal S1x1x1024 .f32) (r : Fin 512) (d : Fin 1024) :
    k0_pay5 (F := Ideal) v26 v27 v30 v32 (ix3 0 r d) = k0_pay4 (F := Ideal) v26 v27 v30 v32 (ix2 r d) := by
  unfold k0_pay5
  generalize k0_pay4 (F := Ideal) v26 v27 v30 v32 = y
  pointwise

theorem hidden_pay (v26 : FVec Ideal S512x1024 .bf16) (v27 : Vec Ideal S1024x1024 .bf16) (v30 : Vec Ideal S1x512x1024 .f32)
    (v32 : Vec Ideal S1x1x1024 .f32) (v50 : Vec Ideal S1x1024 .f32) (v53 v59 : Vec Ideal S1x1x1024 .f32) (r : Fin 512) (d : Fin 1024) :
    k0_pay8 (F := Ideal) (k0_pay6 v26 v27 v30 v32 v50 v53) (k0_pay7 v59) (ix2 r d)
      = rms (per 1024) (fun d => k0_pay4 (F := Ideal) v26 v27 v30 v32 (ix2 r d)) d * v50 (ix2 0 d) * (1 + v53 (ix3 0 0 d)) + v59 (ix3 0 0 d) := by
  unfold k0_pay8 k0_pay6 k0_pay7
  generalize k0_pay4 (F := Ideal) v26 v27 v30 v32 = y
  pointwise
  rw [per_1024]
  rfl

/-- The choice of a lane below sixteen. -/
theorem sel_lane (l : Fin 128) (a b : EReal) :
    Scalar.select (α := EReal) (IntOp.cmpi .slt (BitVec.ofNat 32 l.val) 16#32) a b = if l.val < 16 then a else b := by
  have h : ∀ l : Fin 128, IntOp.cmpi .slt (BitVec.ofNat 32 l.val) 16#32 = if l.val < 16 then 1#1 else 0#1 := by decide +kernel
  rw [h]
  by_cases hl : l.val < 16
  · rw [if_pos hl, if_pos hl]; rfl
  · rw [if_neg hl, if_neg hl]; rfl

theorem bot_bits : Ideal.ofBits .f32 0xFF800000#32 = ⊥ := by simp [Ideal.ofBits, Ideal.ieee]

/-- The row of lane scores that the affinities are the softmax of. -/
def scores (v62 : FVec Ideal S512x1024 .f32) (v104 v109 : Vec Ideal S1024x128 .bf16) (r : Fin 512) (l : Fin 128) : EReal :=
  if l.val < 16 then ∑ d, v62 (ix2 r d) * v104 (ix2 d l) + ∑ d, v62 (ix2 r d) * v104 (ix2 d ⟨(l.val + 128 - 112) % 128, Nat.mod_lt _ (by decide)⟩)
    + ∑ d, (v62 (ix2 r d) - v62 (ix2 r d)) * v109 (ix2 d l) else ⊥

theorem affinity_pay (v62 : FVec Ideal S512x1024 .f32) (v104 v109 : Vec Ideal S1024x128 .bf16) (r : Fin 512) (l : Fin 128) :
    k0_pay2 (F := Ideal) v62 v104 v109 (ix3 0 r l) = softmax (scores v62 v104 v109 r) l := by
  pointwise [k0_pay2]
  simp only [sel_lane, mask_bot, bot_bits]
  rfl

/-- The scores of a row of real entries, where the first part of the weights is `w` in the sixteen lanes, the second part is `w` there
    and zero in the sixteen after. -/
theorem scores_eq (v62 : FVec Ideal S512x1024 .f32) (v104 v109 : Vec Ideal S1024x128 .bf16) (w : Fin 1024 → Fin 16 → EReal) (r : Fin 512)
    (hh : ∀ d, Fin' (v62 (ix2 r d))) (hl : ∀ d l, v104 (ix2 d l) = lanes 0 (w d) l) :
    scores v62 v104 v109 r = lanes ⊥ (fun e => ∑ d, v62 (ix2 r d) * w d e) := by
  funext l
  unfold scores lanes
  by_cases h : l.val < 16
  · rw [if_pos h, dif_pos h]
    have a : ∀ d, v104 (ix2 d l) = w d ⟨l.val, h⟩ := fun d => (hl d l).trans (dif_pos h)
    have b : ∀ d, v104 (ix2 d ⟨(l.val + 128 - 112) % 128, Nat.mod_lt _ (by decide)⟩) = 0 := fun d =>
      (hl d _).trans (dif_neg (by show ¬ (l.val + 128 - 112) % 128 < 16; omega))
    simp only [a, b, Fin'.sub_self (hh _), mul_zero, zero_mul, Finset.sum_const_zero, add_zero]
  · rw [if_neg h, dif_neg h]

/-! ## The loads -/

theorem zero2 : (![0, 0] : Fin 2 → Nat) = fun _ => 0 := by decide
theorem zero3 : (![0, 0, 0] : Fin 3 → Nat) = fun _ => 0 := by decide

theorem ix4_of_val {a b c d : Nat} (i : Ix4 a b c d) (p : Fin a) (q : Fin b) (r : Fin c) (s : Fin d) (h0 : (i 0).val = p.val) (h1 : (i 1).val = q.val)
    (h2 : (i 2).val = r.val) (h3 : (i 3).val = s.val) : i = ix4 p q r s := by
  funext k; fin_cases k
  · exact Fin.ext h0
  · exact Fin.ext h1
  · exact Fin.ext h2
  · exact Fin.ext h3
theorem ix3_of_val {a b c : Nat} (i : Ix3 a b c) (p : Fin a) (q : Fin b) (r : Fin c) (h0 : (i 0).val = p.val) (h1 : (i 1).val = q.val)
    (h2 : (i 2).val = r.val) : i = ix3 p q r := by
  funext k; fin_cases k
  · exact Fin.ext h0
  · exact Fin.ext h1
  · exact Fin.ext h2
theorem ix2_of_val {a b : Nat} (i : Ix2 a b) (p : Fin a) (q : Fin b) (h0 : (i 0).val = p.val) (h1 : (i 1).val = q.val) : i = ix2 p q := by
  funext k; fin_cases k
  · exact Fin.ext h0
  · exact Fin.ext h1

/-- A load of a whole block is the block. -/
theorem load_whole {s : Shape} {e : EltTy} {M : Memref sig .tc .vmem s e} (h : M.IsWhole) (X : Vec Ideal s e) {off : Fin s.rank → Nat}
    (h0 : off = fun _ => 0) (inb : ∀ a, off a + s.size a ≤ s.size a) :
    View.readAt (Elt Ideal) M.view (Rect.unit off s.size inb).toLoadRect (h.unread X) = X := by
  subst h0
  funext x
  refine (h.readAt_unread X _ x).trans (congrArg X (funext fun a => Fin.ext ?_))
  show 0 + 1 * (x a).val = (x a).val
  omega

/-- A load of plane `p` of the attention's block. -/
theorem load_plane {M : Memref sig .tc .vmem S1x4x128x512 .bf16} (h : M.IsWhole) (X : Vec Ideal S1x4x128x512 .bf16) (p : Fin 4)
    (inb : ∀ a, (![0, p.val, 0, 0] : Fin 4 → Nat) a + S1x1x128x512.size a ≤ S1x4x128x512.size a) (c : Fin 128) (r : Fin 512) :
    View.readAt (Elt Ideal) M.view (Rect.unit (s := S1x4x128x512) ![0, p.val, 0, 0] S1x1x128x512.size inb).toLoadRect (h.unread X) (ix4 0 0 c r) = X (ix4 0 p c r) :=
  (h.readAt_unread X _ _).trans (congrArg X (ix4_of_val _ _ _ _ _ (by show 0 + 1 * 0 = 0; omega) (by show p.val + 1 * 0 = p.val; omega)
    (by show 0 + 1 * c.val = c.val; omega) (by show 0 + 1 * r.val = r.val; omega)))

/-! ## The block's tokens -/

section
variable (c : Dev nD) (i : grid0.Coords)
  (a0 : Memref sig .tc .vmem S1x4x128x512 .bf16) (h0 : a0.IsWhole) (a1 : Memref sig .tc .vmem S1x512x512 .bf16) (h1 : a1.IsWhole)
  (a2 : Memref sig .tc .vmem S1x512x1024 .bf16) (h2 : a2.IsWhole) (a3 : Memref sig .tc .vmem S1x512x1024 .bf16) (h3 : a3.IsWhole)
  (a4 : Memref sig .tc .vmem S1x512x1024 .f32) (h4 : a4.IsWhole) (a5 : Memref sig .tc .vmem S1x1x1024 .f32) (h5 : a5.IsWhole)
  (a6 : Memref sig .tc .vmem S1x1024 .f32) (h6 : a6.IsWhole) (a7 : Memref sig .tc .vmem S1x1x1024 .f32) (h7 : a7.IsWhole)
  (a8 : Memref sig .tc .vmem S1x1x1024 .f32) (h8 : a8.IsWhole) (a9 : Memref sig .tc .vmem S512x1024 .bf16) (h9 : a9.IsWhole)
  (a10 : Memref sig .tc .vmem S512x1024 .bf16) (h10 : a10.IsWhole) (a11 : Memref sig .tc .vmem S1024x1024 .bf16) (h11 : a11.IsWhole)
  (a12 : Memref sig .tc .vmem S1024x128 .bf16) (h12 : a12.IsWhole) (a13 : Memref sig .tc .vmem S1024x128 .bf16) (h13 : a13.IsWhole)
  (x0 : Vec Ideal S1x4x128x512 .bf16) (x1 : Vec Ideal S1x512x512 .bf16) (x2 x3 : Vec Ideal S1x512x1024 .bf16) (x4 : Vec Ideal S1x512x1024 .f32)
  (x5 : Vec Ideal S1x1x1024 .f32) (x6 : Vec Ideal S1x1024 .f32) (x7 x8 : Vec Ideal S1x1x1024 .f32) (x9 x10 : Vec Ideal S512x1024 .bf16)
  (x11 : Vec Ideal S1024x1024 .bf16) (w : Fin 1024 → Fin 16 → EReal)

/-- The token of row `r` of a point's blocks. -/
abbrev tok : Fin 1 → Fin 512 → Token := token (B := 1) (T := 512) x0 x1 x2 x3 x4 x5 x6 x7 x8 x9 x10 x11 w

theorem mix_eq (r : Fin 512) (j : Fin 1024) :
    kernelRun0_A.sl.r (F := Ideal) c a0 h0 a1 h1 a2 h2 a3 h3 a9 h9 a10 h10 x0 x1 x2 x3 x9 x10 (ix2 r j) = (tok x0 x1 x2 x3 x4 x5 x6 x7 x8 x9 x10 x11 w 0 r).mix j := by
  unfold kernelRun0_A.sl.r
  rw [mix_pay, load_whole h2 x2 zero3, load_whole h3 x3 zero3, load_whole h1 x1 zero3, load_whole h9 x9 zero2, load_whole h10 x10 zero2]
  refine congrArg₂ (· + ·) (congrArg (_ * ·) (Finset.sum_congr rfl fun a _ => congrArg (· * _) ?_)) rfl
  exact joined_apply x0 (fun p => View.readAt (Elt Ideal) a0.view (Rect.unit (s := S1x4x128x512) ![0, p.val, 0, 0] S1x1x128x512.size (by revert p; decide +kernel)).toLoadRect (h0.unread x0))
    (fun p c r => load_plane h0 x0 p _ c r) a r

theorem residual_eq (r : Fin 512) (d : Fin 1024) :
    k0_pay4 (F := Ideal) (kernelRun0_A.sl.r (F := Ideal) c a0 h0 a1 h1 a2 h2 a3 h3 a9 h9 a10 h10 x0 x1 x2 x3 x9 x10) x11 x4 x5 (ix2 r d)
      = (tok x0 x1 x2 x3 x4 x5 x6 x7 x8 x9 x10 x11 w 0 r).residual d :=
  (residual_pay _ _ _ _ r d).trans (congrArg (_ + _ * ·) (Finset.sum_congr rfl fun j _ => congrArg (· * _)
    (mix_eq c a0 h0 a1 h1 a2 h2 a3 h3 a9 h9 a10 h10 x0 x1 x2 x3 x4 x5 x6 x7 x8 x9 x10 x11 w r j)))

/-- The modulated rows, as the body computes them. -/
abbrev hiddens : FVec Ideal S512x1024 .f32 :=
  k0_pay8 (kernelRun0_A.sl.r_1 (F := Ideal) c a0 h0 a1 h1 a2 h2 a3 h3 a4 h4 a5 h5 a6 h6 a7 h7 a9 h9 a10 h10 a11 h11 x0 x1 x2 x3 x4 x5 x6 x7 x9 x10 x11)
    (kernelRun0_A.sl.r_2 (F := Ideal) c a8 h8 x8)

theorem hidden_eq (r : Fin 512) (d : Fin 1024) :
    hiddens c a0 h0 a1 h1 a2 h2 a3 h3 a4 h4 a5 h5 a6 h6 a7 h7 a8 h8 a9 h9 a10 h10 a11 h11 x0 x1 x2 x3 x4 x5 x6 x7 x8 x9 x10 x11 (ix2 r d) = (tok x0 x1 x2 x3 x4 x5 x6 x7 x8 x9 x10 x11 w 0 r).hidden d := by
  unfold hiddens kernelRun0_A.sl.r_1 kernelRun0_A.sl.r_2
  rw [load_whole h11 x11 zero2, load_whole h4 x4 zero3, load_whole h5 x5 zero3, load_whole h6 x6 zero2, load_whole h7 x7 zero3, load_whole h8 x8 zero3,
    hidden_pay]
  simp only [residual_eq c a0 h0 a1 h1 a2 h2 a3 h3 a9 h9 a10 h10 x0 x1 x2 x3 x4 x5 x6 x7 x8 x9 x10 x11 w]
  rfl

end

/-! ## The rows of the modulated block -/

/-- Rows `p`, `p + 8` … of the block of modulated rows. -/
abbrev sRect (p : Fin 8) : Rect S4096x128 :=
  ⟨(⟨![p.val, 0], S512x128.size, ![8, 1], by revert p; decide +kernel⟩ : LoadRect S4096x128), spos_8_1⟩

/-- Column `p` of eight of a tile of rows. -/
def column (y : FVec Ideal S512x1024 .f32) (p : Fin 8) : FVec Ideal S512x128 .f32 :=
  shapeCast S512x128 (extractStridedSlice S512x128 ![0, 128 * p.val] y (by revert p; decide +kernel) : FVec Ideal S512x128 .f32) (by decide +kernel)

theorem column_apply (y : FVec Ideal S512x1024 .f32) (p : Fin 8) (r : Fin 512) (l : Fin 128) :
    column y p (ix2 r l) = y (ix2 r ⟨128 * p.val + l.val, by omega⟩) := by
  pointwise [column]

/-- The eight stores of the modulated rows, last first. -/
abbrev rowsOf (y : FVec Ideal S512x1024 .f32) : List (View.Piece (Elt Ideal) S4096x128 .f32) :=
  [⟨sRect 7, column y 7⟩, ⟨sRect 6, column y 6⟩, ⟨sRect 5, column y 5⟩, ⟨sRect 4, column y 4⟩, ⟨sRect 3, column y 3⟩, ⟨sRect 2, column y 2⟩,
    ⟨sRect 1, column y 1⟩, ⟨sRect 0, column y 0⟩]

/-- Channel `128 * (a % 8) + l` of row `a / 8`, at row `a` and lane `l`. -/
def eighths (y : FVec Ideal S512x1024 .f32) (i : S4096x128.Idx) : EReal :=
  y (ix2 ⟨(i 0).val / 8, by have h : (i 0).val < 4096 := (i 0).isLt; omega⟩ ⟨128 * ((i 0).val % 8) + (i 1).val, by have h : (i 1).val < 128 := (i 1).isLt; omega⟩)

theorem rows_eq (y : FVec Ideal S512x1024 .f32) (a : Fin 4096) (l : Fin 128) : View.canon (rowsOf y) (ix2 a l)
    = y (ix2 ⟨a.val / 8, by omega⟩ ⟨128 * (a.val % 8) + l.val, by omega⟩) := by
  have key : ∀ (p : Fin 8) (x : S512x128.Idx), column y p x = eighths y ((sRect p).emb x) := fun p x => by
    have h0 : (x 0).val < 512 := (x 0).isLt
    have h1 : (x 1).val < 128 := (x 1).isLt
    refine (congrArg (column y p) (ix2_of_val x (⟨(x 0).val, h0⟩ : Fin 512) (⟨(x 1).val, h1⟩ : Fin 128) rfl rfl)).trans ((column_apply y p _ _).trans ?_)
    exact congrArg₂ (fun r d => y (ix2 r d)) (Fin.ext (by show (x 0).val = (p.val + 8 * (x 0).val) / 8; omega))
      (Fin.ext (by show 128 * p.val + (x 1).val = 128 * ((p.val + 8 * (x 0).val) % 8) + (0 + 1 * (x 1).val); omega))
  have mem : ∀ p : Fin 8, a.val % 8 = p.val → ix2 a l ∈ (sRect p).set := fun p h => by
    refine (sRect p).mem_set.mpr fun k => ?_
    fin_cases k
    · exact ⟨a.val / 8, by show a.val / 8 < 512; omega, by show a.val = p.val + 8 * (a.val / 8); omega⟩
    · exact ⟨l.val, l.isLt, by show l.val = 0 + 1 * l.val; omega⟩
  refine View.canon_apply_of_pieces (Val := Elt Ideal) (e := .f32) (eighths y) (rowsOf y) ?_ (ix2 a l) ?_
  · intro q hq
    simp only [rowsOf, List.mem_cons, List.not_mem_nil, or_false] at hq
    rcases hq with rfl | rfl | rfl | rfl | rfl | rfl | rfl | rfl <;> exact key _
  · obtain ⟨p, hp⟩ : ∃ p : Fin 8, a.val % 8 = p.val := ⟨⟨a.val % 8, by omega⟩, rfl⟩
    refine ⟨⟨sRect p, column y p⟩, ?_, mem p hp⟩
    fin_cases p <;> simp [rowsOf]

/-! ## The three result blocks -/

variable (m : (ℓ : Loc nD τ sig) → Buf (Elt Ideal) ℓ) (c : Dev nD) (t : Fin cfg0.N) (w : Fin 1024 → Fin 16 → EReal)

/-- The tokens of grid point `t`'s blocks. -/
abbrev toks : Fin 1 → Fin 512 → Token := tok (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) w

/-- The block's modulated rows, as the body computes them. -/
abbrev hidBlk : FVec Ideal S512x1024 .f32 := hiddens c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem hidBlk_eq (r : Fin 512) (d : Fin 1024) : hidBlk m c t (ix2 r d) = (toks m c t w 0 r).hidden d := hidden_eq ..

theorem block_idx {a n : Nat} (i : Ix3 1 a n) : ∃ (r : Fin a) (j : Fin n), i = ix3 0 r j :=
  ⟨i 1, i 2, ix3_of_val _ _ _ _ (by have h : (i 0).val < 1 := (i 0).isLt; show (i 0).val = 0; omega) rfl rfl⟩

/-- The block of residual rows, -/
theorem block14 : (outsAt0 m c t).1 = residuals (toks m c t w) := by
  unfold outsAt0 out0_A_14
  dsimp only
  unfold kernelRun0_A
  dsimp only
  rw [View.read_writes_junk_eq_canon, View.canon_unit_zero zero3, load_whole (hs0_11 t) _ zero2, load_whole (hs0_4 t) _ zero3, load_whole (hs0_5 t) _ zero3]
  funext i
  obtain ⟨r, j, rfl⟩ := block_idx i
  exact (residual_store _ _ _ _ r j).trans (residual_eq ..)

theorem modulated_store (y : Vec Ideal S4096x128 .f32) (a : Fin 4096) (l : Fin 128) : k0_pay1 (F := Ideal) y (ix3 0 a l) = y (ix2 a l) := by
  pointwise [k0_pay1]

/-- of modulated rows, -/
theorem block15 : (outsAt0 m c t).2.1 = modulateds (toks m c t w) := by
  unfold outsAt0 out0_A_15
  dsimp only
  unfold kernelRun0_A
  dsimp only
  rw [View.read_writes_junk_eq_canon, View.canon_unit_zero zero3]
  funext i
  obtain ⟨r, j, rfl⟩ := block_idx i
  refine (modulated_store _ r j).trans ?_
  unfold kernelRun0_A.sl.v95
  rw [View.readCov_eq_canon']
  refine (congrArg (View.canon (rowsOf (hidBlk m c t))) (ix2_of_val _ r j (by show 0 + 1 * r.val = r.val; omega) (by show 0 + 1 * j.val = j.val; omega))).trans ?_
  exact (rows_eq _ r j).trans (hidBlk_eq m c t w _ _)

/-- and of affinities, where the router's two parts are as `scores_eq` asks and the gains, scales and shifts are real. -/
theorem block16 (hl : ∀ d l, iblk m c 13 t (ix2 d l) = lanes 0 (w d) l) (hw : ∀ d e, Fin' (w d e))
    (hg : ∀ d : Fin 1024, Fin' (iblk m c 6 t (ix2 0 d))) (hs : ∀ d : Fin 1024, Fin' (iblk m c 7 t (ix3 0 0 d))) (hb : ∀ d : Fin 1024, Fin' (iblk m c 8 t (ix3 0 0 d))) :
    (outsAt0 m c t).2.2 = affinities (toks m c t w) := by
  unfold outsAt0 out0_A_16
  dsimp only
  unfold kernelRun0_A
  dsimp only
  rw [View.read_writes_junk_eq_canon, View.canon_unit_zero zero3, load_whole (hs0_12 t) _ zero2, load_whole (hs0_13 t) _ zero2]
  funext i
  obtain ⟨r, l, rfl⟩ := block_idx i
  refine (affinity_pay _ _ _ r l).trans ?_
  have hh : ∀ d, Fin' ((toks m c t w 0 r).hidden d) := (toks m c t w 0 r).hidden_real hg hs hb
  have e : scores (hidBlk m c t) (iblk m c 13 t) (iblk m c 12 t) r = lanes ⊥ (toks m c t w 0 r).logit := by
    rw [scores_eq _ _ _ w r (fun d => by rw [hidBlk_eq m c t w]; exact hh d) hl]
    simp only [hidBlk_eq m c t w]
    rfl
  exact (congrArg (softmax · l) e).trans (softmax_lanes _ (fun e => Fin'.sum fun d => (hh d).mul (hw d e)) l)

end Cert.MergeIdeal.Mrg

end
-- ==== Proof.MergeArray.lean ====
/-
  THE MERGE'S RESULT ARRAYS, at the extended reals: `Merging.residuals`, `modulateds` and `affinities` over the tokens of its
  thirteen arguments. Grid point `t` takes tokens `512 * (t % 4) …` of sample `t / 4`; what it writes back are its blocks of the
  three arrays, and the blocks cover them. The host hands the call its weights, and the router's weights in a high and a low part
  whose sum, over real weights, is the weights themselves padded by zeros.
-/
module

public import proofs.«01_k».proof.Proof.MergeBlock
import Idealize.ShloMosaic.Lib.StableHlo.RunRead

@[expose] public section

set_option maxRecDepth 16384
noncomputable section

namespace Cert.MergeIdeal.Mrg

open Cert.MergeIdeal Cert.MergeIdeal.Gen Cert.Merging Cert.Softmax
open Cert.Projection (Ix2 Ix3 Ix4)
open Idealize.ShloMosaic Idealize.ShloMosaic.TcCoe Idealize.ShloMosaic.Tactic Idealize.ShloMosaic.Pointwise Idealize.SL.Sem

variable (m : (ℓ : Loc nD τ sig) → Buf (Elt Ideal) ℓ) (ρ : Dev nD → PrngReg) (c : Dev nD) (t : Fin cfg0.N)

/-! ## What the host prepares -/

/-- The weights pass unchanged: a cast keeps the value. -/
theorem v7_eq : (V m c main_v7 : Ix2 512 1024 → EReal) = V m c main_arg9 := by
  show StableHlo.after _ (fun b => m (c, b)) (Proc.devRef .tc main_v7) = StableHlo.after _ (fun b => m (c, b)) (Proc.devRef .tc main_arg9)
  after_reads_simp
  rfl

theorem v8_eq : (V m c main_v8 : Ix2 512 1024 → EReal) = V m c main_arg10 := by
  show StableHlo.after _ (fun b => m (c, b)) (Proc.devRef .tc main_v8) = StableHlo.after _ (fun b => m (c, b)) (Proc.devRef .tc main_arg10)
  after_reads_simp
  rfl

theorem v9_eq : (V m c main_v9 : Ix2 1024 1024 → EReal) = V m c main_arg11 := by
  show StableHlo.after _ (fun b => m (c, b)) (Proc.devRef .tc main_v9) = StableHlo.after _ (fun b => m (c, b)) (Proc.devRef .tc main_arg11)
  after_reads_simp
  rfl

/-- The router's weights padded to 128 lanes, -/
def padded (w : FVec Ideal S1024x16 .f32) : FVec Ideal S1024x128 .f32 :=
  pad S1024x128 ![0, 0] ![0, 112] ![0, 0] w (sitofp .f32 (constantI S_ 32 0#32)) pads_S1024x16_S1024x128_000_01120 h_S_

/-- what a rounding of them loses, -/
def lost (y : FVec Ideal S1024x128 .f32) : FVec Ideal S1024x128 .bf16 :=
  truncf .bf16 (subf y (extf .f32 (truncf .bf16 y bitsLt_bf16_f32) bitsLt_bf16_f32)) bitsLt_bf16_f32

/-- and the weights whose lanes 16–31 carry that loss. -/
def split (y : FVec Ideal S1024x128 .f32) : FVec Ideal S1024x128 .bf16 :=
  addf (truncf .bf16 y bitsLt_bf16_f32)
    (concatenate S1024x128 1 [⟨S1024x16, (extractStridedSlice S1024x16 ![0, 112] (lost y) slices_S1024x128_S1024x16_0_112 : FVec Ideal S1024x16 .bf16)⟩,
      ⟨S1024x112, (extractStridedSlice S1024x112 ![0, 0] (lost y) slices_S1024x128_S1024x112_0_0 : FVec Ideal S1024x112 .bf16)⟩]
      concatenates_S1024x16_S1024x112_S1024x128_d1)

theorem v6_eq : V m c main_v6 = split (padded (V m c main_arg12)) := by
  show StableHlo.after _ (fun b => m (c, b)) (Proc.devRef .tc main_v6) = split (padded (StableHlo.after _ (fun b => m (c, b)) (Proc.devRef .tc main_arg12)))
  after_reads_simp
  rfl

theorem padded_apply (w : FVec Ideal S1024x16 .f32) (d : Fin 1024) (l : Fin 128) : padded w (ix2 d l) = lanes 0 (fun e => w (ix2 d e)) l := by
  have z : FloatOps.sitofp (F := Ideal) .f32 (0#32) = (0 : EReal) := by
    show ((((0#32 : BitVec 32).toInt : ℝ)) : EReal) = 0
    simp
  pointwise [padded, lanes]
  rw [z]

theorem lost_apply (y : FVec Ideal S1024x128 .f32) (h : ∀ i, Fin' (y i)) (d : Fin 1024) (l : Fin 128) : lost y (ix2 d l) = 0 := by
  pointwise [lost]
  exact Fin'.sub_self (h _)

/-- Real weights lose nothing at the extended reals. -/
theorem split_apply (y : FVec Ideal S1024x128 .f32) (h : ∀ i, Fin' (y i)) (d : Fin 1024) (l : Fin 128) : split y (ix2 d l) = y (ix2 d l) := by
  have e := lost_apply y h d
  unfold split
  revert e
  generalize lost y = z
  intro e
  pointwise
  split <;> rw [e, add_zero]

theorem v6_apply (hw : ∀ i, Fin' (V m c main_arg12 i)) (d : Fin 1024) (l : Fin 128) :
    V m c main_v6 (ix2 d l) = lanes 0 (fun e => V m c main_arg12 (ix2 d e)) l := by
  have hp : ∀ i, Fin' (padded (V m c main_arg12) i) := fun i => by
    obtain ⟨d, l, rfl⟩ : ∃ (d : Fin 1024) (l : Fin 128), i = ix2 d l := ⟨i 0, i 1, ix2_of_val i _ _ rfl rfl⟩
    rw [padded_apply]
    unfold lanes
    split
    · exact hw _
    · exact ⟨0, rfl⟩
  rw [v6_eq, split_apply _ hp, padded_apply]

/-! ## Where the blocks lie -/

theorem index0 : ∀ t : Fin cfg0.N, win0_0.index t (0 : Fin 4) = t.val / 4 ∧ win0_0.index t (1 : Fin 4) = 0
    ∧ win0_0.index t (2 : Fin 4) = 0 ∧ win0_0.index t (3 : Fin 4) = t.val % 4 := (by decide +kernel : ∀ t : Fin grid0.N, _)
theorem index1 : ∀ t : Fin cfg0.N, win0_1.index t (0 : Fin 3) = t.val / 4 ∧ win0_1.index t (1 : Fin 3) = t.val % 4
    ∧ win0_1.index t (2 : Fin 3) = 0 := (by decide +kernel : ∀ t : Fin grid0.N, _)
theorem index2 : ∀ t : Fin cfg0.N, win0_2.index t (0 : Fin 3) = t.val / 4 ∧ win0_2.index t (1 : Fin 3) = t.val % 4
    ∧ win0_2.index t (2 : Fin 3) = 0 := (by decide +kernel : ∀ t : Fin grid0.N, _)
theorem index3 : ∀ t : Fin cfg0.N, win0_3.index t (0 : Fin 3) = t.val / 4 ∧ win0_3.index t (1 : Fin 3) = t.val % 4
    ∧ win0_3.index t (2 : Fin 3) = 0 := (by decide +kernel : ∀ t : Fin grid0.N, _)
theorem index4 : ∀ t : Fin cfg0.N, win0_4.index t (0 : Fin 3) = t.val / 4 ∧ win0_4.index t (1 : Fin 3) = t.val % 4
    ∧ win0_4.index t (2 : Fin 3) = 0 := (by decide +kernel : ∀ t : Fin grid0.N, _)
theorem index5 : ∀ t : Fin cfg0.N, win0_5.index t (0 : Fin 3) = t.val / 4 ∧ win0_5.index t (1 : Fin 3) = 0
    ∧ win0_5.index t (2 : Fin 3) = 0 := (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 3) = t.val / 4 ∧ win0_7.index t (1 : Fin 3) = 0
    ∧ win0_7.index t (2 : Fin 3) = 0 := (by decide +kernel : ∀ t : Fin grid0.N, _)
theorem index8 : ∀ t : Fin cfg0.N, win0_8.index t (0 : Fin 3) = t.val / 4 ∧ win0_8.index t (1 : Fin 3) = 0
    ∧ win0_8.index t (2 : Fin 3) = 0 := (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index13 : ∀ t : Fin cfg0.N, win0_13.index t (0 : Fin 2) = 0 ∧ win0_13.index t (1 : Fin 2) = 0 :=
  (by decide +kernel : ∀ t : Fin grid0.N, _)
theorem index14 : ∀ t : Fin cfg0.N, win0_14.index t (0 : Fin 3) = t.val / 4 ∧ win0_14.index t (1 : Fin 3) = t.val % 4
    ∧ win0_14.index t (2 : Fin 3) = 0 := (by decide +kernel : ∀ t : Fin grid0.N, _)
theorem index15 : ∀ t : Fin cfg0.N, win0_15.index t (0 : Fin 3) = t.val / 4 ∧ win0_15.index t (1 : Fin 3) = t.val % 4
    ∧ win0_15.index t (2 : Fin 3) = 0 := (by decide +kernel : ∀ t : Fin grid0.N, _)
theorem index16 : ∀ t : Fin cfg0.N, win0_16.index t (0 : Fin 3) = t.val / 4 ∧ win0_16.index t (1 : Fin 3) = t.val % 4
    ∧ win0_16.index t (2 : Fin 3) = 0 := (by decide +kernel : ∀ t : Fin grid0.N, _)

theorem t_lt : t.val < 128 := lt_of_lt_of_eq t.isLt Gen.N_0

/-- The sample of a grid point. -/
def sample : Fin 32 := ⟨t.val / 4, by have := t_lt t; omega⟩
/-- The token that row `r` of a point's block is. -/
def place (r : Fin 512) : Fin 2048 := ⟨512 * (t.val % 4) + r.val, by omega⟩

theorem iblk0_apply (p : Fin 4) (a : Fin 128) (r : Fin 512) : iblk m c 0 t (ix4 0 p a r) = V m c main_arg0 (ix4 (sample t) p a (place t r)) := by
  obtain ⟨e0, e1, e2, e3⟩ := index0 t
  exact congrArg (V m c main_arg0) (ix4_of_val _ _ _ _ _
    (by show win0_0.index t (0 : Fin 4) * 1 + 1 * 0 = t.val / 4; omega)
    (by show win0_0.index t (1 : Fin 4) * 4 + 1 * p.val = p.val; omega)
    (by show win0_0.index t (2 : Fin 4) * 128 + 1 * a.val = a.val; omega)
    (by show win0_0.index t (3 : Fin 4) * 512 + 1 * r.val = 512 * (t.val % 4) + r.val; omega))

theorem iblk1_apply (r : Fin 512) (a : Fin 512) : iblk m c 1 t (ix3 0 r a) = V m c main_arg1 (ix3 (sample t) (place t r) a) := by
  obtain ⟨e0, e1, e2⟩ := index1 t
  exact congrArg (V m c main_arg1) (ix3_of_val _ _ _ _
    (by show win0_1.index t (0 : Fin 3) * 1 + 1 * 0 = t.val / 4; omega)
    (by show win0_1.index t (1 : Fin 3) * 512 + 1 * r.val = 512 * (t.val % 4) + r.val; omega)
    (by show win0_1.index t (2 : Fin 3) * 512 + 1 * a.val = a.val; omega))

theorem iblk2_apply (r : Fin 512) (j : Fin 1024) : iblk m c 2 t (ix3 0 r j) = V m c main_arg2 (ix3 (sample t) (place t r) j) := by
  obtain ⟨e0, e1, e2⟩ := index2 t
  exact congrArg (V m c main_arg2) (ix3_of_val _ _ _ _
    (by show win0_2.index t (0 : Fin 3) * 1 + 1 * 0 = t.val / 4; omega)
    (by show win0_2.index t (1 : Fin 3) * 512 + 1 * r.val = 512 * (t.val % 4) + r.val; omega)
    (by show win0_2.index t (2 : Fin 3) * 1024 + 1 * j.val = j.val; omega))

theorem iblk3_apply (r : Fin 512) (j : Fin 1024) : iblk m c 3 t (ix3 0 r j) = V m c main_arg3 (ix3 (sample t) (place t r) j) := by
  obtain ⟨e0, e1, e2⟩ := index3 t
  exact congrArg (V m c main_arg3) (ix3_of_val _ _ _ _
    (by show win0_3.index t (0 : Fin 3) * 1 + 1 * 0 = t.val / 4; omega)
    (by show win0_3.index t (1 : Fin 3) * 512 + 1 * r.val = 512 * (t.val % 4) + r.val; omega)
    (by show win0_3.index t (2 : Fin 3) * 1024 + 1 * j.val = j.val; omega))

theorem iblk4_apply (r : Fin 512) (d : Fin 1024) : iblk m c 4 t (ix3 0 r d) = V m c main_arg4 (ix3 (sample t) (place t r) d) := by
  obtain ⟨e0, e1, e2⟩ := index4 t
  exact congrArg (V m c main_arg4) (ix3_of_val _ _ _ _
    (by show win0_4.index t (0 : Fin 3) * 1 + 1 * 0 = t.val / 4; omega)
    (by show win0_4.index t (1 : Fin 3) * 512 + 1 * r.val = 512 * (t.val % 4) + r.val; omega)
    (by show win0_4.index t (2 : Fin 3) * 1024 + 1 * d.val = d.val; omega))

theorem iblk5_apply (d : Fin 1024) : iblk m c 5 t (ix3 0 0 d) = V m c main_arg5 (ix3 (sample t) 0 d) := by
  obtain ⟨e0, e1, e2⟩ := index5 t
  exact congrArg (V m c main_arg5) (ix3_of_val _ _ _ _
    (by show win0_5.index t (0 : Fin 3) * 1 + 1 * 0 = t.val / 4; omega)
    (by show win0_5.index t (1 : Fin 3) * 1 + 1 * 0 = 0; omega)
    (by show win0_5.index t (2 : Fin 3) * 1024 + 1 * d.val = d.val; omega))

theorem iblk6_apply (d : Fin 1024) : iblk m c 6 t (ix2 0 d) = V m c main_arg6 (ix2 0 d) := by
  obtain ⟨e0, e1⟩ := index6 t
  exact congrArg (V m c main_arg6) (ix2_of_val _ _ _ (by show win0_6.index t (0 : Fin 2) * 1 + 1 * 0 = 0; omega)
    (by show win0_6.index t (1 : Fin 2) * 1024 + 1 * d.val = d.val; omega))

theorem iblk7_apply (d : Fin 1024) : iblk m c 7 t (ix3 0 0 d) = V m c main_arg7 (ix3 (sample t) 0 d) := by
  obtain ⟨e0, e1, e2⟩ := index7 t
  exact congrArg (V m c main_arg7) (ix3_of_val _ _ _ _
    (by show win0_7.index t (0 : Fin 3) * 1 + 1 * 0 = t.val / 4; omega)
    (by show win0_7.index t (1 : Fin 3) * 1 + 1 * 0 = 0; omega)
    (by show win0_7.index t (2 : Fin 3) * 1024 + 1 * d.val = d.val; omega))

theorem iblk8_apply (d : Fin 1024) : iblk m c 8 t (ix3 0 0 d) = V m c main_arg8 (ix3 (sample t) 0 d) := by
  obtain ⟨e0, e1, e2⟩ := index8 t
  exact congrArg (V m c main_arg8) (ix3_of_val _ _ _ _
    (by show win0_8.index t (0 : Fin 3) * 1 + 1 * 0 = t.val / 4; omega)
    (by show win0_8.index t (1 : Fin 3) * 1 + 1 * 0 = 0; omega)
    (by show win0_8.index t (2 : Fin 3) * 1024 + 1 * d.val = d.val; omega))

theorem iblk9_apply (a : Fin 512) (j : Fin 1024) : iblk m c 9 t (ix2 a j) = V m c main_v7 (ix2 a j) := by
  obtain ⟨e0, e1⟩ := index9 t
  exact congrArg (V m c main_v7) (ix2_of_val _ _ _ (by show win0_9.index t (0 : Fin 2) * 512 + 1 * a.val = a.val; omega)
    (by show win0_9.index t (1 : Fin 2) * 1024 + 1 * j.val = j.val; omega))

theorem iblk10_apply (a : Fin 512) (j : Fin 1024) : iblk m c 10 t (ix2 a j) = V m c main_v8 (ix2 a j) := by
  obtain ⟨e0, e1⟩ := index10 t
  exact congrArg (V m c main_v8) (ix2_of_val _ _ _ (by show win0_10.index t (0 : Fin 2) * 512 + 1 * a.val = a.val; omega)
    (by show win0_10.index t (1 : Fin 2) * 1024 + 1 * j.val = j.val; omega))

theorem iblk11_apply (j d : Fin 1024) : iblk m c 11 t (ix2 j d) = V m c main_v9 (ix2 j d) := by
  obtain ⟨e0, e1⟩ := index11 t
  exact congrArg (V m c main_v9) (ix2_of_val _ _ _ (by show win0_11.index t (0 : Fin 2) * 1024 + 1 * j.val = j.val; omega)
    (by show win0_11.index t (1 : Fin 2) * 1024 + 1 * d.val = d.val; omega))

theorem iblk13_apply (d : Fin 1024) (l : Fin 128) : iblk m c 13 t (ix2 d l) = V m c main_v6 (ix2 d l) := by
  obtain ⟨e0, e1⟩ := index13 t
  exact congrArg (V m c main_v6) (ix2_of_val _ _ _ (by show win0_13.index t (0 : Fin 2) * 1024 + 1 * d.val = d.val; omega)
    (by show win0_13.index t (1 : Fin 2) * 128 + 1 * l.val = l.val; omega))

/-- The router's weights that device `c` holds. -/
abbrev router (d : Fin 1024) (e : Fin 16) : EReal := m ((c.tc : Thread nD τ).loc main_arg12) (ix2 d e)

/-- The tokens of the thirteen arrays that device `c` holds. -/
abbrev tokens : Fin 32 → Fin 2048 → Token :=
  token (B := 32) (T := 2048) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (router m c)

theorem token_congr {B T : Nat} {a a' : Ix4 B 4 128 T → EReal} {f f' : Ix3 B T 512 → EReal} {p p' q q' x x' : Ix3 B T 1024 → EReal}
    {g g' u u' v v' : Ix3 B 1 1024 → EReal} {n n' : Ix2 1 1024 → EReal} {o o' k k' : Ix2 512 1024 → EReal} {z z' : Ix2 1024 1024 → EReal}
    (w : Fin 1024 → Fin 16 → EReal) (h0 : a = a') (h1 : f = f') (h2 : p = p') (h3 : q = q') (h4 : x = x') (h5 : g = g') (h6 : n = n')
    (h7 : u = u') (h8 : v = v') (h9 : o = o') (h10 : k = k') (h11 : z = z') :
    token a f p q x g n u v o k z w = token a' f' p' q' x' g' n' u' v' o' k' z' w := by
  subst h0 h1 h2 h3 h4 h5 h6 h7 h8 h9 h10 h11
  rfl

/-- They are the tokens of what the call finds. -/
theorem tokens_eq : token (B := 32) (T := 2048) (V m c main_arg0) (V m c main_arg1) (V m c main_arg2) (V m c main_arg3) (V m c main_arg4)
    (V m c main_arg5) (V m c main_arg6) (V m c main_arg7) (V m c main_arg8) (V m c main_v7) (V m c main_v8) (V m c main_v9) (router m c)
    = tokens m c :=
  token_congr _ (V_main_arg0 m c) (V_main_arg1 m c) (V_main_arg2 m c) (V_main_arg3 m c) (V_main_arg4 m c) (V_main_arg5 m c) (V_main_arg6 m c)
    (V_main_arg7 m c) (V_main_arg8 m c) ((v7_eq m c).trans (V_main_arg9 m c)) ((v8_eq m c).trans (V_main_arg10 m c))
    ((v9_eq m c).trans (V_main_arg11 m c))

set_option maxHeartbeats 2000000 in
/-- Row `r` of a point's blocks is its token of what the call finds, -/
theorem tok_found (r : Fin 512) : toks m c t (router m c) 0 r = token (B := 32) (T := 2048) (V m c main_arg0) (V m c main_arg1) (V m c main_arg2)
    (V m c main_arg3) (V m c main_arg4) (V m c main_arg5) (V m c main_arg6) (V m c main_arg7) (V m c main_arg8) (V m c main_v7) (V m c main_v8)
    (V m c main_v9) (router m c) (sample t) (place t r) :=
  Token.ext (funext fun a => iblk0_apply m c t _ _ r) (funext fun a => iblk1_apply m c t r a)
    (funext fun j => iblk2_apply m c t r j) (funext fun j => iblk3_apply m c t r j) (funext fun d => iblk4_apply m c t r d)
    (funext fun d => iblk5_apply m c t d) (funext fun d => iblk6_apply m c t d) (funext fun d => iblk7_apply m c t d)
    (funext fun d => iblk8_apply m c t d) (funext fun a => funext fun j => iblk9_apply m c t a j)
    (funext fun a => funext fun j => iblk10_apply m c t a j) (funext fun j => funext fun d => iblk11_apply m c t j d) rfl

/-- and so its token of the arguments. -/
theorem tok_eq (r : Fin 512) : toks m c t (router m c) 0 r = tokens m c (sample t) (place t r) :=
  (tok_found m c t r).trans (congrFun (congrFun (tokens_eq m c) (sample t)) (place t r))

/-! ## The result arrays -/

theorem emb14 (r : Fin 512) (d : Fin 1024) :
    ((cfg0.win 14).blk t).view.emb (ix3 0 r d : S1x512x1024.Idx) = ix3 (sample t) (place t r) d := by
  obtain ⟨e0, e1, e2⟩ := index14 t
  exact ix3_of_val _ _ _ _
    (by show win0_14.index t (0 : Fin 3) * 1 + 1 * 0 = t.val / 4; omega)
    (by show win0_14.index t (1 : Fin 3) * 512 + 1 * r.val = 512 * (t.val % 4) + r.val; omega)
    (by show win0_14.index t (2 : Fin 3) * 1024 + 1 * d.val = d.val; omega)

theorem emb15 (a : Fin 4096) (l : Fin 128) :
    ((cfg0.win 15).blk t).view.emb (ix3 0 a l : S1x4096x128.Idx)
      = (ix3 (sample t) (⟨4096 * (t.val % 4) + a.val, by omega⟩ : Fin 16384) l : Ix3 32 16384 128) := by
  obtain ⟨e0, e1, e2⟩ := index15 t
  exact ix3_of_val _ _ _ _
    (by show win0_15.index t (0 : Fin 3) * 1 + 1 * 0 = t.val / 4; omega)
    (by show win0_15.index t (1 : Fin 3) * 4096 + 1 * a.val = 4096 * (t.val % 4) + a.val; omega)
    (by show win0_15.index t (2 : Fin 3) * 128 + 1 * l.val = l.val; omega)

theorem emb16 (r : Fin 512) (l : Fin 128) :
    ((cfg0.win 16).blk t).view.emb (ix3 0 r l : S1x512x128.Idx) = ix3 (sample t) (place t r) l := by
  obtain ⟨e0, e1, e2⟩ := index16 t
  exact ix3_of_val _ _ _ _
    (by show win0_16.index t (0 : Fin 3) * 1 + 1 * 0 = t.val / 4; omega)
    (by show win0_16.index t (1 : Fin 3) * 512 + 1 * r.val = 512 * (t.val % 4) + r.val; omega)
    (by show win0_16.index t (2 : Fin 3) * 128 + 1 * l.val = l.val; omega)

/-- The point whose blocks hold token `n` of sample `b`. -/
def point (b : Fin 32) (n : Fin 2048) : Fin cfg0.N := ⟨4 * b.val + n.val / 512, lt_of_lt_of_eq (by omega) Gen.N_0.symm⟩

theorem sample_point (b : Fin 32) (n : Fin 2048) : sample (point b n) = b :=
  Fin.ext (by show (4 * b.val + n.val / 512) / 4 = b.val; omega)

theorem place_point (b : Fin 32) (n : Fin 2048) : place (point b n) ⟨n.val % 512, by omega⟩ = n :=
  Fin.ext (by show 512 * ((4 * b.val + n.val / 512) % 4) + n.val % 512 = n.val; omega)

/-- What a point leaves is its block of the residual rows, -/
theorem block_eq14 (i : S1x512x1024.Idx) :
    (outsAt0 m c t).1 i = residuals (tokens m c) (((cfg0.win 14).blk t).view.emb i) := by
  obtain ⟨r, d, rfl⟩ := block_idx i
  rw [emb14, block14 m c t (router m c)]
  exact congrArg (fun k : Token => k.residual d) (tok_eq m c t r)

theorem covered14 (i : S32x2048x1024.Idx) : ∃ t : Fin cfg0.N, (cfg0.win 14).flush t = true ∧ i ∈ ((cfg0.win 14).blk t).view.set := by
  obtain ⟨b, n, d, rfl⟩ : ∃ (b : Fin 32) (n : Fin 2048) (d : Fin 1024), i = ix3 b n d := ⟨i 0, i 1, i 2, ix3_of_val i _ _ _ rfl rfl rfl⟩
  have h := ((cfg0.win 14).blk (point b n)).view.emb_mem_set (ix3 0 ⟨n.val % 512, by omega⟩ d : S1x512x1024.Idx)
  rw [emb14 (point b n) _ d, sample_point, place_point b n] at h
  exact ⟨point b n, flush0_14 _, h⟩

/-- and their array holds them after the run. -/
theorem final14 : (dats m 0 c).arrAt 14 cfg0.N = residuals (tokens m c) := by
  refine (dats m 0 c).arrAt_eq_of_cover 14 (residuals (tokens m c)) (fun t _ => ?_) covered14
  show (cfg0.win 14).cut (grid0.coords t) ((dats m 0 c).after 14 t) = _
  rw [after0_14]
  funext i
  exact block_eq14 m c t i

/-- What a point leaves is its block of the modulated rows, -/
theorem block_eq15 (i : S1x4096x128.Idx) :
    (outsAt0 m c t).2.1 i = modulateds (tokens m c) (((cfg0.win 15).blk t).view.emb i) := by
  obtain ⟨a, l, rfl⟩ := block_idx i
  rw [emb15, block15 m c t (router m c)]
  refine (congrArg (fun k : Token => k.hidden ⟨128 * (a.val % 8) + l.val, by omega⟩) (tok_eq m c t ⟨a.val / 8, by omega⟩)).trans ?_
  exact congrArg₂ (fun n d => (tokens m c (sample t) n).hidden d)
    (Fin.ext (by show 512 * (t.val % 4) + a.val / 8 = (4096 * (t.val % 4) + a.val) / 8; omega))
    (Fin.ext (by show 128 * (a.val % 8) + l.val = 128 * ((4096 * (t.val % 4) + a.val) % 8) + l.val; omega))

theorem covered15 (i : S32x16384x128.Idx) : ∃ t : Fin cfg0.N, (cfg0.win 15).flush t = true ∧ i ∈ ((cfg0.win 15).blk t).view.set := by
  obtain ⟨b, a, l, rfl⟩ : ∃ (b : Fin 32) (a : Fin 16384) (l : Fin 128), i = ix3 b a l := ⟨i 0, i 1, i 2, ix3_of_val i _ _ _ rfl rfl rfl⟩
  have h := ((cfg0.win 15).blk (point b ⟨a.val / 8, by omega⟩)).view.emb_mem_set (ix3 0 ⟨a.val % 4096, by omega⟩ l : S1x4096x128.Idx)
  rw [emb15 (point b ⟨a.val / 8, by omega⟩) _ l, sample_point] at h
  refine ⟨point b ⟨a.val / 8, by omega⟩, flush0_15 _, ?_⟩
  rw [show (ix3 b a l : Ix3 32 16384 128) = ix3 b (⟨4096 * ((point b ⟨a.val / 8, by omega⟩).val % 4) + a.val % 4096, by omega⟩ : Fin 16384) l from
    ix3_of_val _ _ _ _ rfl (by show a.val = 4096 * ((4 * b.val + a.val / 8 / 512) % 4) + a.val % 4096; omega) rfl]
  exact h

/-- and their array holds them after the run. -/
theorem final15 : (dats m 0 c).arrAt 15 cfg0.N = modulateds (tokens m c) := by
  refine (dats m 0 c).arrAt_eq_of_cover 15 (modulateds (tokens m c)) (fun t _ => ?_) covered15
  show (cfg0.win 15).cut (grid0.coords t) ((dats m 0 c).after 15 t) = _
  rw [after0_15]
  funext i
  exact block_eq15 m c t i

/-- The arguments of device `c` that the affinities need real: gains, scales, shifts and the router's weights. -/
structure Real : Prop where
  gain : ∀ i, Fin' (m ((c.tc : Thread nD τ).loc main_arg6) i)
  scale : ∀ i, Fin' (m ((c.tc : Thread nD τ).loc main_arg7) i)
  shift : ∀ i, Fin' (m ((c.tc : Thread nD τ).loc main_arg8) i)
  router : ∀ i, Fin' (m ((c.tc : Thread nD τ).loc main_arg12) i)

/-- What a point leaves is its block of the affinities, -/
theorem block_eq16 (h : Real m c) (i : S1x512x128.Idx) :
    (outsAt0 m c t).2.2 i = affinities (tokens m c) (((cfg0.win 16).blk t).view.emb i) := by
  obtain ⟨r, l, rfl⟩ := block_idx i
  rw [emb16, block16 m c t (router m c)
    (fun d l => by
      rw [iblk13_apply, v6_apply m c (fun i => by rw [V_main_arg12]; exact h.router i), V_main_arg12])
    (fun d e => h.router _)
    (fun d => by rw [iblk6_apply, V_main_arg6]; exact h.gain _)
    (fun d => by rw [iblk7_apply, V_main_arg7]; exact h.scale _)
    (fun d => by rw [iblk8_apply, V_main_arg8]; exact h.shift _)]
  exact congrArg (fun k : Token => k.affinity l) (tok_eq m c t r)

theorem covered16 (i : S32x2048x128.Idx) : ∃ t : Fin cfg0.N, (cfg0.win 16).flush t = true ∧ i ∈ ((cfg0.win 16).blk t).view.set := by
  obtain ⟨b, n, l, rfl⟩ : ∃ (b : Fin 32) (n : Fin 2048) (l : Fin 128), i = ix3 b n l := ⟨i 0, i 1, i 2, ix3_of_val i _ _ _ rfl rfl rfl⟩
  have h := ((cfg0.win 16).blk (point b n)).view.emb_mem_set (ix3 0 ⟨n.val % 512, by omega⟩ l : S1x512x128.Idx)
  rw [emb16 (point b n) _ l, sample_point, place_point b n] at h
  exact ⟨point b n, flush0_16 _, h⟩

/-- and their array holds them after the run. -/
theorem final16 (h : Real m c) : (dats m 0 c).arrAt 16 cfg0.N = affinities (tokens m c) := by
  refine (dats m 0 c).arrAt_eq_of_cover 16 (affinities (tokens m c)) (fun t _ => ?_) covered16
  show (cfg0.win 16).cut (grid0.coords t) ((dats m 0 c).after 16 t) = _
  rw [after0_16]
  funext i
  exact block_eq16 m c t h i

/-- Every run ends with the residual rows, the modulated rows and the affinities of the tokens, and leaves the arguments alone. -/
theorem run (h : ∀ c, Real m c) : θ_run defs (onTc (τ := τ) (main (F := Ideal))) ⟨m, fun _ => 0, ρ⟩ (fun r => ∀ c : Dev nD,
      r.2.mem ((c.tc : Thread nD τ).loc main_v10_0) = residuals (tokens m c)
      ∧ r.2.mem ((c.tc : Thread nD τ).loc main_v10_1) = modulateds (tokens m c)
      ∧ r.2.mem ((c.tc : Thread nD τ).loc main_v10_2) = affinities (tokens m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ g c => ⟨((g.1 c).1 14).trans (final14 m c), ((g.1 c).1 15).trans (final15 m c),
      ((g.1 c).1 16).trans (final16 m c (h c)), g.2 c⟩)
    (θ_run_and (run_main m ρ) (unchanged m ρ))

end Cert.MergeIdeal.Mrg

end
-- ==== Proof.MergeRef.lean ====
/-
  THE MERGE'S REFERENCE, at the extended reals: its three results are `Merging.residuals`, `modulateds` and `affinities` over the
  tokens of its arguments. It multiplies whole arrays, divides the sums of squares where the kernel multiplies them by a
  reciprocal, and takes the router's weights as they are.
-/
module

public import proofs.«01_k».proof.Proof.Merging
public import proofs.«01_k».proof.Proof.ProjRef
public import proofs.«01_k».proof.Proof.Gen.MergeReferenceIdeal.Run
public import proofs.«01_k».proof.Proof.Gen.MergeReferenceIdeal.Read
public import Idealize.ShloMosaic.Lib.KernelVsHost
public import Idealize.ShloMosaic.Lib.Pointwise

@[expose] public section

set_option maxRecDepth 16384
noncomputable section

namespace Cert.MergeReferenceIdeal.Mrg

open Cert.MergeReferenceIdeal Cert.MergeReferenceIdeal.Gen Cert.MergeReferenceIdeal.Read Cert.Merging
open Cert.Projection (Ix2 Ix3 Ix4 rms per)
open Cert.ProjReferenceIdeal.Lat (div_1024 idx3)
open Idealize.ShloMosaic Idealize.ShloMosaic.TcCoe Idealize.ShloMosaic.Pointwise Idealize.SL.Sem

variable (x0 : Vec Ideal S32x4x128x2048 .bf16) (x1 : Vec Ideal S32x2048x512 .bf16) (x2 x3 : Vec Ideal S32x2048x1024 .bf16)
  (x4 : Vec Ideal S32x2048x1024 .f32) (x5 : Vec Ideal S32x1x1024 .f32) (x6 : Vec Ideal S1x1024 .f32) (x7 x8 : Vec Ideal S32x1x1024 .f32)
  (x9 x10 : Vec Ideal S512x1024 .f32) (x11 : Vec Ideal S1024x1024 .f32) (x12 : Vec Ideal S1024x16 .f32)

/-- The tokens of the reference's arguments. -/
abbrev tokens : Fin 32 → Fin 2048 → Token :=
  token (B := 32) (T := 2048) x0 x1 x2 x3 x4 x5 x6 x7 x8 x9 x10 x11 (fun d e => x12 (ix2 d e))

/-! ## The stages -/

theorem attn_eq (b : Fin 32) (n : Fin 2048) (a : Fin 512) :
    val_main_v2 (F := Ideal) x0 (ix3 b n a) = x0 (ix4 b ⟨a.val / 128, by omega⟩ ⟨a.val % 128, by omega⟩ n) := by
  unfold val_main_v2 val_main_v1 val_main_v0
  pointwise

theorem mix_eq (b : Fin 32) (n : Fin 2048) (j : Fin 1024) :
    val_main_v10 (F := Ideal) x0 x1 x2 x3 x9 x10 (ix3 b n j) = (tokens x0 x1 x2 x3 x4 x5 x6 x7 x8 x9 x10 x11 x12 b n).mix j := by
  have h := attn_eq x0 b n
  unfold val_main_v10 val_main_v9 val_main_v8 val_main_v7 val_main_v6 val_main_v5 val_main_v4 val_main_v3
  revert h
  generalize val_main_v2 (F := Ideal) x0 = y
  intro h
  pointwise
  simp only [h]
  rfl

theorem residual_eq (b : Fin 32) (n : Fin 2048) (d : Fin 1024) :
    val_main_v14 (F := Ideal) x0 x1 x2 x3 x4 x5 x9 x10 x11 (ix3 b n d)
      = (tokens x0 x1 x2 x3 x4 x5 x6 x7 x8 x9 x10 x11 x12 b n).residual d := by
  have h := mix_eq x0 x1 x2 x3 x4 x5 x6 x7 x8 x9 x10 x11 x12 b n
  unfold val_main_v14 val_main_v13 val_main_v12 val_main_v11
  revert h
  generalize val_main_v10 (F := Ideal) x0 x1 x2 x3 x9 x10 = y
  intro h
  pointwise
  simp only [h]
  rfl

theorem hidden_eq (b : Fin 32) (n : Fin 2048) (d : Fin 1024) :
    val_main_v34 (F := Ideal) x0 x1 x2 x3 x4 x5 x6 x7 x8 x9 x10 x11 (ix3 b n d)
      = (tokens x0 x1 x2 x3 x4 x5 x6 x7 x8 x9 x10 x11 x12 b n).hidden d := by
  have h := residual_eq x0 x1 x2 x3 x4 x5 x6 x7 x8 x9 x10 x11 x12 b n
  unfold val_main_v34 val_main_v33 val_main_v32 val_main_v31 val_main_v30 val_main_v29 val_main_cst_2 val_main_v28 val_main_v27
    val_main_v26 val_main_v25 val_main_v24 val_main_v23 val_main_v22 val_main_v21 val_main_cst_1 val_main_v20 val_main_v19 val_main_cst_0
    val_main_v18 val_main_v17 val_main_cst val_main_v16 val_main_v15
  revert h
  generalize val_main_v14 (F := Ideal) x0 x1 x2 x3 x4 x5 x9 x10 x11 = y
  intro h
  pointwise
  simp only [h]
  rw [div_1024]
  rfl

theorem modulated_eq (b : Fin 32) (a : Fin 16384) (l : Fin 128) :
    val_main_v48 (F := Ideal) x0 x1 x2 x3 x4 x5 x6 x7 x8 x9 x10 x11 (ix3 b a l)
      = (tokens x0 x1 x2 x3 x4 x5 x6 x7 x8 x9 x10 x11 x12 b ⟨a.val / 8, by omega⟩).hidden ⟨128 * (a.val % 8) + l.val, by omega⟩ := by
  rw [← hidden_eq]
  unfold val_main_v48 val_main_v47
  generalize val_main_v34 (F := Ideal) x0 x1 x2 x3 x4 x5 x6 x7 x8 x9 x10 x11 = y
  pointwise
  exact congrArg (fun d => y (ix3 b _ d)) (Fin.ext (by show a.val % 8 * 128 + l.val = 128 * (a.val % 8) + l.val; omega))

theorem logit_eq (b : Fin 32) (n : Fin 2048) (e : Fin 16) :
    val_main_v35 (F := Ideal) x0 x1 x2 x3 x4 x5 x6 x7 x8 x9 x10 x11 x12 (ix3 b n e)
      = (tokens x0 x1 x2 x3 x4 x5 x6 x7 x8 x9 x10 x11 x12 b n).logit e := by
  have h := hidden_eq x0 x1 x2 x3 x4 x5 x6 x7 x8 x9 x10 x11 x12 b n
  unfold val_main_v35
  revert h
  generalize val_main_v34 (F := Ideal) x0 x1 x2 x3 x4 x5 x6 x7 x8 x9 x10 x11 = y
  intro h
  pointwise
  exact Finset.sum_congr rfl fun d _ => congrArg (· * _) (h d)

theorem bot_bits : Ideal.ofBits .f32 0xFF800000#32 = ⊥ := by simp [Ideal.ofBits, Ideal.ieee]

/-- What the softmax takes off is the greatest of the scores. -/
theorem greatest_eq (b : Fin 32) (n : Fin 2048) : val_main_v38 (F := Ideal) x0 x1 x2 x3 x4 x5 x6 x7 x8 x9 x10 x11 x12 (ix2 b n)
    = top (tokens x0 x1 x2 x3 x4 x5 x6 x7 x8 x9 x10 x11 x12 b n).logit := by
  have h := logit_eq x0 x1 x2 x3 x4 x5 x6 x7 x8 x9 x10 x11 x12 b n
  unfold val_main_v38 val_main_v37 val_main_cst_4 val_main_v36 val_main_cst_3
  revert h
  generalize val_main_v35 (F := Ideal) x0 x1 x2 x3 x4 x5 x6 x7 x8 x9 x10 x11 x12 = y
  intro h
  pointwise
  rw [bot_bits, max_eq_right bot_le]
  exact congrArg (Finset.fold max ⊥ · Finset.univ) (funext h)

theorem weight_eq (b : Fin 32) (n : Fin 2048) (e : Fin 16) : val_main_v46 (F := Ideal) x0 x1 x2 x3 x4 x5 x6 x7 x8 x9 x10 x11 x12 (ix3 b n e)
    = softmax (tokens x0 x1 x2 x3 x4 x5 x6 x7 x8 x9 x10 x11 x12 b n).logit e := by
  have h := logit_eq x0 x1 x2 x3 x4 x5 x6 x7 x8 x9 x10 x11 x12 b n
  have g := greatest_eq x0 x1 x2 x3 x4 x5 x6 x7 x8 x9 x10 x11 x12 b n
  unfold val_main_v46 val_main_v45 val_main_v44 val_main_v43 val_main_cst_5 val_main_v42 val_main_v41 val_main_v40 val_main_v39
  revert h g
  generalize val_main_v35 (F := Ideal) x0 x1 x2 x3 x4 x5 x6 x7 x8 x9 x10 x11 x12 = y
  generalize val_main_v38 (F := Ideal) x0 x1 x2 x3 x4 x5 x6 x7 x8 x9 x10 x11 x12 = z
  intro h g
  pointwise
  simp only [h, g]
  rfl

theorem affinity_eq (b : Fin 32) (n : Fin 2048) (l : Fin 128) : val_main_v49 (F := Ideal) x0 x1 x2 x3 x4 x5 x6 x7 x8 x9 x10 x11 x12 (ix3 b n l)
    = (tokens x0 x1 x2 x3 x4 x5 x6 x7 x8 x9 x10 x11 x12 b n).affinity l := by
  have h := weight_eq x0 x1 x2 x3 x4 x5 x6 x7 x8 x9 x10 x11 x12 b n
  have z : FloatOps.sitofp (F := Ideal) .f32 (0#32) = (0 : EReal) := by
    show ((((0#32 : BitVec 32).toInt : ℝ)) : EReal) = 0
    simp
  unfold val_main_v49 val_main_call0_v0 val_main_c
  revert h
  generalize val_main_v46 (F := Ideal) x0 x1 x2 x3 x4 x5 x6 x7 x8 x9 x10 x11 x12 = y
  intro h
  unfold Token.affinity
  pointwise
  simp only [h, z]

/-! ## The three results -/

theorem residuals_eq : val_main_v14 (F := Ideal) x0 x1 x2 x3 x4 x5 x9 x10 x11 = residuals (tokens x0 x1 x2 x3 x4 x5 x6 x7 x8 x9 x10 x11 x12) :=
  funext fun i => (congrArg _ (idx3 i)).trans (residual_eq x0 x1 x2 x3 x4 x5 x6 x7 x8 x9 x10 x11 x12 (i 0) (i 1) (i 2))
theorem modulateds_eq : val_main_v48 (F := Ideal) x0 x1 x2 x3 x4 x5 x6 x7 x8 x9 x10 x11 = modulateds (tokens x0 x1 x2 x3 x4 x5 x6 x7 x8 x9 x10 x11 x12) :=
  funext fun i => (congrArg _ (idx3 i)).trans (modulated_eq x0 x1 x2 x3 x4 x5 x6 x7 x8 x9 x10 x11 x12 (i 0) (i 1) (i 2))
theorem affinities_eq : val_main_v49 (F := Ideal) x0 x1 x2 x3 x4 x5 x6 x7 x8 x9 x10 x11 x12 = affinities (tokens x0 x1 x2 x3 x4 x5 x6 x7 x8 x9 x10 x11 x12) :=
  funext fun i => (congrArg _ (idx3 i)).trans (affinity_eq x0 x1 x2 x3 x4 x5 x6 x7 x8 x9 x10 x11 x12 (i 0) (i 1) (i 2))

/-- The tokens of the arrays that the reference starts from on device `c`. -/
abbrev held (m : (ℓ : Loc nD τ sig) → Buf (Elt Ideal) ℓ) (c : Dev nD) : Fin 32 → Fin 2048 → Token :=
  tokens (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

/-- Every run of the reference ends with the three arrays in its results, and the arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v14) = residuals (held m c)
      ∧ r.2.mem ((c.tc : Thread nD τ).loc main_v48) = modulateds (held m c)
      ∧ r.2.mem ((c.tc : Thread nD τ).loc main_v49) = affinities (held m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    have ⟨e0, e1, e2, args⟩ := h c
    ⟨e0.trans ((val_main_v14_eq ..).trans (residuals_eq ..)), e1.trans ((val_main_v48_eq ..).trans (modulateds_eq ..)),
      e2.trans ((val_main_v49_eq m c).trans (affinities_eq ..)), args⟩)
    (Value.run (F := Ideal) m ρ)

end Cert.MergeReferenceIdeal.Mrg

end
-- ==== Proof.MergeFinite.lean ====
/-
  WHAT THE MERGE'S PRECONDITION SAYS: `merge_finite` asks of the gains, the scales, the shifts and the router's weights that the
  absolute value of every element be below +∞, so every element is a real number.
-/
module

public import proofs.«01_k».proof.Proof.Finite
public import proofs.«01_k».proof.Proof.Gen.Pre_merge_finite

@[expose] public section

noncomputable section

namespace Cert.Pre_merge_finite

open Idealize.ShloMosaic Cert.Softmax

/-- One argument's check. -/
theorem checked {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf (F := Ideal) .olt (Host.absf x) (broadcastInDim s ![] hb (constant S_ .f32 0x7F800000#32)))
      (constantI S_ 1 1#1) hr hu j = 1#1) (i : s.Idx) : Fin' (x i) :=
  Pre_finite.checked (x : FVec Ideal s .bf16) (by decide) hb hr hu j e i

/-- So at arguments that pass every element of the four is a real number. -/
theorem finite (x0 : FVec Ideal S32x4x128x2048 .bf16) (x1 : FVec Ideal S32x2048x512 .bf16) (x2 x3 : FVec Ideal S32x2048x1024 .bf16)
    (x4 : FVec Ideal S32x2048x1024 .f32) (x5 : FVec Ideal S32x1x1024 .f32) (x6 : FVec Ideal S1x1024 .f32) (x7 x8 : FVec Ideal S32x1x1024 .f32)
    (x9 x10 : FVec Ideal S512x1024 .f32) (x11 : FVec Ideal S1024x1024 .f32) (x12 : FVec Ideal S1024x16 .f32)
    (h : fn (F := Ideal) x0 x1 x2 x3 x4 x5 x6 x7 x8 x9 x10 x11 x12 = fun _ => 1#1) :
    (∀ i, Fin' (x6 i)) ∧ (∀ i, Fin' (x7 i)) ∧ (∀ i, Fin' (x8 i)) ∧ (∀ i, Fin' (x12 i)) := by
  have e := congrFun h (Shape.Idx.first Gen.h_S_)
  unfold fn fn_part1 at e
  obtain ⟨e, e3⟩ := IntOp.andi_eq_one.1 e
  obtain ⟨e, e2⟩ := IntOp.andi_eq_one.1 e
  obtain ⟨e0, e1⟩ := IntOp.andi_eq_one.1 e
  exact ⟨checked x6 _ _ _ _ e0, checked x7 _ _ _ _ e1, checked x8 _ _ _ _ e2, checked x12 _ _ _ _ e3⟩

end Cert.Pre_merge_finite

end
-- ==== Proof.Context.lean ====
/-
  THE CONTEXT'S KEYS AND VALUES AS FUNCTIONS OF ONE TOKEN, at the extended reals. A context token is a `Projection.Token` of which
  only the keys and the values are wanted: it makes no query, it stands at the position whose rotation is none, and all samples
  share one scale and one shift. And THE LAST RESIDUAL: the result row of a token is its row and the gate times what the experts
  made of it.
-/
module

public import proofs.«01_k».proof.Proof.Projection

@[expose] public section

noncomputable section

namespace Cert.Context

open Cert.Projection Idealize.ShloMosaic Idealize.ShloMosaic.Pointwise

/-- Context token `t` of sample `b` of arrays with `B` samples of `T` tokens. -/
def token {B T : Nat} (x : Ix3 B T 1024 → EReal) (g : Ix2 1 1024 → EReal) (sc sh : Ix3 1 1 1024 → EReal) (w : Ix2 1024 3328 → EReal)
    (kvag : Ix2 1 256 → EReal) (wk : Ix2 256 1024 → EReal) (wv : Ix2 256 512 → EReal) (kg ka : Ix2 1 128 → EReal) (b : Fin B) (t : Fin T) :
    Token where
  x d := x (ix3 b t d)
  gain d := g (ix2 0 d)
  scale d := sc (ix3 0 0 d)
  shift d := sh (ix3 0 0 d)
  win d j := w (ix2 d j)
  qaGain _ := 0
  kvaGain e := kvag (ix2 0 e)
  wq _ _ := 0
  wk e j := wk (ix2 e j)
  wv e j := wv (ix2 e j)
  qGain _ := 0
  kGain l := kg (ix2 0 l)
  qAdd _ := 0
  kAdd l := ka (ix2 0 l)
  cos _ := 1
  sin _ := 0

/-- Without a rotation a head is its normalized row, scaled, with `a` added. -/
theorem head_plain (g a y : Fin 128 → EReal) (l : Fin 128) : head g a (fun _ => 1) (fun _ => 0) y l = rms (per 96) y l * g l + a l := by
  unfold head
  rw [mul_one, mul_zero, add_zero]

theorem ix2_of_val {a b : Nat} (i : Ix2 a b) (p : Fin a) (q : Fin b) (h0 : (i 0).val = p.val) (h1 : (i 1).val = q.val) : i = ix2 p q := by
  funext k; fin_cases k
  · exact Fin.ext h0
  · exact Fin.ext h1

theorem ix3_of_val {a b c : Nat} (i : Ix3 a b c) (p : Fin a) (q : Fin b) (r : Fin c) (h0 : (i 0).val = p.val) (h1 : (i 1).val = q.val)
    (h2 : (i 2).val = r.val) : i = ix3 p q r := by
  funext k; fin_cases k
  · exact Fin.ext h0
  · exact Fin.ext h1
  · exact Fin.ext h2

theorem ix4_of_val {a b c d : Nat} (i : Ix4 a b c d) (p : Fin a) (q : Fin b) (r : Fin c) (s : Fin d) (h0 : (i 0).val = p.val) (h1 : (i 1).val = q.val)
    (h2 : (i 2).val = r.val) (h3 : (i 3).val = s.val) : i = ix4 p q r s := by
  funext k; fin_cases k
  · exact Fin.ext h0
  · exact Fin.ext h1
  · exact Fin.ext h2
  · exact Fin.ext h3

/-- The last residual over arrays with `B` samples of `N` tokens: the experts' sums `y` lie as eight rows of 128 lanes for each
    token. -/
def last {B N M : Nat} (hM : 8 * N = M) (x : Ix3 B N 1024 → EReal) (y : Ix3 B M 128 → EReal) (g : Ix3 B 1 1024 → EReal) (b : Fin B) (n : Fin N) (d : Fin 1024) : EReal :=
  x (ix3 b n d) + g (ix3 b 0 d) * y (ix3 b ⟨8 * n.val + d.val / 128, by omega⟩ ⟨d.val % 128, by omega⟩)

end Cert.Context

end
-- ==== Proof.CtxBlock.lean ====
/-
  WHAT A GRID POINT OF THE CONTEXT'S PROJECTION LEAVES, at the extended reals. A point takes four samples of 256 context tokens as
  1024 rows: row `r` is token `r % 256` of sample `r / 256`. Every value that the body computes for a row is the part of
  `Projection.Token` it stands for. A head's tile of 1024 rows is stored in four parts, one for each sample, and so is a pair's
  tile of values; the 32 and the 16 stores make the blocks `Projection.keys` and `Projection.values` over the point's tokens.
-/
module

public import proofs.«01_k».proof.Proof.Context
public import proofs.«01_k».proof.Proof.Gen.CtxIdeal.Frame
public import Idealize.ShloMosaic.PureOps.IdealRules
public import Idealize.ShloMosaic.Lib.Pointwise
public import Idealize.ShloMosaic.Lib.Pipeline.ValueKit
public import Idealize.ShloMosaic.Lib.Pipeline.Value

@[expose] public section

set_option maxRecDepth 16384
noncomputable section

namespace Cert.CtxIdeal.Con

open Cert.CtxIdeal Cert.CtxIdeal.Gen Cert.Context
open Cert.Projection (Token Ix2 Ix3 Ix4 rms per slot head keys values)
open Idealize.ShloMosaic Idealize.ShloMosaic.TcCoe Idealize.ShloMosaic.Tactic Idealize.ShloMosaic.Pointwise

theorem per_1024 : Ideal.ofBits .f32 0x3A800000#32 = per 1024 := by
  simp [Ideal.ofBits, Ideal.ieee, per]
  rw [← EReal.coe_mul]
  norm_num
theorem per_256 : Ideal.ofBits .f32 0x3B800000#32 = per 256 := by
  simp [Ideal.ofBits, Ideal.ieee, per]
  rw [← EReal.coe_mul]
  norm_num
theorem per_96 : Named.named (F := Ideal) κ "inv_qk" (φ := .f32) 0x3C2AAAAB#32 = per 96 :=
  IdealRules.named_const.ideal_named_scalar _ _ _ _ rfl

/-- The sample of a row among the point's four, -/
def which (r : Fin 1024) : Fin 4 := ⟨r.val / 256, by omega⟩
/-- and its token; -/
def spot (r : Fin 1024) : Fin 256 := ⟨r.val % 256, by omega⟩
/-- the row of a sample's token. -/
def row (i : Fin 4) (s : Fin 256) : Fin 1024 := ⟨256 * i.val + s.val, by omega⟩

theorem which_row (i : Fin 4) (s : Fin 256) : which (row i s) = i := Fin.ext (by show (256 * i.val + s.val) / 256 = i.val; omega)
theorem spot_row (i : Fin 4) (s : Fin 256) : spot (row i s) = s := Fin.ext (by show (256 * i.val + s.val) % 256 = s.val; omega)

/-! ## The values of the body, over any operands -/

theorem hidden_pay (v0 : Vec Ideal S4x256x1024 .f32) (v12 : Vec Ideal S1x1024 .f32) (v13 v20 : Vec Ideal S1x1x1024 .f32)
    (r d : Fin 1024) : k0_pay5 (F := Ideal) v0 v12 v13 v20 (ix2 r d)
      = rms (per 1024) (fun d => v0 (ix3 (which r) (spot r) d)) d * v12 (ix2 0 d) * (1 + v13 (ix3 0 0 d)) + v20 (ix3 0 0 d) := by
  have e (d : Fin 1024) : (shapeCast S1024x1024 v0 shapeCasts_S4x256x1024_S1024x1024 : FVec Ideal S1024x1024 .f32) (ix2 r d) = v0 (ix3 (which r) (spot r) d) := by
    pointwise
    rfl
  unfold k0_pay5
  revert e
  generalize (shapeCast S1024x1024 v0 shapeCasts_S4x256x1024_S1024x1024 : FVec Ideal S1024x1024 .f32) = y
  intro e
  pointwise
  simp only [e]
  rw [per_1024, ← mul_assoc]
  rfl

theorem rotary_pay (v0 : Vec Ideal S4x256x1024 .f32) (v12 : Vec Ideal S1x1024 .f32) (v13 v20 : Vec Ideal S1x1x1024 .f32)
    (w : Vec Ideal S1024x128 .bf16) (r : Fin 1024) (j : Fin 128) :
    k0_pay6 (F := Ideal) v0 v12 v13 v20 w (ix2 r j) = ∑ d, k0_pay5 (F := Ideal) v0 v12 v13 v20 (ix2 r d) * w (ix2 d j) := by
  unfold k0_pay6
  generalize k0_pay5 (F := Ideal) v0 v12 v13 v20 = h
  pointwise

theorem latent_pay (v0 : Vec Ideal S4x256x1024 .f32) (v12 : Vec Ideal S1x1024 .f32) (v13 v20 : Vec Ideal S1x1x1024 .f32)
    (w : Vec Ideal S1024x256 .bf16) (r : Fin 1024) (j : Fin 256) :
    k0_pay7 (F := Ideal) v0 v12 v13 v20 w (ix2 r j) = ∑ d, k0_pay5 (F := Ideal) v0 v12 v13 v20 (ix2 r d) * w (ix2 d j) := by
  unfold k0_pay7
  generalize k0_pay5 (F := Ideal) v0 v12 v13 v20 = h
  pointwise

theorem square_pay (v0 : Vec Ideal S4x256x1024 .f32) (v12 : Vec Ideal S1x1024 .f32) (v13 v20 : Vec Ideal S1x1x1024 .f32)
    (w : Vec Ideal S1024x256 .bf16) (r : Fin 1024) :
    k0_pay8 (F := Ideal) v0 v12 v13 v20 w (ix2 r 0)
      = (∑ e, k0_pay7 (F := Ideal) v0 v12 v13 v20 w (ix2 r e) * k0_pay7 (F := Ideal) v0 v12 v13 v20 w (ix2 r e)) * per 256 := by
  unfold k0_pay8
  generalize k0_pay7 (F := Ideal) v0 v12 v13 v20 w = y
  pointwise
  rw [per_256]

theorem eps_pay (r : Fin 1024) : k0_pay9 (F := Ideal) (ix2 r 0) = Projection.eps := by
  pointwise [k0_pay9]
  rfl

theorem kvLatent_pay (y : FVec Ideal S1024x256 .f32) (q e : FVec Ideal S1024x1 .f32) (g : Vec Ideal S1x256 .f32) (r : Fin 1024) (j : Fin 256) :
    k0_pay10 (F := Ideal) y q e g (ix2 r j) = y (ix2 r j) * Ideal.rsqrt (q (ix2 r 0) + e (ix2 r 0)) * g (ix2 0 j) := by
  pointwise [k0_pay10]

theorem rawKey_pay (y : FVec Ideal S1024x256 .f32) (q e : FVec Ideal S1024x1 .f32) (g : Vec Ideal S1x256 .f32) (w : Vec Ideal S256x1024 .bf16)
    (r j : Fin 1024) : k0_pay11 (F := Ideal) y q e g w (ix2 r j) = ∑ k, k0_pay10 (F := Ideal) y q e g (ix2 r k) * w (ix2 k j) := by
  unfold k0_pay11
  generalize k0_pay10 (F := Ideal) y q e g = h
  pointwise

theorem value_pay (h : FVec Ideal S1024x256 .bf16) (w : Vec Ideal S256x512 .bf16) (r : Fin 1024) (j : Fin 512) :
    k0_pay59 (F := Ideal) h w (ix2 r j) = ∑ k, h (ix2 r k) * w (ix2 k j) := by
  pointwise [k0_pay59]

/-! ## A head and a pair of heads -/

/-- A head's tile: the rows `y` normalized, scaled and raised. -/
def headTile (y : FVec Ideal S1024x128 .f32) (g a : Vec Ideal S1x128 .f32) : FVec Ideal S1024x128 .bf16 :=
  truncf .bf16 (addf (mulf (mulf y (broadcastTo S1024x128 (rsqrt (addf (mulf (shapeCast S1024x1
    (multiReduction .add [1] S1024 (mulf y y) 0x00000000#32 reduces_S1024x128_S1024 (.inl rfl) rfl) shapeCasts_S1024_S1024x1)
    (broadcast S1024x1 (Named.named κ "inv_qk" 0x3C2AAAAB#32))) (broadcast S1024x1 (Scalar.ofBits .f32 0x358637BD#32)))) broadcasts_S1024x1_S1024x128))
    (broadcastTo S1024x128 g broadcasts_S1x128_S1024x128)) (broadcastTo S1024x128 a broadcasts_S1x128_S1024x128)) bitsLt_bf16_f32

theorem headTile_apply (y : FVec Ideal S1024x128 .f32) (g a : Vec Ideal S1x128 .f32) (r : Fin 1024) (l : Fin 128) :
    headTile y g a (ix2 r l) = rms (per 96) (fun l => y (ix2 r l)) l * g (ix2 0 l) + a (ix2 0 l) := by
  pointwise [headTile]
  rw [per_96]
  rfl

/-- The rows of sample `i` of a head's tile. -/
def headPart (z : FVec Ideal S1024x128 .bf16) (i : Fin 4) : FVec Ideal S1x1x256x128 .bf16 :=
  shapeCast S1x1x256x128 (extractStridedSlice S256x128 ![256 * i.val, 0] z (by revert i; decide +kernel) : FVec Ideal S256x128 .bf16)
    shapeCasts_S256x128_S1x1x256x128

theorem headPart_apply (z : FVec Ideal S1024x128 .bf16) (i : Fin 4) (s : Fin 256) (l : Fin 128) :
    headPart z i (ix4 0 0 s l) = z (ix2 (row i s) l) := by
  pointwise [headPart]
  rfl

/-- Head `h` of eight slots. -/
def headSlice (y : FVec Ideal S1024x1024 .f32) (h : Fin 8) : FVec Ideal S1024x128 .f32 :=
  extractStridedSlice S1024x128 ![0, 128 * h.val] y (by revert h; decide +kernel)

theorem headSlice_apply (y : FVec Ideal S1024x1024 .f32) (h : Fin 8) (r : Fin 1024) (l : Fin 128) :
    headSlice y h (ix2 r l) = y (ix2 r (slot h l)) := by
  pointwise [headSlice]
  rfl

/-- The part of the block of keys that head `h` of sample `i` fills. -/
abbrev hRect (i : Fin 4) (h : Fin 8) : Rect S4x8x256x128 :=
  Rect.unit (s := S4x8x256x128) ![i.val, h.val, 0, 0] S1x1x256x128.size (by revert i h; decide +kernel)

/-- The 32 stores of the block of keys, last first. -/
abbrev heads (p : Fin 4 → Fin 8 → FVec Ideal S1x1x256x128 .bf16) : List (View.Piece (Elt Ideal) S4x8x256x128 .bf16) :=
  ([7, 6, 5, 4, 3, 2, 1, 0] : List (Fin 8)).flatMap fun h => ([3, 2, 1, 0] : List (Fin 4)).map fun i => ⟨hRect i h, p i h⟩

theorem hRect_emb (i : Fin 4) (h : Fin 8) (x : S1x1x256x128.Idx) : (hRect i h).emb x = ix4 i h (x 2) (x 3) := by
  have h0 : (x 0).val < 1 := (x 0).isLt
  have h1 : (x 1).val < 1 := (x 1).isLt
  exact ix4_of_val _ _ _ _ _ (by show i.val + 1 * (x 0).val = i.val; omega) (by show h.val + 1 * (x 1).val = h.val; omega)
    (by show 0 + 1 * (x 2).val = (x 2).val; omega) (by show 0 + 1 * (x 3).val = (x 3).val; omega)

theorem tile_idx {a b : Nat} (x : Ix4 1 1 a b) : x = ix4 0 0 (x 2) (x 3) := by
  have h0 : (x 0).val < 1 := (x 0).isLt
  have h1 : (x 1).val < 1 := (x 1).isLt
  exact ix4_of_val _ _ _ _ _ (by show (x 0).val = 0; omega) (by show (x 1).val = 0; omega) rfl rfl

/-- A block whose 32 stores are the heads of `G` holds `G`. -/
theorem heads_eq (G : S4x8x256x128.Idx → EReal) (p : Fin 4 → Fin 8 → FVec Ideal S1x1x256x128 .bf16)
    (hp : ∀ i h s l, p i h (ix4 0 0 s l) = G (ix4 i h s l)) : View.canon (heads p) = G := by
  funext y
  refine View.canon_apply_of_pieces (Val := Elt Ideal) (e := .bf16) G (heads p) ?_ y
    (cover0_10 (F := Ideal) (p 3 7) (p 2 7) (p 1 7) (p 0 7) (p 3 6) (p 2 6) (p 1 6) (p 0 6) (p 3 5) (p 2 5) (p 1 5) (p 0 5) (p 3 4) (p 2 4) (p 1 4) (p 0 4) (p 3 3) (p 2 3) (p 1 3) (p 0 3) (p 3 2) (p 2 2) (p 1 2) (p 0 2) (p 3 1) (p 2 1) (p 1 1) (p 0 1) (p 3 0) (p 2 0) (p 1 0) (p 0 0) y)
  intro q hq
  obtain ⟨h, -, hq⟩ := List.mem_flatMap.mp hq
  obtain ⟨i, -, rfl⟩ := List.mem_map.mp hq
  intro x
  rw [hRect_emb]
  exact (congrArg (p i h) (tile_idx x)).trans (hp i h _ _)

/-- A pair of heads' tile of values: columns `128 p …` of the values, turned. -/
def pairTile (y : FVec Ideal S1024x512 .f32) (p : Fin 4) : FVec Ideal S128x1024 .bf16 :=
  truncf .bf16 (transpose S128x1024 [1, 0] (extractStridedSlice S1024x128 ![0, 128 * p.val] y (by revert p; decide +kernel) : FVec Ideal S1024x128 .f32)
    transposes_S1024x128_p1_0_S128x1024) bitsLt_bf16_f32

theorem pairTile_apply (y : FVec Ideal S1024x512 .f32) (p : Fin 4) (c : Fin 128) (r : Fin 1024) :
    pairTile y p (ix2 c r) = y (ix2 r ⟨128 * p.val + c.val, by omega⟩) := by
  pointwise [pairTile]

/-- The columns of sample `i` of a pair's tile. -/
def pairPart (z : FVec Ideal S128x1024 .bf16) (i : Fin 4) : FVec Ideal S1x1x128x256 .bf16 :=
  shapeCast S1x1x128x256 (extractStridedSlice S128x256 ![0, 256 * i.val] z (by revert i; decide +kernel) : FVec Ideal S128x256 .bf16)
    shapeCasts_S128x256_S1x1x128x256

theorem pairPart_apply (z : FVec Ideal S128x1024 .bf16) (i : Fin 4) (c : Fin 128) (s : Fin 256) :
    pairPart z i (ix4 0 0 c s) = z (ix2 c (row i s)) := by
  pointwise [pairPart]
  rfl

/-- The part of the block of values that pair `p` of sample `i` fills. -/
abbrev pRect (i : Fin 4) (p : Fin 4) : Rect S4x4x128x256 :=
  Rect.unit (s := S4x4x128x256) ![i.val, p.val, 0, 0] S1x1x128x256.size (by revert i p; decide +kernel)

/-- The 16 stores of the block of values, last first. -/
abbrev pairs (p : Fin 4 → Fin 4 → FVec Ideal S1x1x128x256 .bf16) : List (View.Piece (Elt Ideal) S4x4x128x256 .bf16) :=
  ([3, 2, 1, 0] : List (Fin 4)).flatMap fun q => ([3, 2, 1, 0] : List (Fin 4)).map fun i => ⟨pRect i q, p i q⟩

theorem pRect_emb (i p : Fin 4) (x : S1x1x128x256.Idx) : (pRect i p).emb x = ix4 i p (x 2) (x 3) := by
  have h0 : (x 0).val < 1 := (x 0).isLt
  have h1 : (x 1).val < 1 := (x 1).isLt
  exact ix4_of_val _ _ _ _ _ (by show i.val + 1 * (x 0).val = i.val; omega) (by show p.val + 1 * (x 1).val = p.val; omega)
    (by show 0 + 1 * (x 2).val = (x 2).val; omega) (by show 0 + 1 * (x 3).val = (x 3).val; omega)

/-- A block whose 16 stores are the pairs of `G` holds `G`. -/
theorem pairs_eq (G : S4x4x128x256.Idx → EReal) (p : Fin 4 → Fin 4 → FVec Ideal S1x1x128x256 .bf16)
    (hp : ∀ i q c s, p i q (ix4 0 0 c s) = G (ix4 i q c s)) : View.canon (pairs p) = G := by
  funext y
  refine View.canon_apply_of_pieces (Val := Elt Ideal) (e := .bf16) G (pairs p) ?_ y
    (cover0_11 (F := Ideal) (p 3 3) (p 2 3) (p 1 3) (p 0 3) (p 3 2) (p 2 2) (p 1 2) (p 0 2) (p 3 1) (p 2 1) (p 1 1) (p 0 1) (p 3 0) (p 2 0) (p 1 0) (p 0 0) y)
  intro q hq
  obtain ⟨h, -, hq⟩ := List.mem_flatMap.mp hq
  obtain ⟨i, -, rfl⟩ := List.mem_map.mp hq
  intro x
  rw [pRect_emb]
  exact (congrArg (p i h) (tile_idx x)).trans (hp i h _ _)

/-! ## The loads -/

theorem zero2 : (![0, 0] : Fin 2 → Nat) = fun _ => 0 := by decide
theorem zero3 : (![0, 0, 0] : Fin 3 → Nat) = fun _ => 0 := by decide

variable (x0 : Vec Ideal S4x256x1024 .f32) (x1 : Vec Ideal S1x1024 .f32) (x2 x3 : Vec Ideal S1x1x1024 .f32) (x4 : Vec Ideal S1024x3328 .bf16)
  (x5 : Vec Ideal S1x256 .f32) (x6 : Vec Ideal S256x1024 .bf16) (x7 : Vec Ideal S256x512 .bf16) (x8 x9 : Vec Ideal S1x128 .f32)

theorem ld0 : View.ld x0 r0_0 = x0 := View.ld_unit_zero zero3 _ x0
theorem ld1 : View.ld x1 r0_1 = x1 := View.ld_unit_zero zero2 _ x1
theorem ld2 : View.ld x2 r0_2 = x2 := View.ld_unit_zero zero3 _ x2
theorem ld5 : View.ld x5 r0_5 = x5 := View.ld_unit_zero zero2 _ x5
theorem ld6 : View.ld x6 r0_6 = x6 := View.ld_unit_zero zero2 _ x6
theorem ld7 : View.ld x8 r0_7 = x8 := View.ld_unit_zero zero2 _ x8
theorem ld40 : View.ld x7 r0_40 = x7 := View.ld_unit_zero zero2 _ x7

/-- A load of columns `o …` of the input projection's weights. -/
theorem ldw {n : Nat} (o : Nat) (inb) (d : Fin 1024) (j : Fin n) (ho : o + j.val < 3328) :
    View.ld x4 (Rect.unit (s := S1024x3328) ![0, o] ![1024, n] inb) (ix2 d j) = x4 (ix2 d ⟨o + j.val, ho⟩) :=
  congrArg x4 (ix2_of_val _ _ _ (by show 0 + 1 * d.val = d.val; omega) (by show o + 1 * j.val = o + j.val; omega))

/-! ## The block's tokens -/

/-- The tokens of a point's blocks. -/
abbrev tok : Fin 4 → Fin 256 → Token := token (B := 4) (T := 256) x0 x1 x2 x3 x4 x5 x6 x7 x8 x9

/-- The token of row `r`. -/
abbrev tokR (r : Fin 1024) : Token := tok x0 x1 x2 x3 x4 x5 x6 x7 x8 x9 (which r) (spot r)

theorem tokR_row (i : Fin 4) (s : Fin 256) : tokR x0 x1 x2 x3 x4 x5 x6 x7 x8 x9 (row i s) = tok x0 x1 x2 x3 x4 x5 x6 x7 x8 x9 i s :=
  congrArg₂ (tok x0 x1 x2 x3 x4 x5 x6 x7 x8 x9) (which_row i s) (spot_row i s)

theorem hidden_eq (r d : Fin 1024) : k0_pay5 (F := Ideal) (View.ld x0 r0_0) (View.ld x1 r0_1) (View.ld x2 r0_2) (View.ld x3 r0_2) (ix2 r d) = (tokR x0 x1 x2 x3 x4 x5 x6 x7 x8 x9 r).hidden d := by
  rw [ld0, ld1, ld2, ld2, hidden_pay]
  rfl

/-- A product of the hidden rows with columns `o …` of the weights. -/
theorem input_eq {n : Nat} (o : Nat) (inb) (r : Fin 1024) (j : Fin n) (ho : o + j.val < 3328) :
    ∑ d, k0_pay5 (F := Ideal) (View.ld x0 r0_0) (View.ld x1 r0_1) (View.ld x2 r0_2) (View.ld x3 r0_2) (ix2 r d)
        * View.ld x4 (Rect.unit (s := S1024x3328) ![0, o] ![1024, n] inb) (ix2 d j)
      = (tokR x0 x1 x2 x3 x4 x5 x6 x7 x8 x9 r).input ⟨o + j.val, ho⟩ :=
  Finset.sum_congr rfl fun d _ => congrArg₂ (· * ·) (hidden_eq x0 x1 x2 x3 x4 x5 x6 x7 x8 x9 r d) (ldw x4 o inb d j ho)

theorem rotary_eq (r : Fin 1024) (l : Fin 128) : k0_pay79 (F := Ideal) x0 x1 x2 x3 x4 x5 x6 x7 x8 x9 (ix2 r l) = (tokR x0 x1 x2 x3 x4 x5 x6 x7 x8 x9 r).input ⟨384 + l.val, by omega⟩ :=
  (rotary_pay _ _ _ _ _ r l).trans (input_eq x0 x1 x2 x3 x4 x5 x6 x7 x8 x9 384 _ r l _)

theorem latent_eq (r : Fin 1024) (e : Fin 256) : k0_pay80 (F := Ideal) x0 x1 x2 x3 x4 x5 x6 x7 x8 x9 (ix2 r e) = (tokR x0 x1 x2 x3 x4 x5 x6 x7 x8 x9 r).input ⟨512 + e.val, by omega⟩ :=
  (latent_pay _ _ _ _ _ r e).trans (input_eq x0 x1 x2 x3 x4 x5 x6 x7 x8 x9 512 _ r e _)

theorem square_eq (r : Fin 1024) : k0_pay81 (F := Ideal) x0 x1 x2 x3 x4 x5 x6 x7 x8 x9 (ix2 r 0)
    = (∑ e : Fin 256, (tokR x0 x1 x2 x3 x4 x5 x6 x7 x8 x9 r).input ⟨512 + e.val, by omega⟩ * (tokR x0 x1 x2 x3 x4 x5 x6 x7 x8 x9 r).input ⟨512 + e.val, by omega⟩) * per 256 := by
  refine (square_pay _ _ _ _ _ r).trans (congrArg (· * per 256) (Finset.sum_congr rfl fun e _ => ?_))
  exact congrArg₂ (· * ·) (latent_eq x0 x1 x2 x3 x4 x5 x6 x7 x8 x9 r e) (latent_eq x0 x1 x2 x3 x4 x5 x6 x7 x8 x9 r e)

theorem kvLatent_eq (r : Fin 1024) (e : Fin 256) : k0_pay83 (F := Ideal) x0 x1 x2 x3 x4 x5 x6 x7 x8 x9 (ix2 r e) = (tokR x0 x1 x2 x3 x4 x5 x6 x7 x8 x9 r).kvLatent e := by
  refine (kvLatent_pay _ _ _ _ r e).trans ?_
  rw [ld5, latent_eq, square_eq]
  exact congrArg (fun z => _ * Ideal.rsqrt (_ + z) * _) (eps_pay r)

theorem keys_eq (r j : Fin 1024) : k0_pay84 (F := Ideal) x0 x1 x2 x3 x4 x5 x6 x7 x8 x9 (ix2 r j) = ∑ e, (tokR x0 x1 x2 x3 x4 x5 x6 x7 x8 x9 r).kvLatent e * x6 (ix2 e j) := by
  refine (rawKey_pay _ _ _ _ _ r j).trans (Finset.sum_congr rfl fun e _ => congrArg₂ (· * ·) (kvLatent_eq x0 x1 x2 x3 x4 x5 x6 x7 x8 x9 r e) ?_)
  rw [ld6]

theorem value_eq (r : Fin 1024) (j : Fin 512) : k0_pay89 (F := Ideal) x0 x1 x2 x3 x4 x5 x6 x7 x8 x9 (ix2 r j) = (tokR x0 x1 x2 x3 x4 x5 x6 x7 x8 x9 r).value j := by
  refine (value_pay _ _ r j).trans (Finset.sum_congr rfl fun e _ => congrArg₂ (· * ·) (kvLatent_eq x0 x1 x2 x3 x4 x5 x6 x7 x8 x9 r e) ?_)
  rw [ld40]
  rfl

/-! ## The two result blocks -/

theorem out10_eq : out0_10 (F := Ideal) x0 x1 x2 x3 x4 x5 x6 x7 x8 x9 = View.canon (heads fun i h => headPart (headTile (addf (headSlice (k0_pay84 x0 x1 x2 x3 x4 x5 x6 x7 x8 x9) h) (k0_pay79 x0 x1 x2 x3 x4 x5 x6 x7 x8 x9))
    (View.ld x8 r0_7) (View.ld x9 r0_7)) i) := rfl

theorem out11_eq : out0_11 (F := Ideal) x0 x1 x2 x3 x4 x5 x6 x7 x8 x9 = View.canon (pairs fun i p => pairPart (pairTile (k0_pay89 x0 x1 x2 x3 x4 x5 x6 x7 x8 x9) p) i) := rfl

/-- The block of keys, -/
theorem block10 : out0_10 (F := Ideal) x0 x1 x2 x3 x4 x5 x6 x7 x8 x9 = keys (tok x0 x1 x2 x3 x4 x5 x6 x7 x8 x9) := by
  rw [out10_eq, ld7, ld7]
  refine heads_eq _ _ fun i h s l => (headPart_apply _ i s l).trans ((headTile_apply _ _ _ _ l).trans ?_)
  have e : (fun l => addf (headSlice (k0_pay84 x0 x1 x2 x3 x4 x5 x6 x7 x8 x9) h) (k0_pay79 x0 x1 x2 x3 x4 x5 x6 x7 x8 x9) (ix2 (row i s) l)) = (tok x0 x1 x2 x3 x4 x5 x6 x7 x8 x9 i s).rawKey h := by
    funext l
    refine (congrArg₂ (· + ·) ((headSlice_apply _ h (row i s) l).trans (keys_eq x0 x1 x2 x3 x4 x5 x6 x7 x8 x9 (row i s) (slot h l))) (rotary_eq x0 x1 x2 x3 x4 x5 x6 x7 x8 x9 (row i s) l)).trans ?_
    rw [tokR_row]
    rfl
  rw [e]
  exact (head_plain (fun l => x8 (ix2 0 l)) (fun l => x9 (ix2 0 l)) ((tok x0 x1 x2 x3 x4 x5 x6 x7 x8 x9 i s).rawKey h) l).symm

/-- and of values. -/
theorem block11 : out0_11 (F := Ideal) x0 x1 x2 x3 x4 x5 x6 x7 x8 x9 = values (tok x0 x1 x2 x3 x4 x5 x6 x7 x8 x9) := by
  rw [out11_eq]
  refine pairs_eq _ _ fun i p c s => (pairPart_apply _ i c s).trans ((pairTile_apply _ p c _).trans ((value_eq x0 x1 x2 x3 x4 x5 x6 x7 x8 x9 _ _).trans ?_))
  rw [tokR_row]
  rfl

end Cert.CtxIdeal.Con

end
-- ==== Proof.CtxArray.lean ====
/-
  THE CONTEXT'S KEYS AND VALUES AS ARRAYS, at the extended reals: `Projection.keys` and `Projection.values` over the context tokens
  of the ten arguments. Grid point `t` takes samples `4 t …`; what it writes back are its blocks of the two arrays, and the
  blocks cover them.
-/
module

public import proofs.«01_k».proof.Proof.CtxBlock

@[expose] public section

set_option maxRecDepth 16384
noncomputable section

namespace Cert.CtxIdeal.Con

open Cert.CtxIdeal Cert.CtxIdeal.Gen Cert.Context
open Cert.Projection (Token Ix2 Ix3 Ix4 keys values)
open Idealize.ShloMosaic Idealize.ShloMosaic.TcCoe Idealize.ShloMosaic.Tactic Idealize.ShloMosaic.Pointwise Idealize.SL.Sem

/-! ## Where the blocks lie -/

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index10 : ∀ t : Fin cfg0.N, win0_10.index t (0 : Fin 4) = t.val ∧ win0_10.index t (1 : Fin 4) = 0 ∧ win0_10.index t (2 : Fin 4) = 0
    ∧ win0_10.index t (3 : Fin 4) = 0 := (by decide +kernel : ∀ t : Fin grid0.N, _)
theorem index11 : ∀ t : Fin cfg0.N, win0_11.index t (0 : Fin 4) = t.val ∧ win0_11.index t (1 : Fin 4) = 0 ∧ win0_11.index t (2 : Fin 4) = 0
    ∧ win0_11.index t (3 : Fin 4) = 0 := (by decide +kernel : ∀ t : Fin grid0.N, _)

variable (m : (ℓ : Loc nD τ sig) → Buf (Elt Ideal) ℓ) (ρ : Dev nD → PrngReg) (c : Dev nD) (t : Fin cfg0.N)

theorem t_lt : t.val < 8 := lt_of_lt_of_eq t.isLt Gen.N_0

/-- Sample `i` of a point's four. -/
def sample (i : Fin 4) : Fin 32 := ⟨4 * t.val + i.val, by have := t_lt t; omega⟩

theorem iblk0_apply (i : Fin 4) (s : Fin 256) (d : Fin 1024) : iblk m c 0 t (ix3 i s d) = V m c main_arg0 (ix3 (sample t i) s d) := by
  obtain ⟨e0, e1, e2⟩ := index0 t
  exact congrArg (V m c main_arg0) (ix3_of_val _ _ _ _
    (by show win0_0.index t (0 : Fin 3) * 4 + 1 * i.val = 4 * t.val + i.val; omega)
    (by show win0_0.index t (1 : Fin 3) * 256 + 1 * s.val = s.val; omega)
    (by show win0_0.index t (2 : Fin 3) * 1024 + 1 * d.val = d.val; omega))

theorem iblk1_apply (a : Fin 1) (b : Fin 1024) : iblk m c 1 t (ix2 a b) = V m c main_arg1 (ix2 a b) := by
  obtain ⟨e0, e1⟩ := index1 t
  exact congrArg (V m c main_arg1) (ix2_of_val _ _ _ (by show win0_1.index t (0 : Fin 2) * 1 + 1 * a.val = a.val; omega)
    (by show win0_1.index t (1 : Fin 2) * 1024 + 1 * b.val = b.val; omega))

theorem iblk4_apply (a : Fin 1024) (b : Fin 3328) : iblk m c 4 t (ix2 a b) = V m c main_arg4 (ix2 a b) := by
  obtain ⟨e0, e1⟩ := index4 t
  exact congrArg (V m c main_arg4) (ix2_of_val _ _ _ (by show win0_4.index t (0 : Fin 2) * 1024 + 1 * a.val = a.val; omega)
    (by show win0_4.index t (1 : Fin 2) * 3328 + 1 * b.val = b.val; omega))

theorem iblk5_apply (a : Fin 1) (b : Fin 256) : iblk m c 5 t (ix2 a b) = V m c main_arg5 (ix2 a b) := by
  obtain ⟨e0, e1⟩ := index5 t
  exact congrArg (V m c main_arg5) (ix2_of_val _ _ _ (by show win0_5.index t (0 : Fin 2) * 1 + 1 * a.val = a.val; omega)
    (by show win0_5.index t (1 : Fin 2) * 256 + 1 * b.val = b.val; omega))

theorem iblk6_apply (a : Fin 256) (b : Fin 1024) : iblk m c 6 t (ix2 a b) = V m c main_arg6 (ix2 a b) := by
  obtain ⟨e0, e1⟩ := index6 t
  exact congrArg (V m c main_arg6) (ix2_of_val _ _ _ (by show win0_6.index t (0 : Fin 2) * 256 + 1 * a.val = a.val; omega)
    (by show win0_6.index t (1 : Fin 2) * 1024 + 1 * b.val = b.val; omega))

theorem iblk7_apply (a : Fin 256) (b : Fin 512) : iblk m c 7 t (ix2 a b) = V m c main_arg7 (ix2 a b) := by
  obtain ⟨e0, e1⟩ := index7 t
  exact congrArg (V m c main_arg7) (ix2_of_val _ _ _ (by show win0_7.index t (0 : Fin 2) * 256 + 1 * a.val = a.val; omega)
    (by show win0_7.index t (1 : Fin 2) * 512 + 1 * b.val = b.val; omega))

theorem iblk8_apply (a : Fin 1) (b : Fin 128) : iblk m c 8 t (ix2 a b) = V m c main_arg8 (ix2 a b) := by
  obtain ⟨e0, e1⟩ := index8 t
  exact congrArg (V m c main_arg8) (ix2_of_val _ _ _ (by show win0_8.index t (0 : Fin 2) * 1 + 1 * a.val = a.val; omega)
    (by show win0_8.index t (1 : Fin 2) * 128 + 1 * b.val = b.val; omega))

theorem iblk9_apply (a : Fin 1) (b : Fin 128) : iblk m c 9 t (ix2 a b) = V m c main_arg9 (ix2 a b) := by
  obtain ⟨e0, e1⟩ := index9 t
  exact congrArg (V m c main_arg9) (ix2_of_val _ _ _ (by show win0_9.index t (0 : Fin 2) * 1 + 1 * a.val = a.val; omega)
    (by show win0_9.index t (1 : Fin 2) * 128 + 1 * b.val = b.val; omega))

theorem iblk2_apply (d : Fin 1024) : iblk m c 2 t (ix3 0 0 d) = V m c main_arg2 (ix3 0 0 d) := by
  obtain ⟨e0, e1, e2⟩ := index2 t
  exact congrArg (V m c main_arg2) (ix3_of_val _ _ _ _ (by show win0_2.index t (0 : Fin 3) * 1 + 1 * 0 = 0; omega)
    (by show win0_2.index t (1 : Fin 3) * 1 + 1 * 0 = 0; omega) (by show win0_2.index t (2 : Fin 3) * 1024 + 1 * d.val = d.val; omega))

theorem iblk3_apply (d : Fin 1024) : iblk m c 3 t (ix3 0 0 d) = V m c main_arg3 (ix3 0 0 d) := by
  obtain ⟨e0, e1, e2⟩ := index3 t
  exact congrArg (V m c main_arg3) (ix3_of_val _ _ _ _ (by show win0_3.index t (0 : Fin 3) * 1 + 1 * 0 = 0; omega)
    (by show win0_3.index t (1 : Fin 3) * 1 + 1 * 0 = 0; omega) (by show win0_3.index t (2 : Fin 3) * 1024 + 1 * d.val = d.val; omega))

/-- The context tokens of the ten arrays that device `c` holds. -/
abbrev tokens : Fin 32 → Fin 256 → Token := token (B := 32) (T := 256) (V m c main_arg0) (V m c main_arg1) (V m c main_arg2) (V m c main_arg3) (V m c main_arg4) (V m c main_arg5) (V m c main_arg6) (V m c main_arg7) (V m c main_arg8) (V m c main_arg9)

/-- The tokens of a point's blocks, -/
abbrev blockTok : Fin 4 → Fin 256 → Token := tok (iblk m c 0 t) (iblk m c 1 t) (iblk m c 2 t) (iblk m c 3 t) (iblk m c 4 t) (iblk m c 5 t) (iblk m c 6 t) (iblk m c 7 t) (iblk m c 8 t) (iblk m c 9 t)

/-- which are tokens of the arrays. -/
theorem tok_eq (i : Fin 4) (s : Fin 256) : blockTok m c t i s = tokens m c (sample t i) s :=
  Token.ext (funext fun d => iblk0_apply m c t i s d) (funext fun d => iblk1_apply m c t 0 d) (funext fun d => iblk2_apply m c t d)
    (funext fun d => iblk3_apply m c t d) (funext fun d => funext fun j => iblk4_apply m c t d j) rfl
    (funext fun e => iblk5_apply m c t 0 e) rfl (funext fun e => funext fun j => iblk6_apply m c t e j)
    (funext fun e => funext fun j => iblk7_apply m c t e j) rfl (funext fun l => iblk8_apply m c t 0 l) rfl
    (funext fun l => iblk9_apply m c t 0 l) rfl rfl

/-! ## The result blocks in their arrays -/

theorem emb10 (i : Fin 4) (h : Fin 8) (s : Fin 256) (l : Fin 128) :
    ((cfg0.win 10).blk t).view.emb (ix4 i h s l : S4x8x256x128.Idx) = ix4 (sample t i) h s l := by
  obtain ⟨e0, e1, e2, e3⟩ := index10 t
  exact ix4_of_val _ _ _ _ _
    (by show win0_10.index t (0 : Fin 4) * 4 + 1 * i.val = 4 * t.val + i.val; omega)
    (by show win0_10.index t (1 : Fin 4) * 8 + 1 * h.val = h.val; omega)
    (by show win0_10.index t (2 : Fin 4) * 256 + 1 * s.val = s.val; omega)
    (by show win0_10.index t (3 : Fin 4) * 128 + 1 * l.val = l.val; omega)

theorem emb11 (i p : Fin 4) (c' : Fin 128) (s : Fin 256) :
    ((cfg0.win 11).blk t).view.emb (ix4 i p c' s : S4x4x128x256.Idx) = ix4 (sample t i) p c' s := by
  obtain ⟨e0, e1, e2, e3⟩ := index11 t
  exact ix4_of_val _ _ _ _ _
    (by show win0_11.index t (0 : Fin 4) * 4 + 1 * i.val = 4 * t.val + i.val; omega)
    (by show win0_11.index t (1 : Fin 4) * 4 + 1 * p.val = p.val; omega)
    (by show win0_11.index t (2 : Fin 4) * 128 + 1 * c'.val = c'.val; omega)
    (by show win0_11.index t (3 : Fin 4) * 256 + 1 * s.val = s.val; omega)

theorem idx_eq {a b c d : Nat} (i : Ix4 a b c d) : ∃ (p : Fin a) (q : Fin b) (r : Fin c) (s : Fin d), i = ix4 p q r s :=
  ⟨i 0, i 1, i 2, i 3, ix4_of_val i _ _ _ _ rfl rfl rfl rfl⟩

/-- The grid point of a sample, -/
def point (b : Fin 32) : Fin cfg0.N := ⟨b.val / 4, lt_of_lt_of_eq (by omega) Gen.N_0.symm⟩
/-- and the sample among the point's four. -/
def among (b : Fin 32) : Fin 4 := ⟨b.val % 4, by omega⟩

theorem sample_point (b : Fin 32) : sample (point b) (among b) = b := Fin.ext (by show 4 * (b.val / 4) + b.val % 4 = b.val; omega)

/-- What a point leaves is its block of the keys, -/
theorem block_eq10 (i : S4x8x256x128.Idx) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) i = keys (tokens m c) (((cfg0.win 10).blk t).view.emb i) := by
  obtain ⟨i, h, s, l, rfl⟩ := idx_eq i
  rw [emb10, block10]
  exact congrArg (fun k : Token => k.key h l) (tok_eq m c t i s)

theorem covered10 (i : S32x8x256x128.Idx) : ∃ t : Fin cfg0.N, (cfg0.win 10).flush t = true ∧ i ∈ ((cfg0.win 10).blk t).view.set := by
  obtain ⟨b, h, s, l, rfl⟩ := idx_eq i
  have e := ((cfg0.win 10).blk (point b)).view.emb_mem_set (ix4 (among b) h s l : S4x8x256x128.Idx)
  rw [emb10 (point b) _ h s l, sample_point] at e
  exact ⟨point b, flush0_10 _, e⟩

/-- and the array of keys holds them after the run. -/
theorem final10 : (dats m 0 c).arrAt 10 cfg0.N = keys (tokens m c) := by
  refine (dats m 0 c).arrAt_eq_of_cover 10 (keys (tokens m c)) (fun t _ => ?_) covered10
  show (cfg0.win 10).cut (grid0.coords t) ((dats m 0 c).after 10 t) = _
  rw [after0_10]
  funext i
  exact block_eq10 m c t i

/-- What a point leaves is its block of the values, -/
theorem block_eq11 (i : S4x4x128x256.Idx) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) i = values (tokens m c) (((cfg0.win 11).blk t).view.emb i) := by
  obtain ⟨i, p, c', s, rfl⟩ := idx_eq i
  rw [emb11, block11]
  exact congrArg (fun k : Token => k.value ⟨128 * p.val + c'.val, by omega⟩) (tok_eq m c t i s)

theorem covered11 (i : S32x4x128x256.Idx) : ∃ t : Fin cfg0.N, (cfg0.win 11).flush t = true ∧ i ∈ ((cfg0.win 11).blk t).view.set := by
  obtain ⟨b, p, c', s, rfl⟩ := idx_eq i
  have e := ((cfg0.win 11).blk (point b)).view.emb_mem_set (ix4 (among b) p c' s : S4x4x128x256.Idx)
  rw [emb11 (point b) _ p c' s, sample_point] at e
  exact ⟨point b, flush0_11 _, e⟩

/-- and the array of values holds them after the run. -/
theorem final11 : (dats m 0 c).arrAt 11 cfg0.N = values (tokens m c) := by
  refine (dats m 0 c).arrAt_eq_of_cover 11 (values (tokens m c)) (fun t _ => ?_) covered11
  show (cfg0.win 11).cut (grid0.coords t) ((dats m 0 c).after 11 t) = _
  rw [after0_11]
  funext i
  exact block_eq11 m c t i

/-- Every run ends with the keys and the values of the arguments' context tokens in the results, and the arguments as they were. -/
theorem run : θ_run defs (onTc (τ := τ) (main (F := Ideal))) ⟨m, fun _ => 0, ρ⟩ (fun r => ∀ c : Dev nD,
      r.2.mem ((c.tc : Thread nD τ).loc main_v0_0) = keys (tokens m c)
      ∧ r.2.mem ((c.tc : Thread nD τ).loc main_v0_1) = values (tokens m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1 c).1 10).trans (final10 m c), ((h.1 c).1 11).trans (final11 m c), h.2 c⟩)
    (θ_run_and (run_main m ρ) (unchanged m ρ))

end Cert.CtxIdeal.Con

end
-- ==== Proof.CtxRef.lean ====
/-
  THE CONTEXT PROJECTION'S REFERENCE, at the extended reals: its two results are `Projection.keys` and `Projection.values` over the
  context tokens of its arguments. It divides the sums of squares where the kernel multiplies them by a reciprocal, and works
  on whole arrays.
-/
module

public import proofs.«01_k».proof.Proof.Context
public import proofs.«01_k».proof.Proof.ProjRef
public import proofs.«01_k».proof.Proof.Gen.CtxReferenceIdeal.Run
public import proofs.«01_k».proof.Proof.Gen.CtxReferenceIdeal.Read
public import Idealize.ShloMosaic.Lib.KernelVsHost
public import Idealize.ShloMosaic.Lib.Pointwise

@[expose] public section

set_option maxRecDepth 16384
noncomputable section

namespace Cert.CtxReferenceIdeal.Con

open Cert.CtxReferenceIdeal Cert.CtxReferenceIdeal.Gen Cert.CtxReferenceIdeal.Read Cert.Context
open Cert.Projection (Token Ix2 Ix3 Ix4 rms per slot keys values)
open Cert.ProjReferenceIdeal.Lat (div_1024 div_256 div_96 slot_eq idx4)
open Idealize.ShloMosaic Idealize.ShloMosaic.TcCoe Idealize.ShloMosaic.Pointwise Idealize.SL.Sem

variable (x0 : Vec Ideal S32x256x1024 .f32) (x1 : Vec Ideal S1x1024 .f32) (x2 x3 : Vec Ideal S1x1x1024 .f32) (x4 : Vec Ideal S1024x3328 .bf16)
  (x5 : Vec Ideal S1x256 .f32) (x6 : Vec Ideal S256x1024 .bf16) (x7 : Vec Ideal S256x512 .bf16) (x8 x9 : Vec Ideal S1x128 .f32)

/-- The context tokens of the reference's arguments. -/
abbrev tokens : Fin 32 → Fin 256 → Token := token (B := 32) (T := 256) x0 x1 x2 x3 x4 x5 x6 x7 x8 x9

/-! ## The stages -/

theorem hidden_eq (b : Fin 32) (n : Fin 256) (d : Fin 1024) :
    val_main_v19 (F := Ideal) x0 x1 x2 x3 (ix3 b n d) = (tokens x0 x1 x2 x3 x4 x5 x6 x7 x8 x9 b n).hidden d := by
  unfold val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst_2 val_main_cst_1 val_main_cst_0 val_main_cst
  pointwise
  rw [div_1024]
  rfl

theorem input_eq (b : Fin 32) (n : Fin 256) (j : Fin 3328) :
    val_main_v21 (F := Ideal) x0 x1 x2 x3 x4 (ix3 b n j) = (tokens x0 x1 x2 x3 x4 x5 x6 x7 x8 x9 b n).input j := by
  have h := hidden_eq x0 x1 x2 x3 x4 x5 x6 x7 x8 x9 b n
  unfold val_main_v21 val_main_v20
  revert h
  generalize val_main_v19 (F := Ideal) x0 x1 x2 x3 = y
  intro h
  pointwise
  exact Finset.sum_congr rfl fun d _ => congrArg (· * _) (h d)

theorem kvLatent_eq (b : Fin 32) (n : Fin 256) (e : Fin 256) :
    val_main_v37 (F := Ideal) x0 x1 x2 x3 x4 x5 (ix3 b n e) = (tokens x0 x1 x2 x3 x4 x5 x6 x7 x8 x9 b n).kvLatent e := by
  have h := fun e : Fin 256 => input_eq x0 x1 x2 x3 x4 x5 x6 x7 x8 x9 b n ⟨512 + e.val, by omega⟩
  unfold val_main_v37 val_main_v36 val_main_v35 val_main_v34 val_main_v33 val_main_v32 val_main_v31 val_main_v30 val_main_v29 val_main_v28 val_main_v27 val_main_v26 val_main_v25 val_main_v24 val_main_v23 val_main_cst_5 val_main_cst_4 val_main_cst_3
  revert h
  generalize val_main_v21 (F := Ideal) x0 x1 x2 x3 x4 = y
  intro h
  pointwise
  simp only [h]
  rw [div_256]
  rfl

theorem rawKey_eq (b : Fin 32) (n : Fin 256) (h : Fin 8) (l : Fin 128) :
    val_main_v43 (F := Ideal) x0 x1 x2 x3 x4 x5 x6 (ix4 b n h l) = (tokens x0 x1 x2 x3 x4 x5 x6 x7 x8 x9 b n).rawKey h l := by
  have hk := kvLatent_eq x0 x1 x2 x3 x4 x5 x6 x7 x8 x9 b n
  have hp := input_eq x0 x1 x2 x3 x4 x5 x6 x7 x8 x9 b n ⟨384 + l.val, by omega⟩
  unfold val_main_v43 val_main_v42 val_main_v41 val_main_v40 val_main_v39 val_main_v38 val_main_v22
  revert hk hp
  generalize val_main_v37 (F := Ideal) x0 x1 x2 x3 x4 x5 = y
  generalize val_main_v21 (F := Ideal) x0 x1 x2 x3 x4 = z
  intro hk hp
  pointwise
  rw [slot_eq, hp]
  exact congrArg (· + _) (Finset.sum_congr rfl fun e _ => congrArg (· * _) (hk e))

theorem key_eq (b : Fin 32) (n : Fin 256) (h : Fin 8) (l : Fin 128) :
    val_main_v65 (F := Ideal) x0 x1 x2 x3 x4 x5 x6 x8 x9 (ix4 b h n l) = (tokens x0 x1 x2 x3 x4 x5 x6 x7 x8 x9 b n).key h l := by
  have hy := rawKey_eq x0 x1 x2 x3 x4 x5 x6 x7 x8 x9 b n h
  refine Eq.trans ?_ (head_plain (fun l => x8 (ix2 0 l)) (fun l => x9 (ix2 0 l)) ((tokens x0 x1 x2 x3 x4 x5 x6 x7 x8 x9 b n).rawKey h) l).symm
  unfold val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_cst_8 val_main_cst_7 val_main_cst_6
  revert hy
  generalize val_main_v43 (F := Ideal) x0 x1 x2 x3 x4 x5 x6 = y
  intro hy
  pointwise
  simp only [hy]
  rw [div_96]
  rfl

theorem value_eq (b : Fin 32) (n : Fin 256) (p : Fin 4) (c : Fin 128) :
    val_main_v68 (F := Ideal) x0 x1 x2 x3 x4 x5 x7 (ix4 b p c n) = (tokens x0 x1 x2 x3 x4 x5 x6 x7 x8 x9 b n).value ⟨128 * p.val + c.val, by omega⟩ := by
  have hk := kvLatent_eq x0 x1 x2 x3 x4 x5 x6 x7 x8 x9 b n
  unfold val_main_v68 val_main_v67 val_main_v66 val_main_v45 val_main_v44
  revert hk
  generalize val_main_v37 (F := Ideal) x0 x1 x2 x3 x4 x5 = y
  intro hk
  pointwise
  rw [show (⟨p.val * 128 + c.val, by omega⟩ : Fin 512) = ⟨128 * p.val + c.val, by omega⟩ from Fin.ext (by show p.val * 128 + c.val = 128 * p.val + c.val; omega)]
  exact Finset.sum_congr rfl fun e _ => congrArg (· * _) (hk e)

/-! ## The two results -/

theorem keys_eq : val_main_v65 (F := Ideal) x0 x1 x2 x3 x4 x5 x6 x8 x9 = keys (tokens x0 x1 x2 x3 x4 x5 x6 x7 x8 x9) :=
  funext fun i => (congrArg _ (idx4 i)).trans (key_eq x0 x1 x2 x3 x4 x5 x6 x7 x8 x9 (i 0) (i 2) (i 1) (i 3))
theorem values_eq : val_main_v68 (F := Ideal) x0 x1 x2 x3 x4 x5 x7 = values (tokens x0 x1 x2 x3 x4 x5 x6 x7 x8 x9) :=
  funext fun i => (congrArg _ (idx4 i)).trans (value_eq x0 x1 x2 x3 x4 x5 x6 x7 x8 x9 (i 0) (i 3) (i 1) (i 2))

/-- The context tokens of the arrays that the reference starts from on device `c`. -/
abbrev held (m : (ℓ : Loc nD τ sig) → Buf (Elt Ideal) ℓ) (c : Dev nD) : Fin 32 → Fin 256 → Token :=
  tokens (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- Every run of the reference ends with the keys and the values in its results, and the arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v65) = keys (held m c)
      ∧ r.2.mem ((c.tc : Thread nD τ).loc main_v68) = values (held m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    have ⟨e0, e1, args⟩ := h c
    ⟨e0.trans ((val_main_v65_eq m c).trans (keys_eq ..)), e1.trans ((val_main_v68_eq m c).trans (values_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))), args⟩)
    (Value.run (F := Ideal) m ρ)

end Cert.CtxReferenceIdeal.Con

end
-- ==== Proof.Last.lean ====
/-
  THE LAST RESIDUAL, at the extended reals. A grid point keeps its block of the experts' sums in a buffer and takes it back eight
  times, each time every eighth row: these are the eight parts of 128 channels of its tokens' sums. What it writes back is
  `Context.last` over its block, and the blocks cover the result. The reference lays the same sums out as rows of 1024 channels.
-/
module

public import proofs.«01_k».proof.Proof.Context
public import proofs.«01_k».proof.Proof.Gen.FinalIdeal.Frame
public import proofs.«01_k».proof.Proof.Gen.FinalReferenceIdeal.Run
public import proofs.«01_k».proof.Proof.Gen.FinalReferenceIdeal.Read
public import Idealize.ShloMosaic.PureOps.IdealRules
public import Idealize.ShloMosaic.Lib.Pointwise
public import Idealize.ShloMosaic.Lib.Pipeline.ValueKit
public import Idealize.ShloMosaic.Lib.Pipeline.Value
public import Idealize.ShloMosaic.Lib.WholeRead

@[expose] public section

set_option maxRecDepth 16384
noncomputable section

namespace Cert.FinalIdeal.Lst

open Cert.FinalIdeal Cert.FinalIdeal.Gen Cert.Context
open Cert.Projection (Ix2 Ix3)
open Idealize.ShloMosaic Idealize.ShloMosaic.TcCoe Idealize.ShloMosaic.Tactic Idealize.ShloMosaic.Pointwise Idealize.SL.Sem

theorem zero2 : (![0, 0] : Fin 2 → Nat) = fun _ => 0 := by decide

/-! ## A store of the body, over any operands -/

theorem part_pay (y : Vec Ideal S1024x128 .f32) (x : Vec Ideal S1x1024x128 .f32) (g : Vec Ideal S1x1x128 .f32) (r : Fin 1024) (l : Fin 128) :
    k0_pay3 (F := Ideal) y x g (ix3 0 r l) = x (ix3 0 r l) + g (ix3 0 0 l) * y (ix2 r l) := by
  pointwise [k0_pay3]

theorem kept_pay (y : Vec Ideal S1x8192x128 .bf16) (r : Fin 8192) (l : Fin 128) : k0_pay2 (F := Ideal) y (ix2 r l) = y (ix3 0 r l) := by
  pointwise [k0_pay2]

/-! ## The block of a grid point -/

variable (m : (ℓ : Loc nD τ sig) → Buf (Elt Ideal) ℓ) (ρ : Dev nD → PrngReg) (c : Dev nD) (t : Fin cfg0.N)

/-- Channels `128 p …` of the block's rows, -/
abbrev cRect (p : Fin 8) : Rect S1x1024x1024 :=
  Rect.unit (s := S1x1024x1024) ![0, 0, 128 * p.val] S1x1024x128.size (by revert p; decide +kernel)
/-- and of its gate. -/
abbrev gRect (p : Fin 8) : Rect S1x1x1024 :=
  Rect.unit (s := S1x1x1024) ![0, 0, 128 * p.val] S1x1x128.size (by revert p; decide +kernel)

/-- Every eighth row of the kept sums, from row `p`. -/
def eighth (p : Fin 8) : Vec Ideal S1024x128 .f32 :=
  scM0_0.view.readCov (kernelRun0_A.sl.HS0_1 c (ms0_1 t) (hs0_1 t) (iblk m c 1 t))
    (⟨![p.val, 0], S1024x128.size, ![8, 1], by revert p; decide +kernel⟩ : LoadRect S8192x128)

theorem eighth_apply (p : Fin 8) (r : Fin 1024) (l : Fin 128) : eighth m c t p (ix2 r l) = iblk m c 1 t (ix3 0 ⟨8 * r.val + p.val, by omega⟩ l) := by
  unfold eighth kernelRun0_A.sl.HS0_1
  rw [View.readCov_eq_canon', View.canon_unit_zero zero2]
  refine (congrArg (k0_pay2 _) (ix2_of_val _ (⟨8 * r.val + p.val, by omega⟩ : Fin 8192) l (by show p.val + 8 * r.val = 8 * r.val + p.val; omega)
    (by show 0 + 1 * l.val = l.val; omega))).trans ((kept_pay _ _ l).trans ?_)
  exact ((hs0_1 t).readAt_unread (iblk m c 1 t) _ _).trans (congrArg (iblk m c 1 t) (ix3_of_val _ _ _ _ (by show 0 + 1 * 0 = 0; omega)
    (by show 0 + 1 * (8 * r.val + p.val) = 8 * r.val + p.val; omega) (by show 0 + 1 * l.val = l.val; omega)))

/-- The store of channels `128 p …`. -/
def part (p : Fin 8) : Vec Ideal S1x1024x128 .f32 :=
  k0_pay3 (F := Ideal) (eighth m c t p) (View.readAt (Elt Ideal) (ms0_0 t).view (cRect p).toLoadRect ((hs0_0 t).unread (iblk m c 0 t)))
    (View.readAt (Elt Ideal) (ms0_2 t).view (gRect p).toLoadRect ((hs0_2 t).unread (iblk m c 2 t)))

theorem part_apply (p : Fin 8) (r : Fin 1024) (l : Fin 128) : part m c t p (ix3 0 r l)
    = last (B := 1) (N := 1024) (M := 8192) rfl (iblk m c 0 t) (iblk m c 1 t) (iblk m c 2 t) 0 r ⟨128 * p.val + l.val, by omega⟩ := by
  unfold part last
  rw [part_pay, eighth_apply]
  refine congrArg₂ (· + ·) ?_ (congrArg₂ (· * ·) ?_ ?_)
  · exact ((hs0_0 t).readAt_unread (iblk m c 0 t) _ _).trans (congrArg (iblk m c 0 t) (ix3_of_val _ _ _ _ (by show 0 + 1 * 0 = 0; omega)
      (by show 0 + 1 * r.val = r.val; omega) (by show 128 * p.val + 1 * l.val = 128 * p.val + l.val; omega)))
  · exact ((hs0_2 t).readAt_unread (iblk m c 2 t) _ _).trans (congrArg (iblk m c 2 t) (ix3_of_val _ _ _ _ (by show 0 + 1 * 0 = 0; omega)
      (by show 0 + 1 * 0 = 0; omega) (by show 128 * p.val + 1 * l.val = 128 * p.val + l.val; omega)))
  · exact congrArg (iblk m c 1 t) (ix3_of_val _ _ _ _ rfl (by show 8 * r.val + p.val = 8 * r.val + (128 * p.val + l.val) / 128; omega)
      (by show l.val = (128 * p.val + l.val) % 128; omega))

/-- The eight stores, last first. -/
abbrev stores : List (View.Piece (Elt Ideal) S1x1024x1024 .f32) :=
  [⟨cRect 7, part m c t 7⟩, ⟨cRect 6, part m c t 6⟩, ⟨cRect 5, part m c t 5⟩, ⟨cRect 4, part m c t 4⟩, ⟨cRect 3, part m c t 3⟩,
    ⟨cRect 2, part m c t 2⟩, ⟨cRect 1, part m c t 1⟩, ⟨cRect 0, part m c t 0⟩]

theorem stores_eq : (kernelRun0_A (F := Ideal) c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (iblk m c 2 t)).1 = stores m c t := rfl

/-- The last residual of a point's blocks. -/
def blockLast (i : S1x1024x1024.Idx) : EReal :=
  last (B := 1) (N := 1024) (M := 8192) rfl (iblk m c 0 t) (iblk m c 1 t) (iblk m c 2 t) (i 0) (i 1) (i 2)

/-- A point's block holds the last residual of its tokens. -/
theorem block3 : outsAt0 m c t = blockLast m c t := by
  funext y
  unfold outsAt0 out0_A_3
  rw [View.read_writes_junk_eq_canon]
  have key : ∀ (p : Fin 8) (x : S1x1024x128.Idx), part m c t p x = blockLast m c t ((cRect p).emb x) := fun p x => by
    have h0 : (x 0).val < 1 := (x 0).isLt
    have h1 : (x 1).val < 1024 := (x 1).isLt
    have h2 : (x 2).val < 128 := (x 2).isLt
    have e : (cRect p).emb x = ix3 (0 : Fin 1) (⟨(x 1).val, h1⟩ : Fin 1024) (⟨128 * p.val + (x 2).val, by omega⟩ : Fin 1024) :=
      ix3_of_val _ _ _ _ (by show 0 + 1 * (x 0).val = 0; omega) (by show 0 + 1 * (x 1).val = (x 1).val; omega)
        (by show 128 * p.val + 1 * (x 2).val = 128 * p.val + (x 2).val; omega)
    rw [e]
    exact (congrArg (part m c t p) (ix3_of_val x (0 : Fin 1) (⟨(x 1).val, h1⟩ : Fin 1024) (⟨(x 2).val, h2⟩ : Fin 128) (by show (x 0).val = 0; omega) rfl rfl)).trans
      (part_apply m c t p _ _)
  refine View.canon_apply_of_pieces (Val := Elt Ideal) (e := .f32) (blockLast m c t) _ ?_ y (cover0_A_3 (F := Ideal) c (grid0.coords t) (ms0_0 t) (hs0_0 t) (ms0_1 t) (hs0_1 t) (ms0_2 t) (hs0_2 t)
    (ms0_3 t) (hs0_3 t) scM0_0 (Memref.isWhole_whole _) (iblk m c 0 t) (iblk m c 1 t) (iblk m c 2 t) y)
  rw [stores_eq]
  intro q hq
  simp only [stores, List.mem_cons, List.not_mem_nil, or_false] at hq
  rcases hq with rfl | rfl | rfl | rfl | rfl | rfl | rfl | rfl <;> exact key _

/-! ## The result array -/

theorem index0 : ∀ t : Fin cfg0.N, win0_0.index t (0 : Fin 3) = t.val / 2 ∧ win0_0.index t (1 : Fin 3) = t.val % 2
    ∧ win0_0.index t (2 : Fin 3) = 0 := (by decide +kernel : ∀ t : Fin grid0.N, _)
theorem index1 : ∀ t : Fin cfg0.N, win0_1.index t (0 : Fin 3) = t.val / 2 ∧ win0_1.index t (1 : Fin 3) = t.val % 2
    ∧ win0_1.index t (2 : Fin 3) = 0 := (by decide +kernel : ∀ t : Fin grid0.N, _)
theorem index2 : ∀ t : Fin cfg0.N, win0_2.index t (0 : Fin 3) = t.val / 2 ∧ win0_2.index t (1 : Fin 3) = 0
    ∧ win0_2.index t (2 : Fin 3) = 0 := (by decide +kernel : ∀ t : Fin grid0.N, _)
theorem index3 : ∀ t : Fin cfg0.N, win0_3.index t (0 : Fin 3) = t.val / 2 ∧ win0_3.index t (1 : Fin 3) = t.val % 2
    ∧ win0_3.index t (2 : Fin 3) = 0 := (by decide +kernel : ∀ t : Fin grid0.N, _)

theorem t_lt : t.val < 64 := lt_of_lt_of_eq t.isLt Gen.N_0

/-- The sample of a grid point. -/
def sample : Fin 32 := ⟨t.val / 2, by have := t_lt t; omega⟩
/-- The token that row `r` of a point's block is. -/
def place (r : Fin 1024) : Fin 2048 := ⟨1024 * (t.val % 2) + r.val, by omega⟩

theorem iblk0_apply (r : Fin 1024) (d : Fin 1024) : iblk m c 0 t (ix3 0 r d) = V m c main_arg0 (ix3 (sample t) (place t r) d) := by
  obtain ⟨e0, e1, e2⟩ := index0 t
  exact congrArg (V m c main_arg0) (ix3_of_val _ _ _ _
    (by show win0_0.index t (0 : Fin 3) * 1 + 1 * 0 = t.val / 2; omega)
    (by show win0_0.index t (1 : Fin 3) * 1024 + 1 * r.val = 1024 * (t.val % 2) + r.val; omega)
    (by show win0_0.index t (2 : Fin 3) * 1024 + 1 * d.val = d.val; omega))

theorem iblk1_apply (a : Fin 8192) (l : Fin 128) : iblk m c 1 t (ix3 0 a l)
    = V m c main_arg1 (ix3 (sample t) (⟨8192 * (t.val % 2) + a.val, by omega⟩ : Fin 16384) l) := by
  obtain ⟨e0, e1, e2⟩ := index1 t
  exact congrArg (V m c main_arg1) (ix3_of_val _ _ _ _
    (by show win0_1.index t (0 : Fin 3) * 1 + 1 * 0 = t.val / 2; omega)
    (by show win0_1.index t (1 : Fin 3) * 8192 + 1 * a.val = 8192 * (t.val % 2) + a.val; omega)
    (by show win0_1.index t (2 : Fin 3) * 128 + 1 * l.val = l.val; omega))

theorem iblk2_apply (d : Fin 1024) : iblk m c 2 t (ix3 0 0 d) = V m c main_arg2 (ix3 (sample t) 0 d) := by
  obtain ⟨e0, e1, e2⟩ := index2 t
  exact congrArg (V m c main_arg2) (ix3_of_val _ _ _ _
    (by show win0_2.index t (0 : Fin 3) * 1 + 1 * 0 = t.val / 2; omega)
    (by show win0_2.index t (1 : Fin 3) * 1 + 1 * 0 = 0; omega)
    (by show win0_2.index t (2 : Fin 3) * 1024 + 1 * d.val = d.val; omega))

theorem emb3 (r d : Fin 1024) : ((cfg0.win 3).blk t).view.emb (ix3 0 r d : S1x1024x1024.Idx) = ix3 (sample t) (place t r) d := by
  obtain ⟨e0, e1, e2⟩ := index3 t
  exact ix3_of_val _ _ _ _
    (by show win0_3.index t (0 : Fin 3) * 1 + 1 * 0 = t.val / 2; omega)
    (by show win0_3.index t (1 : Fin 3) * 1024 + 1 * r.val = 1024 * (t.val % 2) + r.val; omega)
    (by show win0_3.index t (2 : Fin 3) * 1024 + 1 * d.val = d.val; omega)

/-- The last residual of the three arrays that device `c` holds. -/
abbrev result (i : Ix3 32 2048 1024) : EReal :=
  last (B := 32) (N := 2048) (M := 16384) rfl (V m c main_arg0) (V m c main_arg1) (V m c main_arg2) (i 0) (i 1) (i 2)

/-- What a point leaves is its block of the result, -/
theorem block_eq3 (i : S1x1024x1024.Idx) : outsAt0 m c t i = result m c (((cfg0.win 3).blk t).view.emb i) := by
  obtain ⟨r, d, rfl⟩ : ∃ (r d : Fin 1024), i = ix3 0 r d :=
    ⟨i 1, i 2, ix3_of_val _ _ _ _ (by have h : (i 0).val < 1 := (i 0).isLt; show (i 0).val = 0; omega) rfl rfl⟩
  rw [emb3, block3]
  refine congrArg₂ (· + ·) (iblk0_apply m c t r d) (congrArg₂ (· * ·) (iblk2_apply m c t d) ((iblk1_apply m c t _ _).trans ?_))
  exact congrArg (V m c main_arg1) (ix3_of_val _ _ _ _ rfl
    (by show 8192 * (t.val % 2) + (8 * r.val + d.val / 128) = 8 * (1024 * (t.val % 2) + r.val) + d.val / 128; omega) rfl)

/-- The grid point of a token. -/
def point (b : Fin 32) (n : Fin 2048) : Fin cfg0.N := ⟨2 * b.val + n.val / 1024, lt_of_lt_of_eq (by omega) Gen.N_0.symm⟩

theorem sample_point (b : Fin 32) (n : Fin 2048) : sample (point b n) = b :=
  Fin.ext (by show (2 * b.val + n.val / 1024) / 2 = b.val; omega)

theorem place_point (b : Fin 32) (n : Fin 2048) : place (point b n) ⟨n.val % 1024, by omega⟩ = n :=
  Fin.ext (by show 1024 * ((2 * b.val + n.val / 1024) % 2) + n.val % 1024 = n.val; omega)

theorem covered3 (i : S32x2048x1024.Idx) : ∃ t : Fin cfg0.N, (cfg0.win 3).flush t = true ∧ i ∈ ((cfg0.win 3).blk t).view.set := by
  obtain ⟨b, n, d, rfl⟩ : ∃ (b : Fin 32) (n : Fin 2048) (d : Fin 1024), i = ix3 b n d := ⟨i 0, i 1, i 2, ix3_of_val i _ _ _ rfl rfl rfl⟩
  have h := ((cfg0.win 3).blk (point b n)).view.emb_mem_set (ix3 0 ⟨n.val % 1024, by omega⟩ d : S1x1024x1024.Idx)
  rw [emb3 (point b n) _ d, sample_point, place_point b n] at h
  exact ⟨point b n, flush0_3 _, h⟩

/-- and the result array holds it after the run. -/
theorem final3 : (dats m 0 c).arrAt 3 cfg0.N = result m c := by
  refine (dats m 0 c).arrAt_eq_of_cover 3 (result m c) (fun t _ => ?_) covered3
  show (cfg0.win 3).cut (grid0.coords t) ((dats m 0 c).after 3 t) = _
  rw [after0_3]
  funext i
  exact block_eq3 m c t i

/-- Every run ends with the last residual of the arguments in the result, and the arguments as they were. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), h.2 c⟩) (θ_run_and (run_main m ρ) (unchanged m ρ))

end Cert.FinalIdeal.Lst

namespace Cert.FinalReferenceIdeal.Lst

open Cert.FinalReferenceIdeal Cert.FinalReferenceIdeal.Gen Cert.FinalReferenceIdeal.Read Cert.Context
open Cert.Projection (Ix2 Ix3)
open Idealize.ShloMosaic Idealize.ShloMosaic.TcCoe Idealize.ShloMosaic.Pointwise Idealize.SL.Sem

/-- The last residual of the three arrays that the reference starts from on device `c`. -/
abbrev held (m : (ℓ : Loc nD τ sig) → Buf (Elt Ideal) ℓ) (c : Dev nD) (i : Ix3 32 2048 1024) : EReal :=
  last (B := 32) (N := 2048) (M := 16384) rfl (m ((c.tc : Thread nD τ).loc main_arg0)) (m ((c.tc : Thread nD τ).loc main_arg1))
    (m ((c.tc : Thread nD τ).loc main_arg2)) (i 0) (i 1) (i 2)

theorem result_eq (x0 : Ix3 32 2048 1024 → EReal) (x1 : Ix3 32 16384 128 → EReal) (x2 : Ix3 32 1 1024 → EReal) :
    val_main_v4 (F := Ideal) x0 x1 x2 = fun i : Ix3 32 2048 1024 => last (B := 32) (N := 2048) (M := 16384) rfl x0 x1 x2 (i 0) (i 1) (i 2) := by
  funext i
  have h0 : (i 0).val < 32 := (i 0).isLt
  have h1 : (i 1).val < 2048 := (i 1).isLt
  have h2 : (i 2).val < 1024 := (i 2).isLt
  rw [val_main_v4_apply, val_main_v3_apply, val_main_v2_apply, val_main_v1_apply, val_main_v0_apply]
  refine congrArg₂ (· + ·) (congrArg x0 (ix3_of_val _ _ _ _ rfl rfl rfl)) (congrArg₂ (· * ·)
    (congrArg x2 (ix3_of_val _ _ _ _ rfl rfl rfl)) (congrArg x1 (ix3_of_val _ _ _ _ ?_ ?_ ?_)))
  · show (((i 0).val * 2048 + (i 1).val) * 1024 + (i 2).val) / 2097152 = (i 0).val
    omega
  · show (((i 0).val * 2048 + (i 1).val) * 1024 + (i 2).val) / 128 % 16384 = 8 * (i 1).val + (i 2).val / 128
    omega
  · show (((i 0).val * 2048 + (i 1).val) * 1024 + (i 2).val) % 128 = (i 2).val % 128
    omega

/-- Every run of the reference ends with the last residual in its result, and the arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = held m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    have ⟨e0, args⟩ := h c
    ⟨e0.trans ((val_main_v4_eq ..).trans (result_eq ..)), args⟩)
    (Value.run (F := Ideal) m ρ)

end Cert.FinalReferenceIdeal.Lst

end
-- ==== Proof.Experts.lean ====
/-
  THE EXPERTS, at the extended reals: what an expert makes of a token's row, and what the experts make of arrays of rows. A row of
  1024 channels lies as eight rows of 128 lanes, part by part: row `256 p + r` of an expert's 2048 holds channels `128 p …` of row
  `r`.
-/
module

public import proofs.«01_k».proof.Proof.Context

@[expose] public section

noncomputable section

namespace Cert.Expert

open Cert.Projection (sigmoid Ix3 Ix4)
open Cert.Context Idealize.ShloMosaic Idealize.ShloMosaic.Pointwise

/-- Channel `f` of an expert's hidden row: the first product times its logistic function, times the second product. -/
def hidden (x : Fin 1024 → EReal) (wg wu : Fin 1024 → Fin 512 → EReal) (f : Fin 512) : EReal :=
  (∑ d, x d * wg d f) * sigmoid (∑ d, x d * wg d f) * ∑ d, x d * wu d f

/-- Channel `d` of what an expert makes of a row, times the row's gate. -/
def out (g : EReal) (x : Fin 1024 → EReal) (wg wu : Fin 1024 → Fin 512 → EReal) (wd : Fin 512 → Fin 1024 → EReal) (d : Fin 1024) : EReal :=
  (∑ f, hidden x wg wu f * wd f d) * g

/-- Row `r` of expert `e` of sample `b`. -/
def row {B E : Nat} (x : Ix4 B E 2048 128 → EReal) (b : Fin B) (e : Fin E) (r : Fin 256) (d : Fin 1024) : EReal :=
  x (ix4 b e ⟨256 * (d.val / 128) + r.val, by omega⟩ ⟨d.val % 128, by omega⟩)

/-- What expert `e` makes of row `r` of sample `b`, from the arrays of gates, rows and weights. -/
def made {B E : Nat} (g : Ix3 B E 256 → EReal) (x : Ix4 B E 2048 128 → EReal) (wg wu : Ix3 E 1024 512 → EReal) (wd : Ix3 E 512 1024 → EReal)
    (b : Fin B) (e : Fin E) (r : Fin 256) : Fin 1024 → EReal :=
  out (g (ix3 b e r)) (row x b e r) (fun d f => wg (ix3 e d f)) (fun d f => wu (ix3 e d f)) (fun f d => wd (ix3 e f d))

/-- The array of what the experts make, laid out as the rows are. -/
def made4 {B E : Nat} (g : Ix3 B E 256 → EReal) (x : Ix4 B E 2048 128 → EReal) (wg wu : Ix3 E 1024 512 → EReal) (wd : Ix3 E 512 1024 → EReal)
    (i : Ix4 B E 2048 128) : EReal :=
  made g x wg wu wd (i 0) (i 1) ⟨(i 2).val % 256, by omega⟩
    ⟨128 * ((i 2).val / 256) + (i 3).val, by have h : (i 2).val < 2048 := (i 2).isLt; have k : (i 3).val < 128 := (i 3).isLt; omega⟩

/-- One half. -/
def half : EReal := ((1 / 2 : ℝ) : EReal)

/-- The logistic function of a number is a half and half the hyperbolic tangent of its half. -/
theorem half_tanh (a : EReal) : half * Ideal.tanh (half * a) + half = sigmoid a := by
  unfold sigmoid half
  induction a using EReal.rec with
  | bot =>
    rw [EReal.coe_mul_bot_of_pos (by norm_num), EReal.neg_bot]
    show ((1 / 2 : ℝ) : EReal) * (-1) + ((1 / 2 : ℝ) : EReal) = Ideal.div 1 (1 + ⊤)
    rw [show ((-1 : EReal)) = ((-1 : ℝ) : EReal) by norm_num, ← EReal.coe_mul, ← EReal.coe_add, show (1 : EReal) = ((1 : ℝ) : EReal) from rfl,
      EReal.coe_add_top]
    unfold Ideal.div
    rw [if_neg EReal.top_ne_zero, EReal.inv_top, mul_zero]
    norm_num
  | top =>
    rw [EReal.coe_mul_top_of_pos (by norm_num), EReal.neg_top]
    show ((1 / 2 : ℝ) : EReal) * 1 + ((1 / 2 : ℝ) : EReal) = Ideal.div 1 (1 + 0)
    rw [mul_one, ← EReal.coe_add, add_zero]
    unfold Ideal.div
    rw [if_neg one_ne_zero, show (1 : EReal) = ((1 : ℝ) : EReal) from rfl, ← EReal.coe_inv, ← EReal.coe_mul]
    norm_num
  | coe a =>
    rw [← EReal.coe_mul, ← EReal.coe_neg]
    show ((1 / 2 : ℝ) : EReal) * (Real.tanh (1 / 2 * a) : EReal) + ((1 / 2 : ℝ) : EReal) = Ideal.div 1 (1 + (Real.exp (-a) : EReal))
    have p := Real.exp_pos (-a)
    rw [show (1 : EReal) = ((1 : ℝ) : EReal) from rfl, ← EReal.coe_add, ← EReal.coe_mul, ← EReal.coe_add]
    unfold Ideal.div
    rw [if_neg (by exact_mod_cast (by linarith : (1 : ℝ) + Real.exp (-a) ≠ 0)), ← EReal.coe_inv, ← EReal.coe_mul]
    refine congrArg _ ?_
    have h := Real.exp_pos (1 / 2 * a)
    have e : Real.exp (-a) = Real.exp (-(1 / 2 * a)) * Real.exp (-(1 / 2 * a)) := by rw [← Real.exp_add]; congr 1; ring
    rw [Real.tanh_eq_sinh_div_cosh, Real.sinh_eq, Real.cosh_eq, e, Real.exp_neg]
    field_simp
    ring

/-- A sum over 512 channels is the sum over the first 256 and the sum over the last. -/
theorem sum_halves (y : Fin 512 → EReal) : ∑ f, y f = (∑ k : Fin 256, y ⟨k.val, by omega⟩) + ∑ k : Fin 256, y ⟨256 + k.val, by omega⟩ :=
  Fin.sum_univ_add (a := 256) (b := 256) y

end Cert.Expert

end
-- ==== Proof.ExpertsBlock.lean ====
/-
  WHAT A GRID POINT OF THE EXPERTS LEAVES, at the extended reals. A point takes one sample and two experts. For each expert it joins
  the eight parts of 128 channels into 256 rows, makes the hidden rows in two halves of 256 channels and the result in four quarters
  of 256 channels, and stores a quarter in two parts of 128 channels. The sixteen stores make the block `Expert.made` describes.
-/
module

public import proofs.«01_k».proof.Proof.Experts
public import proofs.«01_k».proof.Proof.Gen.ExpertsIdeal.Frame
public import Idealize.ShloMosaic.PureOps.IdealRules
public import Idealize.ShloMosaic.Lib.Pointwise
public import Idealize.ShloMosaic.Lib.Pipeline.ValueKit
public import Idealize.ShloMosaic.Lib.Pipeline.Value
public import Idealize.ShloMosaic.Lib.WholeRead

@[expose] public section

set_option maxRecDepth 16384
noncomputable section

namespace Cert.ExpertsIdeal.Exp

open Cert.ExpertsIdeal Cert.ExpertsIdeal.Gen Cert.Context Cert.Expert
open Cert.Projection (sigmoid Ix2 Ix3 Ix4)
open Idealize.ShloMosaic Idealize.ShloMosaic.TcCoe Idealize.ShloMosaic.Tactic Idealize.ShloMosaic.Pointwise Idealize.SL.Sem

/-! ## The values of the body, over any operands -/

theorem half_eq : Ideal.ofBits .f32 0x3F000000#32 = half := by
  simp [Ideal.ofBits, Ideal.ieee, half]
  rw [← EReal.coe_mul]
  norm_num

theorem zero_pay (r : Fin 8) (l : Fin 128) : k0_pay4 (F := Ideal) (ix2 r l) = 0 := by
  pointwise [k0_pay4]

theorem part_eq (y : Fin 8 → Vec Ideal S1x1x256x128 .f32) (r : Fin 256) (d : Fin 1024) (p : Fin 8) (l : Fin 128) (h : 128 * p.val + l.val = d.val) :
    y p (ix4 0 0 r l) = y ⟨d.val / 128, by omega⟩ (ix4 0 0 r ⟨d.val % 128, by omega⟩) := by
  rw [show p = ⟨d.val / 128, by omega⟩ from Fin.ext (by show p.val = d.val / 128; omega),
    show l = ⟨d.val % 128, by omega⟩ from Fin.ext (by show l.val = d.val % 128; omega)]

/-- The eight parts of a row, joined. -/
theorem join_pay (y : Fin 8 → Vec Ideal S1x1x256x128 .f32) (r : Fin 256) (d : Fin 1024) :
    k0_pay5 (F := Ideal) (y 0) (y 1) (y 2) (y 3) (y 4) (y 5) (y 6) (y 7) (ix2 r d)
      = y ⟨d.val / 128, by omega⟩ (ix4 0 0 r ⟨d.val % 128, by omega⟩) := by
  pointwise [k0_pay5]
  have h := d.isLt
  by_cases h0 : d.val < 128
  · rw [dif_pos h0]
    exact part_eq y r d 0 ⟨d.val, by omega⟩ (by show 128 * 0 + (d.val) = d.val; omega)
  rw [dif_neg h0]
  by_cases h1 : d.val - 128 < 128
  · rw [dif_pos h1]
    exact part_eq y r d 1 ⟨d.val - 128, by omega⟩ (by show 128 * 1 + (d.val - 128) = d.val; omega)
  rw [dif_neg h1]
  by_cases h2 : d.val - 128 - 128 < 128
  · rw [dif_pos h2]
    exact part_eq y r d 2 ⟨d.val - 128 - 128, by omega⟩ (by show 128 * 2 + (d.val - 128 - 128) = d.val; omega)
  rw [dif_neg h2]
  by_cases h3 : d.val - 128 - 128 - 128 < 128
  · rw [dif_pos h3]
    exact part_eq y r d 3 ⟨d.val - 128 - 128 - 128, by omega⟩ (by show 128 * 3 + (d.val - 128 - 128 - 128) = d.val; omega)
  rw [dif_neg h3]
  by_cases h4 : d.val - 128 - 128 - 128 - 128 < 128
  · rw [dif_pos h4]
    exact part_eq y r d 4 ⟨d.val - 128 - 128 - 128 - 128, by omega⟩ (by show 128 * 4 + (d.val - 128 - 128 - 128 - 128) = d.val; omega)
  rw [dif_neg h4]
  by_cases h5 : d.val - 128 - 128 - 128 - 128 - 128 < 128
  · rw [dif_pos h5]
    exact part_eq y r d 5 ⟨d.val - 128 - 128 - 128 - 128 - 128, by omega⟩ (by show 128 * 5 + (d.val - 128 - 128 - 128 - 128 - 128) = d.val; omega)
  rw [dif_neg h5]
  by_cases h6 : d.val - 128 - 128 - 128 - 128 - 128 - 128 < 128
  · rw [dif_pos h6]
    exact part_eq y r d 6 ⟨d.val - 128 - 128 - 128 - 128 - 128 - 128, by omega⟩ (by show 128 * 6 + (d.val - 128 - 128 - 128 - 128 - 128 - 128) = d.val; omega)
  rw [dif_neg h6]
  exact part_eq y r d 7 ⟨d.val - 128 - 128 - 128 - 128 - 128 - 128 - 128, by omega⟩ (by show 128 * 7 + (d.val - 128 - 128 - 128 - 128 - 128 - 128 - 128) = d.val; omega)

theorem gate_pay (g : Vec Ideal S1x1x1x256 .f32) (r : Fin 256) : k0_pay6 (F := Ideal) g (ix2 r 0) = g (ix4 0 0 0 r) := by
  pointwise [k0_pay6]

theorem edge_pay (z : FVec Ideal S8x128 .f32) (hz : ∀ r l, z (ix2 r l) = 0) (j : Fin 256) : k0_pay15 (F := Ideal) z (ix2 0 j) = 0 := by
  pointwise [k0_pay15]
  simp only [hz, dite_eq_ite, ite_self]

theorem mid_pay (z : FVec Ideal S8x128 .f32) (hz : ∀ r l, z (ix2 r l) = 0) (x : FVec Ideal S256x1024 .bf16) (wg wu : Vec Ideal S1x1024x256 .bf16)
    (r j : Fin 256) : k0_pay7 (F := Ideal) z x wg wu (ix2 r j)
      = (∑ d, x (ix2 r d) * wg (ix3 0 d j)) * sigmoid (∑ d, x (ix2 r d) * wg (ix3 0 d j)) * ∑ d, x (ix2 r d) * wu (ix3 0 d j) := by
  pointwise [k0_pay7]
  simp only [hz, dite_eq_ite, ite_self, add_zero]
  rw [half_eq, half_tanh]

theorem product_pay (h : FVec Ideal S256x256 .bf16) (w : Vec Ideal S1x256x256 .bf16) (r j : Fin 256) :
    k0_pay16 (F := Ideal) h w (ix2 r j) = ∑ k, h (ix2 r k) * w (ix3 0 k j) := by
  pointwise [k0_pay16]

theorem out_pay (g : FVec Ideal S256x1 .f32) (h : FVec Ideal S256x256 .bf16) (z : FVec Ideal S1x256 .f32) (y : FVec Ideal S256x256 .f32)
    (w : Vec Ideal S1x256x256 .bf16) (r j : Fin 256) :
    k0_pay1 (F := Ideal) g h z y w (ix2 r j) = (y (ix2 r j) + ∑ k, h (ix2 r k) * w (ix3 0 k j)) * g (ix2 r 0) + z (ix2 0 j) := by
  pointwise [k0_pay1]

/-- Part `c` of 128 channels of a quarter, as it is stored. -/
def storePart (y : FVec Ideal S256x256 .f32) (c : Fin 2) : FVec Ideal S1x1x256x128 .f32 :=
  shapeCast S1x1x256x128 (extractStridedSlice S256x128 ![0, 128 * c.val] y (by revert c; decide +kernel) : FVec Ideal S256x128 .f32)
    shapeCasts_S256x128_S1x1x256x128

theorem storePart_apply (y : FVec Ideal S256x256 .f32) (c : Fin 2) (r : Fin 256) (l : Fin 128) :
    storePart y c (ix4 0 0 r l) = y (ix2 r ⟨128 * c.val + l.val, by omega⟩) := by
  pointwise [storePart]

/-! ## An expert of a grid point -/

variable (m : (ℓ : Loc nD τ sig) → Buf (Elt Ideal) ℓ) (c : Dev nD) (t : Fin cfg0.N)

/-- Part `p` of 128 channels of expert `j`'s rows, -/
abbrev pRect (j : Fin 2) (p : Fin 8) : Rect S1x2x2048x128 :=
  Rect.unit (s := S1x2x2048x128) ![0, j.val, 256 * p.val, 0] S1x1x256x128.size (by revert j p; decide +kernel)
/-- half `n` of the columns of one of its first two weights, -/
abbrev wRect (j n : Fin 2) : Rect S2x1024x512 :=
  Rect.unit (s := S2x1024x512) ![j.val, 0, 256 * n.val] S1x1024x256.size (by revert j n; decide +kernel)
/-- half `a` of the rows in quarter `n` of the columns of its last, -/
abbrev dRect (j a : Fin 2) (n : Fin 4) : Rect S2x512x1024 :=
  Rect.unit (s := S2x512x1024) ![j.val, 256 * a.val, 256 * n.val] S1x256x256.size (by revert j a n; decide +kernel)
/-- where its gates lie, -/
def gateOff (i : grid0.Coords) : (j : Fin 2) → Fin 4 → Nat
  | 0 => k0_off1 i
  | 1 => k0_off2 i
theorem gateOff_inb (i : grid0.Coords) : ∀ (j : Fin 2) (a : Fin 4), gateOff i j a + S1x1x1x256.size a ≤ S1x16x1x256.size a
  | 0 => k0_off1_inb i
  | 1 => k0_off2_inb i
/-- and the gates. -/
abbrev gRect (i : grid0.Coords) (j : Fin 2) : Rect S1x16x1x256 := Rect.unit (s := S1x16x1x256) (gateOff i j) S1x1x1x256.size (gateOff_inb i j)

/-- What is loaded of part `p` of expert `j`'s rows, -/
def loaded (j : Fin 2) (p : Fin 8) : Vec Ideal S1x1x256x128 .f32 :=
  View.readAt (Elt Ideal) (ms0_1 t).view (pRect j p).toLoadRect ((hs0_1 t).unread (iblk m c 1 t))
/-- the rows, -/
def rows (j : Fin 2) : FVec Ideal S256x1024 .bf16 :=
  k0_pay5 (F := Ideal) (loaded m c t j 0) (loaded m c t j 1) (loaded m c t j 2) (loaded m c t j 3) (loaded m c t j 4) (loaded m c t j 5)
    (loaded m c t j 6) (loaded m c t j 7)
/-- its gates, -/
def gates (j : Fin 2) : FVec Ideal S256x1 .f32 :=
  k0_pay6 (F := Ideal) (View.readAt (Elt Ideal) (ms0_0 t).view (gRect (grid0.coords t) j).toLoadRect ((hs0_0 t).unread (iblk m c 0 t)))
/-- half `n` of its hidden rows -/
def mid (j n : Fin 2) : FVec Ideal S256x256 .bf16 :=
  k0_pay7 (F := Ideal) (k0_pay4 (F := Ideal)) (rows m c t j)
    (View.readAt (Elt Ideal) (ms0_2 t).view (wRect j n).toLoadRect ((hs0_2 t).unread (iblk m c 2 t)))
    (View.readAt (Elt Ideal) (ms0_3 t).view (wRect j n).toLoadRect ((hs0_3 t).unread (iblk m c 3 t)))
/-- and quarter `n` of its result. -/
def quarter (j : Fin 2) (n : Fin 4) : FVec Ideal S256x256 .f32 :=
  k0_pay1 (F := Ideal) (gates m c t j) (mid m c t j 1) (k0_pay15 (F := Ideal) (k0_pay4 (F := Ideal)))
    (k0_pay16 (F := Ideal) (mid m c t j 0) (View.readAt (Elt Ideal) (ms0_4 t).view (dRect j 0 n).toLoadRect ((hs0_4 t).unread (iblk m c 4 t))))
    (View.readAt (Elt Ideal) (ms0_4 t).view (dRect j 1 n).toLoadRect ((hs0_4 t).unread (iblk m c 4 t)))

/-- The sixteen stores, last first. -/
abbrev stores : List (View.Piece (Elt Ideal) S1x2x2048x128 .f32) :=
  ([1, 0] : List (Fin 2)).flatMap fun j => ([7, 6, 5, 4, 3, 2, 1, 0] : List (Fin 8)).map fun p =>
    ⟨pRect j p, storePart (quarter m c t j ⟨p.val / 2, by omega⟩) ⟨p.val % 2, by omega⟩⟩

theorem stores_eq : (kernelRun0_A (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t)).1 = stores m c t := rfl

/-- The two experts of a grid point. -/
def expert (j : Fin 2) : Fin 16 := ⟨2 * (t.val % 8) + j.val, by omega⟩

theorem gateOff_eq : ∀ (t : Fin cfg0.N) (j : Fin 2), gateOff (grid0.coords t) j 0 = 0 ∧ gateOff (grid0.coords t) j 1 = 2 * (t.val % 8) + j.val
    ∧ gateOff (grid0.coords t) j 2 = 0 ∧ gateOff (grid0.coords t) j 3 = 0 := (by decide +kernel : ∀ (t : Fin grid0.N) (j : Fin 2), _)

/-- The gates of the point's block, as an array of two experts. -/
def blockGates (i : Ix3 1 2 256) : EReal := iblk m c 0 t (ix4 0 (expert t (i 1)) 0 (i 2))

theorem rows_apply (j : Fin 2) (r : Fin 256) (d : Fin 1024) : rows m c t j (ix2 r d) = row (B := 1) (E := 2) (iblk m c 1 t) 0 j r d := by
  unfold rows
  refine (join_pay (loaded m c t j) r d).trans (((hs0_1 t).readAt_unread (iblk m c 1 t) _ _).trans (congrArg (iblk m c 1 t) (ix4_of_val _ _ _ _ _ ?_ ?_ ?_ ?_)))
  · show 0 + 1 * 0 = 0
    omega
  · show j.val + 1 * 0 = j.val
    omega
  · show 256 * (d.val / 128) + 1 * r.val = 256 * (d.val / 128) + r.val
    omega
  · show 0 + 1 * (d.val % 128) = d.val % 128
    omega

theorem gates_apply (j : Fin 2) (r : Fin 256) : gates m c t j (ix2 r 0) = blockGates m c t (ix3 0 j r) := by
  obtain ⟨e0, e1, e2, e3⟩ := gateOff_eq t j
  unfold gates
  refine (gate_pay _ r).trans (((hs0_0 t).readAt_unread (iblk m c 0 t) _ _).trans (congrArg (iblk m c 0 t) (ix4_of_val _ _ _ _ _ ?_ ?_ ?_ ?_)))
  · show gateOff (grid0.coords t) j 0 + 1 * 0 = 0
    omega
  · show gateOff (grid0.coords t) j 1 + 1 * 0 = 2 * (t.val % 8) + j.val
    omega
  · show gateOff (grid0.coords t) j 2 + 1 * 0 = 0
    omega
  · show gateOff (grid0.coords t) j 3 + 1 * r.val = r.val
    omega

/-- Channel `256 n + k` of the hidden rows. -/
theorem mid_apply (j n : Fin 2) (r k : Fin 256) : mid m c t j n (ix2 r k)
    = hidden (row (B := 1) (E := 2) (iblk m c 1 t) 0 j r) (fun d f => iblk m c 2 t (ix3 j d f)) (fun d f => iblk m c 3 t (ix3 j d f))
      ⟨256 * n.val + k.val, by omega⟩ := by
  unfold mid
  rw [mid_pay _ zero_pay]
  simp only [rows_apply]
  have e2 : ∀ d : Fin 1024, View.readAt (Elt Ideal) (ms0_2 t).view (wRect j n).toLoadRect ((hs0_2 t).unread (iblk m c 2 t)) (ix3 0 d k)
      = iblk m c 2 t (ix3 j d ⟨256 * n.val + k.val, by omega⟩) := fun d =>
    ((hs0_2 t).readAt_unread (iblk m c 2 t) _ _).trans (congrArg (iblk m c 2 t) (ix3_of_val _ _ _ _ (by show j.val + 1 * 0 = j.val; omega)
      (by show 0 + 1 * d.val = d.val; omega) (by show 256 * n.val + 1 * k.val = 256 * n.val + k.val; omega)))
  have e3 : ∀ d : Fin 1024, View.readAt (Elt Ideal) (ms0_3 t).view (wRect j n).toLoadRect ((hs0_3 t).unread (iblk m c 3 t)) (ix3 0 d k)
      = iblk m c 3 t (ix3 j d ⟨256 * n.val + k.val, by omega⟩) := fun d =>
    ((hs0_3 t).readAt_unread (iblk m c 3 t) _ _).trans (congrArg (iblk m c 3 t) (ix3_of_val _ _ _ _ (by show j.val + 1 * 0 = j.val; omega)
      (by show 0 + 1 * d.val = d.val; omega) (by show 256 * n.val + 1 * k.val = 256 * n.val + k.val; omega)))
  rw [Finset.sum_congr rfl fun d _ => congrArg (row (B := 1) (E := 2) (iblk m c 1 t) 0 j r d * ·) (e2 d),
    Finset.sum_congr rfl fun d _ => congrArg (row (B := 1) (E := 2) (iblk m c 1 t) 0 j r d * ·) (e3 d)]
  rfl

theorem down_apply (j a : Fin 2) (n : Fin 4) (k q : Fin 256) :
    View.readAt (Elt Ideal) (ms0_4 t).view (dRect j a n).toLoadRect ((hs0_4 t).unread (iblk m c 4 t)) (ix3 0 k q)
      = iblk m c 4 t (ix3 j ⟨256 * a.val + k.val, by omega⟩ ⟨256 * n.val + q.val, by omega⟩) :=
  ((hs0_4 t).readAt_unread (iblk m c 4 t) _ _).trans (congrArg (iblk m c 4 t) (ix3_of_val _ _ _ _ (by show j.val + 1 * 0 = j.val; omega)
    (by show 256 * a.val + 1 * k.val = 256 * a.val + k.val; omega) (by show 256 * n.val + 1 * q.val = 256 * n.val + q.val; omega)))

/-- What the point's two experts make of the rows of its block. -/
abbrev blockMade : Fin 2 → Fin 256 → Fin 1024 → EReal :=
  made (B := 1) (E := 2) (blockGates m c t) (iblk m c 1 t) (iblk m c 2 t) (iblk m c 3 t) (iblk m c 4 t) 0

/-- Channel `256 n + q` of the result. -/
theorem quarter_apply (j : Fin 2) (n : Fin 4) (r q : Fin 256) :
    quarter m c t j n (ix2 r q) = blockMade m c t j r ⟨256 * n.val + q.val, by omega⟩ := by
  unfold quarter
  rw [out_pay, edge_pay _ zero_pay, add_zero, product_pay, gates_apply]
  unfold blockMade made Expert.out
  rw [sum_halves]
  refine congrArg (· * _) (congrArg₂ (· + ·) (Finset.sum_congr rfl fun k _ => ?_) (Finset.sum_congr rfl fun k _ => ?_))
  · rw [mid_apply]
    refine congrArg₂ (· * ·) (congrArg _ (Fin.ext ?_)) ((down_apply m c t j 0 n k q).trans (congrArg (iblk m c 4 t) (ix3_of_val _ _ _ _ rfl ?_ rfl)))
    · show 256 * 0 + k.val = k.val
      omega
    · show 256 * 0 + k.val = k.val
      omega
  · rw [mid_apply]
    exact congrArg₂ (· * ·) rfl (down_apply m c t j 1 n k q)

theorem part_apply (j : Fin 2) (p : Fin 8) (r : Fin 256) (l : Fin 128) :
    storePart (quarter m c t j ⟨p.val / 2, by omega⟩) ⟨p.val % 2, by omega⟩ (ix4 0 0 r l)
      = blockMade m c t j r ⟨128 * p.val + l.val, by omega⟩ := by
  rw [storePart_apply, quarter_apply]
  exact congrArg _ (Fin.ext (by show 256 * (p.val / 2) + (128 * (p.val % 2) + l.val) = 128 * p.val + l.val; omega))

/-- The block of what the two experts make. -/
abbrev blockOut (i : S1x2x2048x128.Idx) : EReal :=
  made4 (B := 1) (E := 2) (blockGates m c t) (iblk m c 1 t) (iblk m c 2 t) (iblk m c 3 t) (iblk m c 4 t) i

/-- A point's block holds what its experts make. -/
theorem block5 : outsAt0 m c t = blockOut m c t := by
  funext y
  unfold outsAt0 out0_A_5
  rw [View.read_writes_junk_eq_canon]
  refine View.canon_apply_of_pieces (Val := Elt Ideal) (e := .f32) (blockOut m c t) _ ?_ y (cover0_A_5 (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (iblk m c 0 t) (iblk m c 1 t) (iblk m c 2 t) (iblk m c 3 t) (iblk m c 4 t) y)
  rw [stores_eq]
  intro q hq
  obtain ⟨j, -, hq⟩ := List.mem_flatMap.mp hq
  obtain ⟨p, -, rfl⟩ := List.mem_map.mp hq
  intro x
  have h0 : (x 0).val < 1 := (x 0).isLt
  have h1 : (x 1).val < 1 := (x 1).isLt
  have h2 : (x 2).val < 256 := (x 2).isLt
  have h3 : (x 3).val < 128 := (x 3).isLt
  have e : (pRect j p).emb x = ix4 (0 : Fin 1) j (⟨256 * p.val + (x 2).val, by omega⟩ : Fin 2048) (⟨(x 3).val, h3⟩ : Fin 128) :=
    ix4_of_val _ _ _ _ _ (by show 0 + 1 * (x 0).val = 0; omega) (by show j.val + 1 * (x 1).val = j.val; omega)
      (by show 256 * p.val + 1 * (x 2).val = 256 * p.val + (x 2).val; omega) (by show 0 + 1 * (x 3).val = (x 3).val; omega)
  rw [e]
  refine (congrArg (storePart (quarter m c t j ⟨p.val / 2, by omega⟩) ⟨p.val % 2, by omega⟩) (ix4_of_val x (0 : Fin 1) (0 : Fin 1) (⟨(x 2).val, h2⟩ : Fin 256)
    (⟨(x 3).val, h3⟩ : Fin 128) (by show (x 0).val = 0; omega) (by show (x 1).val = 0; omega) rfl rfl)).trans ((part_apply m c t j p _ _).trans ?_)
  refine congrArg₂ (blockMade m c t j) (Fin.ext ?_) (Fin.ext ?_)
  · show (x 2).val = (256 * p.val + (x 2).val) % 256
    omega
  · show 128 * p.val + (x 3).val = 128 * ((256 * p.val + (x 2).val) / 256) + (x 3).val
    omega

end Cert.ExpertsIdeal.Exp

end
-- ==== Proof.ExpertsArray.lean ====
/-
  WHAT THE EXPERTS MAKE, AS AN ARRAY, at the extended reals. Grid point `t` takes experts `2 (t % 8)` and `2 (t % 8) + 1` of sample
  `t / 8`; what it writes back is its block of `Expert.made4` over the arguments, and the blocks cover the result.
-/
module

public import proofs.«01_k».proof.Proof.ExpertsBlock
import Idealize.ShloMosaic.Lib.StableHlo.RunRead

@[expose] public section

set_option maxRecDepth 16384
noncomputable section

namespace Cert.ExpertsIdeal.Exp

open Cert.ExpertsIdeal Cert.ExpertsIdeal.Gen Cert.Context Cert.Expert
open Cert.Projection (Ix2 Ix3 Ix4)
open Idealize.ShloMosaic Idealize.ShloMosaic.TcCoe Idealize.ShloMosaic.Tactic Idealize.ShloMosaic.Pointwise Idealize.SL.Sem

variable (m : (ℓ : Loc nD τ sig) → Buf (Elt Ideal) ℓ) (ρ : Dev nD → PrngReg) (c : Dev nD) (t : Fin cfg0.N)

/-! ## What the host prepares -/

/-- The weights pass unchanged: a cast keeps the value. -/
theorem v0_eq : (V m c main_v0 : Ix3 16 1024 512 → EReal) = V m c main_arg2 := by
  show StableHlo.after _ (fun b => m (c, b)) (Proc.devRef .tc main_v0) = StableHlo.after _ (fun b => m (c, b)) (Proc.devRef .tc main_arg2)
  after_reads_simp
  rfl

theorem v1_eq : (V m c main_v1 : Ix3 16 1024 512 → EReal) = V m c main_arg3 := by
  show StableHlo.after _ (fun b => m (c, b)) (Proc.devRef .tc main_v1) = StableHlo.after _ (fun b => m (c, b)) (Proc.devRef .tc main_arg3)
  after_reads_simp
  rfl

theorem v2_eq : (V m c main_v2 : Ix3 16 512 1024 → EReal) = V m c main_arg4 := by
  show StableHlo.after _ (fun b => m (c, b)) (Proc.devRef .tc main_v2) = StableHlo.after _ (fun b => m (c, b)) (Proc.devRef .tc main_arg4)
  after_reads_simp
  rfl

theorem v3_eq : V m c main_v3 = (shapeCast S32x16x1x256 (V m c main_arg0) shapeCasts_S32x16x256_S32x16x1x256 : FVec Ideal S32x16x1x256 .f32) := by
  show StableHlo.after _ (fun b => m (c, b)) (Proc.devRef .tc main_v3)
    = shapeCast S32x16x1x256 (StableHlo.after _ (fun b => m (c, b)) (Proc.devRef .tc main_arg0)) shapeCasts_S32x16x256_S32x16x1x256
  after_reads_simp
  rfl

/-- The gates get an axis of one. -/
theorem v3_apply (b : Fin 32) (e : Fin 16) (r : Fin 256) : V m c main_v3 (ix4 b e 0 r) = V m c main_arg0 (ix3 b e r) := by
  rw [v3_eq]
  generalize (V m c main_arg0 : FVec Ideal S32x16x256 .f32) = g
  pointwise

/-! ## Where the blocks lie -/

theorem index0 : ∀ t : Fin cfg0.N, win0_0.index t (0 : Fin 4) = t.val / 8 ∧ win0_0.index t (1 : Fin 4) = 0 ∧ win0_0.index t (2 : Fin 4) = 0
    ∧ win0_0.index t (3 : Fin 4) = 0 := (by decide +kernel : ∀ t : Fin grid0.N, _)
theorem index1 : ∀ t : Fin cfg0.N, win0_1.index t (0 : Fin 4) = t.val / 8 ∧ win0_1.index t (1 : Fin 4) = t.val % 8 ∧ win0_1.index t (2 : Fin 4) = 0
    ∧ win0_1.index t (3 : Fin 4) = 0 := (by decide +kernel : ∀ t : Fin grid0.N, _)
theorem index2 : ∀ t : Fin cfg0.N, win0_2.index t (0 : Fin 3) = t.val % 8 ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val % 8 ∧ win0_3.index t (1 : Fin 3) = 0 ∧ win0_3.index t (2 : Fin 3) = 0 :=
  (by decide +kernel : ∀ t : Fin grid0.N, _)
theorem index4 : ∀ t : Fin cfg0.N, win0_4.index t (0 : Fin 3) = t.val % 8 ∧ win0_4.index t (1 : Fin 3) = 0 ∧ win0_4.index t (2 : Fin 3) = 0 :=
  (by decide +kernel : ∀ t : Fin grid0.N, _)
theorem index5 : ∀ t : Fin cfg0.N, win0_5.index t (0 : Fin 4) = t.val / 8 ∧ win0_5.index t (1 : Fin 4) = t.val % 8 ∧ win0_5.index t (2 : Fin 4) = 0
    ∧ win0_5.index t (3 : Fin 4) = 0 := (by decide +kernel : ∀ t : Fin grid0.N, _)

theorem t_lt : t.val < 256 := lt_of_lt_of_eq t.isLt Gen.N_0

/-- The sample of a grid point. -/
def sample : Fin 32 := ⟨t.val / 8, by have := t_lt t; omega⟩

theorem iblk0_apply (e : Fin 16) (r : Fin 256) : iblk m c 0 t (ix4 0 e 0 r) = V m c main_v3 (ix4 (sample t) e 0 r) := by
  obtain ⟨e0, e1, e2, e3⟩ := index0 t
  exact congrArg (V m c main_v3) (ix4_of_val _ _ _ _ _
    (by show win0_0.index t (0 : Fin 4) * 1 + 1 * 0 = t.val / 8; omega)
    (by show win0_0.index t (1 : Fin 4) * 16 + 1 * e.val = e.val; omega)
    (by show win0_0.index t (2 : Fin 4) * 1 + 1 * 0 = 0; omega)
    (by show win0_0.index t (3 : Fin 4) * 256 + 1 * r.val = r.val; omega))

theorem iblk1_apply (j : Fin 2) (r : Fin 2048) (l : Fin 128) : iblk m c 1 t (ix4 0 j r l) = V m c main_arg1 (ix4 (sample t) (expert t j) r l) := by
  obtain ⟨e0, e1, e2, e3⟩ := index1 t
  exact congrArg (V m c main_arg1) (ix4_of_val _ _ _ _ _
    (by show win0_1.index t (0 : Fin 4) * 1 + 1 * 0 = t.val / 8; omega)
    (by show win0_1.index t (1 : Fin 4) * 2 + 1 * j.val = 2 * (t.val % 8) + j.val; omega)
    (by show win0_1.index t (2 : Fin 4) * 2048 + 1 * r.val = r.val; omega)
    (by show win0_1.index t (3 : Fin 4) * 128 + 1 * l.val = l.val; omega))

theorem iblk2_apply (j : Fin 2) (d : Fin 1024) (f : Fin 512) : iblk m c 2 t (ix3 j d f) = V m c main_v0 (ix3 (expert t j) d f) := by
  obtain ⟨e0, e1, e2⟩ := index2 t
  exact congrArg (V m c main_v0) (ix3_of_val _ _ _ _
    (by show win0_2.index t (0 : Fin 3) * 2 + 1 * j.val = 2 * (t.val % 8) + j.val; omega)
    (by show win0_2.index t (1 : Fin 3) * 1024 + 1 * d.val = d.val; omega)
    (by show win0_2.index t (2 : Fin 3) * 512 + 1 * f.val = f.val; omega))

theorem iblk3_apply (j : Fin 2) (d : Fin 1024) (f : Fin 512) : iblk m c 3 t (ix3 j d f) = V m c main_v1 (ix3 (expert t j) d f) := by
  obtain ⟨e0, e1, e2⟩ := index3 t
  exact congrArg (V m c main_v1) (ix3_of_val _ _ _ _
    (by show win0_3.index t (0 : Fin 3) * 2 + 1 * j.val = 2 * (t.val % 8) + j.val; omega)
    (by show win0_3.index t (1 : Fin 3) * 1024 + 1 * d.val = d.val; omega)
    (by show win0_3.index t (2 : Fin 3) * 512 + 1 * f.val = f.val; omega))

theorem iblk4_apply (j : Fin 2) (f : Fin 512) (d : Fin 1024) : iblk m c 4 t (ix3 j f d) = V m c main_v2 (ix3 (expert t j) f d) := by
  obtain ⟨e0, e1, e2⟩ := index4 t
  exact congrArg (V m c main_v2) (ix3_of_val _ _ _ _
    (by show win0_4.index t (0 : Fin 3) * 2 + 1 * j.val = 2 * (t.val % 8) + j.val; omega)
    (by show win0_4.index t (1 : Fin 3) * 512 + 1 * f.val = f.val; omega)
    (by show win0_4.index t (2 : Fin 3) * 1024 + 1 * d.val = d.val; omega))

theorem emb5 (j : Fin 2) (r : Fin 2048) (l : Fin 128) :
    ((cfg0.win 5).blk t).view.emb (ix4 0 j r l : S1x2x2048x128.Idx) = ix4 (sample t) (expert t j) r l := by
  obtain ⟨e0, e1, e2, e3⟩ := index5 t
  exact ix4_of_val _ _ _ _ _
    (by show win0_5.index t (0 : Fin 4) * 1 + 1 * 0 = t.val / 8; omega)
    (by show win0_5.index t (1 : Fin 4) * 2 + 1 * j.val = 2 * (t.val % 8) + j.val; omega)
    (by show win0_5.index t (2 : Fin 4) * 2048 + 1 * r.val = r.val; omega)
    (by show win0_5.index t (3 : Fin 4) * 128 + 1 * l.val = l.val; omega)

/-! ## The result array -/

/-- What the experts make of the five arrays that device `c` holds. -/
abbrev result (i : Ix4 32 16 2048 128) : EReal :=
  made4 (B := 32) (E := 16) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) i

/-- A point's experts are experts of the arrays. -/
theorem made_eq (j : Fin 2) (r : Fin 256) : blockMade m c t j r
    = made (B := 32) (E := 16) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (sample t) (expert t j) r := by
  rw [← V_main_arg0 m c, ← V_main_arg1 m c, ← V_main_arg2 m c, ← V_main_arg3 m c, ← V_main_arg4 m c, ← v0_eq, ← v1_eq, ← v2_eq]
  have e0 : blockGates m c t (ix3 0 j r) = V m c main_arg0 (ix3 (sample t) (expert t j) r) :=
    (iblk0_apply m c t (expert t j) r).trans (v3_apply m c _ _ _)
  have e1 : row (B := 1) (E := 2) (iblk m c 1 t) 0 j r = row (B := 32) (E := 16) (V m c main_arg1) (sample t) (expert t j) r :=
    funext fun d => iblk1_apply m c t j _ _
  unfold blockMade made
  rw [e0, e1]
  simp only [iblk2_apply, iblk3_apply, iblk4_apply]

/-- What a point leaves is its block of the result, -/
theorem block_eq5 (i : S1x2x2048x128.Idx) : outsAt0 m c t i = result m c (((cfg0.win 5).blk t).view.emb i) := by
  obtain ⟨j, r, l, rfl⟩ : ∃ (j : Fin 2) (r : Fin 2048) (l : Fin 128), i = ix4 0 j r l :=
    ⟨i 1, i 2, i 3, ix4_of_val _ _ _ _ _ (by have h : (i 0).val < 1 := (i 0).isLt; show (i 0).val = 0; omega) rfl rfl rfl⟩
  rw [emb5, block5]
  exact congrFun (made_eq m c t j _) _

/-- The grid point of an expert, -/
def point (b : Fin 32) (e : Fin 16) : Fin cfg0.N := ⟨8 * b.val + e.val / 2, lt_of_lt_of_eq (by omega) Gen.N_0.symm⟩
/-- and the expert among the point's two. -/
def among (e : Fin 16) : Fin 2 := ⟨e.val % 2, by omega⟩

theorem sample_point (b : Fin 32) (e : Fin 16) : sample (point b e) = b :=
  Fin.ext (by show (8 * b.val + e.val / 2) / 8 = b.val; omega)
theorem expert_point (b : Fin 32) (e : Fin 16) : expert (point b e) (among e) = e :=
  Fin.ext (by show 2 * ((8 * b.val + e.val / 2) % 8) + e.val % 2 = e.val; omega)

theorem covered5 (i : S32x16x2048x128.Idx) : ∃ t : Fin cfg0.N, (cfg0.win 5).flush t = true ∧ i ∈ ((cfg0.win 5).blk t).view.set := by
  obtain ⟨b, e, r, l, rfl⟩ : ∃ (b : Fin 32) (e : Fin 16) (r : Fin 2048) (l : Fin 128), i = ix4 b e r l :=
    ⟨i 0, i 1, i 2, i 3, ix4_of_val i _ _ _ _ rfl rfl rfl rfl⟩
  have h := ((cfg0.win 5).blk (point b e)).view.emb_mem_set (ix4 0 (among e) r l : S1x2x2048x128.Idx)
  rw [emb5 (point b e) _ r l, sample_point, expert_point] at h
  exact ⟨point b e, flush0_5 _, h⟩

/-- and the result array holds it after the run. -/
theorem final5 : (dats m 0 c).arrAt 5 cfg0.N = result m c := by
  refine (dats m 0 c).arrAt_eq_of_cover 5 (result m c) (fun t _ => ?_) covered5
  show (cfg0.win 5).cut (grid0.coords t) ((dats m 0 c).after 5 t) = _
  rw [after0_5]
  funext i
  exact block_eq5 m c t i

/-- Every run ends with what the experts make in the result, and the arguments as they were. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), h.2 c⟩) (θ_run_and (run_main m ρ) (unchanged m ρ))

end Cert.ExpertsIdeal.Exp

end
-- ==== Proof.ExpertsRef.lean ====
/-
  THE EXPERTS' REFERENCE, at the extended reals: its result is `Expert.made4` over its arguments. It lays the rows out as rows of
  1024 channels, works on whole arrays and lays the result out as the rows came.
-/
module

public import proofs.«01_k».proof.Proof.Experts
public import proofs.«01_k».proof.Proof.Gen.ExpertsReferenceIdeal.Run
public import proofs.«01_k».proof.Proof.Gen.ExpertsReferenceIdeal.Read
public import Idealize.ShloMosaic.Lib.KernelVsHost
public import Idealize.ShloMosaic.Lib.Pointwise

@[expose] public section

set_option maxRecDepth 16384
noncomputable section

namespace Cert.ExpertsReferenceIdeal.Exp

open Cert.ExpertsReferenceIdeal Cert.ExpertsReferenceIdeal.Gen Cert.ExpertsReferenceIdeal.Read Cert.Context Cert.Expert
open Cert.Projection (sigmoid Ix2 Ix3 Ix4)
open Idealize.ShloMosaic Idealize.ShloMosaic.TcCoe Idealize.ShloMosaic.Pointwise Idealize.SL.Sem

variable (x0 : Vec Ideal S32x16x256 .f32) (x1 : Vec Ideal S32x16x2048x128 .f32) (x2 x3 : Vec Ideal S16x1024x512 .f32) (x4 : Vec Ideal S16x512x1024 .f32)

theorem row_eq (b : Fin 32) (e : Fin 16) (r : Fin 256) (d : Fin 1024) : val_main_v2 (F := Ideal) x1 (ix4 b e r d) = row (B := 32) (E := 16) x1 b e r d := by
  unfold val_main_v2 val_main_v1 val_main_v0
  pointwise
  exact congrArg (fun a => x1 (ix4 b e a _)) (Fin.ext (by show d.val / 128 * 256 + r.val = 256 * (d.val / 128) + r.val; omega))

theorem gate_eq (b : Fin 32) (e : Fin 16) (r : Fin 256) (f : Fin 512) :
    val_main_v4 (F := Ideal) x1 x2 (ix4 b e r f) = ∑ d, row (B := 32) (E := 16) x1 b e r d * x2 (ix3 e d f) := by
  have h := row_eq x1 b e r
  unfold val_main_v4 val_main_v3
  revert h
  generalize val_main_v2 (F := Ideal) x1 = y
  intro h
  pointwise
  exact Finset.sum_congr rfl fun d _ => (mul_comm _ _).trans (congrArg (· * _) (h d))

theorem up_eq (b : Fin 32) (e : Fin 16) (r : Fin 256) (f : Fin 512) :
    val_main_v6 (F := Ideal) x1 x3 (ix4 b e r f) = ∑ d, row (B := 32) (E := 16) x1 b e r d * x3 (ix3 e d f) := gate_eq x1 x3 b e r f

theorem hidden_eq (b : Fin 32) (e : Fin 16) (r : Fin 256) (f : Fin 512) : val_main_v8 (F := Ideal) x1 x2 x3 (ix4 b e r f)
    = hidden (row (B := 32) (E := 16) x1 b e r) (fun d f => x2 (ix3 e d f)) (fun d f => x3 (ix3 e d f)) f := by
  have ha := gate_eq x1 x2 b e r f
  have hu := up_eq x1 x3 b e r f
  unfold val_main_v8 val_main_v7 val_main_call0_v5 val_main_call0_v4 val_main_call0_v3 val_main_call0_v2 val_main_call0_v1 val_main_call0_v0 val_main_call0_cst val_main_call0_cst_0
  revert ha hu
  generalize val_main_v4 (F := Ideal) x1 x2 = y
  generalize val_main_v6 (F := Ideal) x1 x3 = z
  intro ha hu
  pointwise
  rw [ha, hu]
  rfl

theorem made_eq (b : Fin 32) (e : Fin 16) (r : Fin 256) (d : Fin 1024) : val_main_v13 (F := Ideal) x0 x1 x2 x3 x4 (ix4 b e r d)
    = made (B := 32) (E := 16) x0 x1 x2 x3 x4 b e r d := by
  have h := hidden_eq x1 x2 x3 b e r
  unfold val_main_v13 val_main_v12 val_main_v11 val_main_v10 val_main_v9
  revert h
  generalize val_main_v8 (F := Ideal) x1 x2 x3 = y
  intro h
  pointwise
  exact congrArg (· * _) (Finset.sum_congr rfl fun f _ => (mul_comm _ _).trans (congrArg (· * _) (h f)))

theorem result_eq : val_main_v16 (F := Ideal) x0 x1 x2 x3 x4 = made4 (B := 32) (E := 16) x0 x1 x2 x3 x4 := by
  funext i
  obtain ⟨b, e, r, l, rfl⟩ : ∃ (b : Fin 32) (e : Fin 16) (r : Fin 2048) (l : Fin 128), i = ix4 b e r l :=
    ⟨i 0, i 1, i 2, i 3, ix4_of_val i _ _ _ _ rfl rfl rfl rfl⟩
  have h := fun r d => made_eq x0 x1 x2 x3 x4 b e r d
  unfold val_main_v16 val_main_v15 val_main_v14
  revert h
  generalize val_main_v13 (F := Ideal) x0 x1 x2 x3 x4 = y
  intro h
  pointwise
  rw [h]
  exact congrArg (made (B := 32) (E := 16) x0 x1 x2 x3 x4 b e _) (Fin.ext (by show r.val / 256 * 128 + l.val = 128 * (r.val / 256) + l.val; omega))

/-- What the experts make of the arrays that the reference starts from on device `c`. -/
abbrev held (m : (ℓ : Loc nD τ sig) → Buf (Elt Ideal) ℓ) (c : Dev nD) (i : Ix4 32 16 2048 128) : EReal :=
  made4 (B := 32) (E := 16) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) i

/-- Every run of the reference ends with what the experts make in its result, and the arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16) = held m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    have ⟨e0, args⟩ := h c
    ⟨e0.trans ((val_main_v16_eq ..).trans (result_eq ..)), args⟩)
    (Value.run (F := Ideal) m ρ)

end Cert.ExpertsReferenceIdeal.Exp

end
-- ==== Proof.Modulation.lean ====
/-
  THE MODULATION, at the extended reals: six vectors of 1024 channels per sample, and six more for the context, each a linear map of
  the condition's silu. The host stacks the 32 samples' conditions, the context's and seven rows of zeros; grid point `t` makes
  columns `1024 t …` of the stack's product. The kernel multiplies in two parts, a rounding of a factor and what the rounding loses.
  At the extended reals the second part of a real number is zero, so over real conditions and weights the three products are one.
-/
module

public import proofs.«01_k».proof.Proof.Experts
public import proofs.«01_k».proof.Proof.Merging
public import proofs.«01_k».proof.Proof.Context
public import proofs.«01_k».proof.Proof.Gen.ModIdeal.Frame
public import proofs.«01_k».proof.Proof.Gen.ModReferenceIdeal.Run
public import proofs.«01_k».proof.Proof.Gen.ModReferenceIdeal.Read
public import Idealize.ShloMosaic.PureOps.IdealRules
public import Idealize.ShloMosaic.Lib.Pointwise
public import Idealize.ShloMosaic.Lib.Pipeline.ValueKit
public import Idealize.ShloMosaic.Lib.Pipeline.Value
import Idealize.ShloMosaic.Lib.StableHlo.RunRead

@[expose] public section

set_option maxRecDepth 16384
noncomputable section

namespace Cert.Modulating

open Cert.Projection (sigmoid)
open Cert.Softmax Cert.Merging
open Idealize.ShloMosaic

/-- A number times its logistic function. -/
def silu (a : EReal) : EReal := a * sigmoid a

/-- One entry of the modulation: the condition's silu along a column of the weights, and the column's shift. -/
def modulation (y w : Fin 1024 → EReal) (b : EReal) : EReal := (∑ d, silu (y d) * w d) + b

/-- The silu of a real number is real. -/
theorem silu_real {a : EReal} (h : Fin' a) : Fin' (silu a) := by
  refine h.mul ?_
  obtain ⟨r, rfl⟩ := h
  rw [← Expert.half_tanh]
  unfold Expert.half
  refine .add (.mul ⟨_, rfl⟩ ?_) ⟨_, rfl⟩
  rw [← EReal.coe_mul]
  exact ⟨Real.tanh (1 / 2 * r), rfl⟩

/-- Three products of parts are one product where the parts that the roundings lose are zero. -/
theorem parts {s w : Fin 1024 → EReal} (hs : ∀ d, Fin' (s d)) (hw : ∀ d, Fin' (w d)) :
    (∑ d, s d * w d) + ((∑ d, s d * (w d - w d)) + ∑ d, (s d - s d) * w d) = ∑ d, s d * w d := by
  have a : (∑ d, s d * (w d - w d)) = 0 := Finset.sum_eq_zero fun d _ => by rw [Fin'.sub_self (hw d), mul_zero]
  have b : (∑ d, (s d - s d) * w d) = 0 := Finset.sum_eq_zero fun d _ => by rw [Fin'.sub_self (hs d), zero_mul]
  rw [a, b, add_zero, add_zero]

end Cert.Modulating

namespace Cert.ModIdeal.Mdl

open Cert.ModIdeal Cert.ModIdeal.Gen Cert.Context Cert.Modulating Cert.Softmax
open Cert.Projection (Ix2 Ix3 sigmoid)
open Idealize.ShloMosaic Idealize.ShloMosaic.TcCoe Idealize.ShloMosaic.Tactic Idealize.ShloMosaic.Pointwise Idealize.SL.Sem

theorem zero2 : (![0, 0] : Fin 2 → Nat) = fun _ => 0 := by decide

/-- The body's store over real operands is the modulation of its rows. -/
theorem pay (x : Vec Ideal S40x1024 .f32) (w : Vec Ideal S1024x1024 .f32) (b : Vec Ideal S1x1024 .f32) (hx : ∀ i, Fin' (x i))
    (hw : ∀ i, Fin' (w i)) (r : Fin 40) (j : Fin 1024) :
    k0_pay1 (F := Ideal) x w b (ix2 r j) = modulation (fun d => x (ix2 r d)) (fun d => w (ix2 d j)) (b (ix2 0 j)) := by
  have e := parts (s := fun d => silu (x (ix2 r d))) (w := fun d => w (ix2 d j)) (fun d => silu_real (hx _)) fun d => hw _
  unfold modulation
  rw [← e]
  unfold silu sigmoid
  pointwise [k0_pay1]
  simp only [zero_sub]

variable (m : (ℓ : Loc nD τ sig) → Buf (Elt Ideal) ℓ) (ρ : Dev nD → PrngReg) (c : Dev nD) (t : Fin cfg0.N)

/-! ## The stacked conditions -/

/-- The samples' conditions, the context's and seven rows of zeros. -/
def stack (x : FVec Ideal S32x1024 .f32) (y : FVec Ideal S1024 .f32) : FVec Ideal S40x1024 .f32 :=
  concatenate S40x1024 0 [⟨S32x1024, x⟩, ⟨S1x1024, (broadcastInDim S1x1024 ![1] bcast_S1024_S1x1024_1 y : FVec Ideal S1x1024 .f32)⟩,
    ⟨S7x1024, (broadcastInDim S7x1024 ![] bcast_S_S7x1024 (constant S_ .f32 0x00000000#32) : FVec Ideal S7x1024 .f32)⟩]
    concatenates_S32x1024_S1x1024_S7x1024_S40x1024_d0

theorem stack_apply (x : FVec Ideal S32x1024 .f32) (y : FVec Ideal S1024 .f32) (r : Fin 40) (d : Fin 1024) :
    stack x y (ix2 r d) = if h : r.val < 32 then x (ix2 ⟨r.val, h⟩ d) else if _h : r.val - 32 < 1 then y (ix1 d) else 0 := by
  pointwise [stack]

theorem v2_eq : V m c main_v2 = stack (V m c main_arg0) (V m c main_arg1) := by
  show StableHlo.after _ (fun b => m (c, b)) (Proc.devRef .tc main_v2)
    = stack (StableHlo.after _ (fun b => m (c, b)) (Proc.devRef .tc main_arg0)) (StableHlo.after _ (fun b => m (c, b)) (Proc.devRef .tc main_arg1))
  after_reads_simp
  rfl

/-- The conditions and the weights of device `c` are real numbers. -/
structure Real : Prop where
  samples : ∀ i, Fin' (m ((c.tc : Thread nD τ).loc main_arg0) i)
  context : ∀ i, Fin' (m ((c.tc : Thread nD τ).loc main_arg1) i)
  weights : ∀ i, Fin' (m ((c.tc : Thread nD τ).loc main_arg2) i)

variable {m c} in
theorem Real.stacked (h : Real m c) (i : S40x1024.Idx) : Fin' (V m c main_v2 i) := by
  obtain ⟨r, d, rfl⟩ : ∃ (r : Fin 40) (d : Fin 1024), i = ix2 r d := ⟨i 0, i 1, ix2_of_val i _ _ rfl rfl⟩
  rw [v2_eq, stack_apply, V_main_arg0, V_main_arg1]
  split
  · exact h.samples _
  · split
    · exact h.context _
    · exact ⟨0, rfl⟩

/-! ## The product's array -/

theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 2) = 0 ∧ win0_1.index t (1 : Fin 2) = t.val := (by decide +kernel : ∀ t : Fin grid0.N, _)
theorem index2 : ∀ t : Fin cfg0.N, win0_2.index t (0 : Fin 2) = 0 ∧ win0_2.index t (1 : Fin 2) = t.val := (by decide +kernel : ∀ t : Fin grid0.N, _)
theorem index3 : ∀ t : Fin cfg0.N, win0_3.index t (0 : Fin 2) = 0 ∧ win0_3.index t (1 : Fin 2) = t.val := (by decide +kernel : ∀ t : Fin grid0.N, _)

theorem t_lt : t.val < 6 := lt_of_lt_of_eq t.isLt Gen.N_0

/-- The column that column `j` of a point's block is. -/
def column (j : Fin 1024) : Fin 6144 := ⟨1024 * t.val + j.val, by have := t_lt t; omega⟩

theorem iblk0_apply (r : Fin 40) (d : Fin 1024) : iblk m c 0 t (ix2 r d) = V m c main_v2 (ix2 r d) := by
  obtain ⟨e0, e1⟩ := index0 t
  exact congrArg (V m c main_v2) (ix2_of_val _ _ _
    (by show win0_0.index t (0 : Fin 2) * 40 + 1 * r.val = r.val; omega)
    (by show win0_0.index t (1 : Fin 2) * 1024 + 1 * d.val = d.val; omega))

theorem iblk1_apply (d j : Fin 1024) : iblk m c 1 t (ix2 d j) = V m c main_arg2 (ix2 d (column t j)) := by
  obtain ⟨e0, e1⟩ := index1 t
  exact congrArg (V m c main_arg2) (ix2_of_val _ _ _
    (by show win0_1.index t (0 : Fin 2) * 1024 + 1 * d.val = d.val; omega)
    (by show win0_1.index t (1 : Fin 2) * 1024 + 1 * j.val = 1024 * t.val + j.val; omega))

theorem iblk2_apply (j : Fin 1024) : iblk m c 2 t (ix2 0 j) = V m c main_arg3 (ix2 0 (column t j)) := by
  obtain ⟨e0, e1⟩ := index2 t
  exact congrArg (V m c main_arg3) (ix2_of_val _ _ _
    (by show win0_2.index t (0 : Fin 2) * 1 + 1 * 0 = 0; omega)
    (by show win0_2.index t (1 : Fin 2) * 1024 + 1 * j.val = 1024 * t.val + j.val; omega))

theorem emb3 (r : Fin 40) (j : Fin 1024) : ((cfg0.win 3).blk t).view.emb (ix2 r j : S40x1024.Idx) = ix2 r (column t j) := by
  obtain ⟨e0, e1⟩ := index3 t
  exact ix2_of_val _ _ _
    (by show win0_3.index t (0 : Fin 2) * 40 + 1 * r.val = r.val; omega)
    (by show win0_3.index t (1 : Fin 2) * 1024 + 1 * j.val = 1024 * t.val + j.val; omega)

/-- The modulation of the stacked conditions. -/
def product (i : Ix2 40 6144) : EReal :=
  modulation (fun d => V m c main_v2 (ix2 (i 0) d)) (fun d => V m c main_arg2 (ix2 d (i 1))) (V m c main_arg3 (ix2 0 (i 1)))

variable {m c}

/-- What a point leaves is its block of it, -/
theorem block_eq3 (h : Real m c) (i : S40x1024.Idx) : out0_3 (F := Ideal) (iblk m c 0 t) (iblk m c 1 t) (iblk m c 2 t) i
    = product m c (((cfg0.win 3).blk t).view.emb i) := by
  obtain ⟨r, j, rfl⟩ : ∃ (r : Fin 40) (j : Fin 1024), i = ix2 r j := ⟨i 0, i 1, ix2_of_val i _ _ rfl rfl⟩
  have e0 : iblk m c 0 t = V m c main_v2 := funext fun i => by
    obtain ⟨r, d, rfl⟩ : ∃ (r : Fin 40) (d : Fin 1024), i = ix2 r d := ⟨i 0, i 1, ix2_of_val i _ _ rfl rfl⟩
    exact iblk0_apply m c t r d
  have h1 : ∀ i, Fin' (iblk m c 1 t i) := fun i => by
    obtain ⟨d, j, rfl⟩ : ∃ (d j : Fin 1024), i = ix2 d j := ⟨i 0, i 1, ix2_of_val i _ _ rfl rfl⟩
    rw [iblk1_apply, V_main_arg2]
    exact h.weights _
  unfold out0_3
  rw [emb3, View.canon_unit_zero zero2, View.ld_unit_zero zero2, View.ld_unit_zero zero2, View.ld_unit_zero zero2, e0,
    pay _ _ _ h.stacked h1, iblk2_apply]
  exact congrArg (fun w => modulation _ w _) (funext fun d => iblk1_apply m c t d j)

theorem covered3 (i : S40x6144.Idx) : ∃ t : Fin cfg0.N, (cfg0.win 3).flush t = true ∧ i ∈ ((cfg0.win 3).blk t).view.set := by
  obtain ⟨r, j, rfl⟩ : ∃ (r : Fin 40) (j : Fin 6144), i = ix2 r j := ⟨i 0, i 1, ix2_of_val i _ _ rfl rfl⟩
  let t : Fin cfg0.N := ⟨j.val / 1024, lt_of_lt_of_eq (by omega) Gen.N_0.symm⟩
  have e : column t ⟨j.val % 1024, by omega⟩ = j := Fin.ext (by show 1024 * (j.val / 1024) + j.val % 1024 = j.val; omega)
  have h := ((cfg0.win 3).blk t).view.emb_mem_set (ix2 r ⟨j.val % 1024, by omega⟩ : S40x1024.Idx)
  rw [emb3 t, e] at h
  exact ⟨t, flush0_3 _, h⟩

/-- and the array holds all of it after the grid. -/
theorem final3 (h : Real m c) : (dats m 0 c).arrAt 3 cfg0.N = product m c := by
  refine (dats m 0 c).arrAt_eq_of_cover 3 (product m c) (fun t _ => ?_) covered3
  show (cfg0.win 3).cut (grid0.coords t) ((dats m 0 c).after 3 t) = _
  rw [after0_3]
  funext i
  exact block_eq3 t h i

/-! ## What the host takes out of it -/

variable (m c)

/-- The samples' modulations of the four arrays that device `c` holds, -/
def samples (i : Ix2 32 6144) : EReal :=
  modulation (fun d => m ((c.tc : Thread nD τ).loc main_arg0) (ix2 (i 0) d)) (fun d => m ((c.tc : Thread nD τ).loc main_arg2) (ix2 d (i 1)))
    (m ((c.tc : Thread nD τ).loc main_arg3) (ix2 0 (i 1)))

/-- and the context's. -/
def context (i : S6144.Idx) : EReal :=
  modulation (fun d => m ((c.tc : Thread nD τ).loc main_arg1) (ix1 d)) (fun d => m ((c.tc : Thread nD τ).loc main_arg2) (ix2 d (i 0)))
    (m ((c.tc : Thread nD τ).loc main_arg3) (ix2 0 (i 0)))

/-- The array after the grid, where the host reads it. -/
theorem array_eq : Pipeline.withArrays cfg0.spec c (V0 m c) (fun w => (dats m 0 c).arrAt w cfg0.N) (Proc.devRef .tc main_v3) = (dats m 0 c).arrAt 3 cfg0.N :=
  Pipeline.withArrays_arr cfg0.spec (by decide) c (V0 m c) (fun w => (dats m 0 c).arrAt w cfg0.N) 3

/-- The first 32 rows are the samples', -/
theorem product_sample (b : Fin 32) (j : Fin 6144) : product m c (ix2 ⟨b.val, by omega⟩ j) = samples m c (ix2 b j) := by
  have e : ∀ d, V m c main_v2 (ix2 (⟨b.val, by omega⟩ : Fin 40) d) = m ((c.tc : Thread nD τ).loc main_arg0) (ix2 b d) := fun d => by
    rw [v2_eq, stack_apply, dif_pos b.isLt, V_main_arg0]
  unfold product samples
  rw [V_main_arg2, V_main_arg3]
  exact congrArg (fun y => modulation y _ _) (funext e)

/-- the next is the context's. -/
theorem product_context (j : Fin 6144) : product m c (ix2 32 j) = context m c (ix1 j) := by
  have e : ∀ d, V m c main_v2 (ix2 (32 : Fin 40) d) = m ((c.tc : Thread nD τ).loc main_arg1) (ix1 d) := fun d => by
    rw [v2_eq, stack_apply, dif_neg (by decide), dif_pos (by decide), V_main_arg1]
  unfold product context
  rw [V_main_arg2, V_main_arg3]
  exact congrArg (fun y => modulation y _ _) (funext e)

theorem tail4 (h : Real m c) : Pipeline.afterTail₀ cfgs (dats m) 0 (V0 m) [hostOps1] c main_v4 = samples m c := by
  have e := (array_eq m c).trans (final3 h)
  unfold Pipeline.afterTail₀
  revert e
  generalize Pipeline.withArrays _ _ _ _ = W
  intro e
  after_reads_simp
  rw [e]
  funext i
  obtain ⟨b, j, rfl⟩ : ∃ (b : Fin 32) (j : Fin 6144), i = ix2 b j := ⟨i 0, i 1, ix2_of_val i _ _ rfl rfl⟩
  refine Eq.trans ?_ (product_sample m c b j)
  pointwise

theorem tail6 (h : Real m c) : Pipeline.afterTail₀ cfgs (dats m) 0 (V0 m) [hostOps1] c main_v6 = context m c := by
  have e := (array_eq m c).trans (final3 h)
  unfold Pipeline.afterTail₀
  revert e
  generalize Pipeline.withArrays _ _ _ _ = W
  intro e
  after_reads_simp
  rw [e]
  funext i
  obtain ⟨j, rfl⟩ : ∃ j : Fin 6144, i = ix1 j := ⟨i 0, eq_ix1 i⟩
  refine Eq.trans ?_ (product_context m c j)
  generalize product m c = y
  pointwise

/-- Over real conditions and weights every run ends with the samples' modulations and the context's in the results, and the arguments
    as they were. -/
theorem run (h : ∀ c, Real m c) : θ_run defs (onTc (τ := τ) (main (F := Ideal))) ⟨m, fun _ => 0, ρ⟩ (fun r => ∀ c : Dev nD,
      r.2.mem ((c.tc : Thread nD τ).loc main_v4) = samples m c
      ∧ r.2.mem ((c.tc : Thread nD τ).loc main_v6) = context m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ k c =>
    ⟨((k.1 c).2 main_v4 (Pipeline.mem_restRefs_of main_v4 (by decide) (by decide))).trans (tail4 m c (h c)),
      ((k.1 c).2 main_v6 (Pipeline.mem_restRefs_of main_v6 (by decide) (by decide))).trans (tail6 m c (h c)), k.2 c⟩)
    (θ_run_and (run_main m ρ) (unchanged m ρ))

end Cert.ModIdeal.Mdl

namespace Cert.ModReferenceIdeal.Mdl

open Cert.ModReferenceIdeal Cert.ModReferenceIdeal.Gen Cert.ModReferenceIdeal.Read Cert.Context Cert.Modulating
open Cert.Projection (Ix2 Ix3 sigmoid)
open Idealize.ShloMosaic Idealize.ShloMosaic.TcCoe Idealize.ShloMosaic.Pointwise Idealize.SL.Sem

theorem one : Ideal.ofBits .f32 0x3F800000#32 = 1 := by
  simp [Ideal.ofBits, Ideal.ieee]
  rw [← EReal.coe_mul]
  norm_num

/-- The reference's silu of the samples' conditions, -/
theorem samples_silu (x : Ix2 32 1024 → EReal) (i : S32x1024.Idx) : val_main_v0 (F := Ideal) x i = silu (x i) := by
  rw [val_main_v0_apply, val_main_call0_v5_apply, val_main_call0_v4_apply, val_main_call0_v3_apply, val_main_call0_v2_apply,
    val_main_call0_v1_apply, val_main_call0_v0_apply, val_main_call0_cst_apply, val_main_call0_cst_0_apply]
  show x i * Ideal.div (Ideal.ofBits .f32 0x3F800000#32) (Ideal.ofBits .f32 0x3F800000#32 + Ideal.exp (-(x i))) = silu (x i)
  rw [one]
  rfl

/-- and of the context's. -/
theorem context_silu (x : S1024.Idx → EReal) (i : S1024.Idx) : val_main_v6 (F := Ideal) x i = silu (x i) := by
  rw [val_main_v6_apply, val_main_call1_v5_apply, val_main_call1_v4_apply, val_main_call1_v3_apply, val_main_call1_v2_apply,
    val_main_call1_v1_apply, val_main_call1_v0_apply, val_main_call1_cst_apply, val_main_call1_cst_0_apply]
  show x i * Ideal.div (Ideal.ofBits .f32 0x3F800000#32) (Ideal.ofBits .f32 0x3F800000#32 + Ideal.exp (-(x i))) = silu (x i)
  rw [one]
  rfl

theorem samples_eq (x0 : Ix2 32 1024 → EReal) (x2 : Ix2 1024 6144 → EReal) (x3 : Ix2 1 6144 → EReal) (i : Ix2 32 6144) :
    val_main_v5 (F := Ideal) x0 x2 x3 i = modulation (fun d => x0 (ix2 (i 0) d)) (fun d => x2 (ix2 d (i 1))) (x3 (ix2 0 (i 1))) := by
  have h1 : (i 1).val < 6144 := (i 1).isLt
  rw [val_main_v5_apply, val_main_v1_apply, val_main_v4_apply, val_main_v3_apply, val_main_v2_apply]
  refine congrArg₂ (· + ·) (Finset.sum_congr rfl fun d _ => ?_)
    (congrArg x3 (ix2_of_val _ _ _ rfl (by show (i 1).val % 6144 = (i 1).val; omega)))
  rw [samples_silu]
  exact congrArg₂ (· * ·) (congrArg (fun i => silu (x0 i)) (ix2_of_val _ _ _ rfl rfl)) (congrArg x2 (ix2_of_val _ _ _ rfl rfl))

theorem context_eq (x1 : S1024.Idx → EReal) (x2 : Ix2 1024 6144 → EReal) (x3 : Ix2 1 6144 → EReal) (i : S6144.Idx) :
    val_main_v9 (F := Ideal) x1 x2 x3 i = modulation (fun d => x1 (ix1 d)) (fun d => x2 (ix2 d (i 0))) (x3 (ix2 0 (i 0))) := by
  have h0 : (i 0).val < 6144 := (i 0).isLt
  rw [val_main_v9_apply, val_main_v7_apply, val_main_v8_apply]
  refine congrArg₂ (· + ·) (Finset.sum_congr rfl fun d _ => ?_)
    (congrArg x3 (ix2_of_val _ _ _ rfl (by show (i 0).val % 6144 = (i 0).val; omega)))
  rw [context_silu]
  exact congrArg₂ (· * ·) (congrArg (fun i => silu (x1 i)) (eq_ix1 _)) (congrArg x2 (ix2_of_val _ _ _ rfl rfl))

variable (m : (ℓ : Loc nD τ sig) → Buf (Elt Ideal) ℓ) (c : Dev nD)

/-- The samples' modulations of the four arrays that the reference starts from on device `c`, -/
def samples (i : Ix2 32 6144) : EReal :=
  modulation (fun d => m ((c.tc : Thread nD τ).loc main_arg0) (ix2 (i 0) d)) (fun d => m ((c.tc : Thread nD τ).loc main_arg2) (ix2 d (i 1)))
    (m ((c.tc : Thread nD τ).loc main_arg3) (ix2 0 (i 1)))

/-- and the context's. -/
def context (i : S6144.Idx) : EReal :=
  modulation (fun d => m ((c.tc : Thread nD τ).loc main_arg1) (ix1 d)) (fun d => m ((c.tc : Thread nD τ).loc main_arg2) (ix2 d (i 0)))
    (m ((c.tc : Thread nD τ).loc main_arg3) (ix2 0 (i 0)))

/-- Every run of the reference ends with both in its results, and the arguments as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v5) = samples m c
      ∧ r.2.mem ((c.tc : Thread nD τ).loc main_v9) = context m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    have ⟨e0, e1, args⟩ := h c
    ⟨e0.trans ((val_main_v5_eq ..).trans (funext fun i => samples_eq _ _ _ i)),
      e1.trans ((val_main_v9_eq ..).trans (funext fun i => context_eq _ _ _ i)), args⟩)
    (Value.run (F := Ideal) m ρ)

end Cert.ModReferenceIdeal.Mdl

end
-- ==== Proof.ModulationFinite.lean ====
/-
  WHAT THE MODULATION'S PRECONDITION SAYS: `mod_finite` asks of the conditions and the weights that the absolute value of every
  element be below +∞, so every element is a real number.
-/
module

public import proofs.«01_k».proof.Proof.MergeFinite
public import proofs.«01_k».proof.Proof.Gen.Pre_mod_finite

@[expose] public section

noncomputable section

namespace Cert.Pre_mod_finite

open Idealize.ShloMosaic Cert.Softmax

/-- At arguments that pass every element of the three is a real number. -/
theorem finite (x0 : FVec Ideal S32x1024 .f32) (x1 : FVec Ideal S1024 .f32) (x2 : FVec Ideal S1024x6144 .f32) (x3 : FVec Ideal S1x6144 .f32)
    (h : fn (F := Ideal) x0 x1 x2 x3 = fun _ => 1#1) : (∀ i, Fin' (x0 i)) ∧ (∀ i, Fin' (x1 i)) ∧ (∀ i, Fin' (x2 i)) := by
  have e := congrFun h (Shape.Idx.first Gen.h_S_)
  unfold fn at e
  obtain ⟨e, e2⟩ := IntOp.andi_eq_one.1 e
  obtain ⟨e0, e1⟩ := IntOp.andi_eq_one.1 e
  exact ⟨Pre_merge_finite.checked x0 _ _ _ _ e0, Pre_merge_finite.checked x1 _ _ _ _ e1, Pre_merge_finite.checked x2 _ _ _ _ e2⟩

end Cert.Pre_mod_finite

end
-- ==== Proof.lean ====
/-
  THE PROOF OF `Cert.Claim`: the attention kernel, the latent projection, the merge, the context's projection, the last residual,
  the experts and the modulation run and leave their arguments and every semaphore counter as they were. At the extended reals the
  attention ends, at finite arguments, with the array that the softmax attention of its reference ends with; the merge ends, at
  finite gains, scales, shifts and router weights, with the three arrays of its reference; the modulation, at finite conditions and
  weights, with the two of its own; and the projection, the context's projection, the last residual and the experts end, at any
  arguments, with the arrays of theirs.
-/
module

public import proofs.«01_k».proof.Defs
public import proofs.«01_k».proof.Proof.KernelRun
public import proofs.«01_k».proof.Proof.ArrayValue
public import proofs.«01_k».proof.Proof.RefValue
public import proofs.«01_k».proof.Proof.Finite
public import proofs.«01_k».proof.Proof.ProjArray
public import proofs.«01_k».proof.Proof.ProjRef
public import proofs.«01_k».proof.Proof.MergeArray
public import proofs.«01_k».proof.Proof.MergeRef
public import proofs.«01_k».proof.Proof.MergeFinite
public import proofs.«01_k».proof.Proof.CtxArray
public import proofs.«01_k».proof.Proof.CtxRef
public import proofs.«01_k».proof.Proof.Last
public import proofs.«01_k».proof.Proof.ExpertsArray
public import proofs.«01_k».proof.Proof.ExpertsRef
public import proofs.«01_k».proof.Proof.Modulation
public import proofs.«01_k».proof.Proof.ModulationFinite
public import proofs.«01_k».proof.Proof.Gen.ReferenceIdeal.Run
public import proofs.«01_k».proof.Proof.Gen.ReferenceIdeal.Read
public import proofs.«01_k».proof.Proof.Gen.Proj
public import proofs.«01_k».proof.Proof.Gen.Proj.Skeleton
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Merge
public import proofs.«01_k».proof.Proof.Gen.Merge.Skeleton
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Ctx
public import proofs.«01_k».proof.Proof.Gen.Ctx.Skeleton
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Frame
public import proofs.«01_k».proof.Proof.Gen.CtxReferenceIdeal
public import proofs.«01_k».proof.Proof.Gen.CtxReferenceIdeal.Run
public import proofs.«01_k».proof.Proof.Gen.CtxReferenceIdeal.Read
public import proofs.«01_k».proof.Proof.Gen.Final
public import proofs.«01_k».proof.Proof.Gen.Final.Skeleton
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Frame
public import proofs.«01_k».proof.Proof.Gen.FinalReferenceIdeal
public import proofs.«01_k».proof.Proof.Gen.FinalReferenceIdeal.Run
public import proofs.«01_k».proof.Proof.Gen.FinalReferenceIdeal.Read
public import proofs.«01_k».proof.Proof.Gen.Experts
public import proofs.«01_k».proof.Proof.Gen.Experts.Skeleton
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Frame
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Mod
public import proofs.«01_k».proof.Proof.Gen.Mod.Skeleton
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Frame
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.Pre_merge_finite
public import proofs.«01_k».proof.Proof.Gen.Pre_mod_finite
public import Idealize.ShloMosaic.PureOps.IdealRules
public import Idealize.ShloMosaic.Lib.Quiescent

@[expose] public section

noncomputable section

namespace Cert.Proof

open Idealize.ShloMosaic Idealize.ShloMosaic.TcCoe Idealize.SL.Sem

/-- The kernel as written leaves its arguments and the counters as they were. -/
theorem frame_p : Cert.quiescent_Kernel := fun m ρ _ => Cert.Kernel.Attn.frame m ρ

/-- So does the kernel at the extended reals, -/
theorem frame_pi : Cert.quiescent_KernelIdeal := fun m ρ _ => Cert.KernelIdeal.Attn.frame m ρ

/-- in particular at finite arguments. -/
theorem frame_pi_finite : Cert.quiescent_KernelIdeal_pre_finite := fun m ρ _ => Cert.KernelIdeal.Attn.frame m ρ

/-- The reference leaves its arguments as they were; it has no semaphores. -/
theorem frame_ri : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The same at finite arguments. -/
theorem frame_ri_finite : Cert.quiescent_ReferenceIdeal_pre_finite := fun m ρ _ => frame_ri m ρ trivial

/-- The idealization rewrote nothing. -/
theorem preserves : Cert.preserves_Kernel_KernelIdeal := trivial

/-- At finite arguments the precondition makes every element of the kernel's arguments a real number. -/
theorem real (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Attn.Real m c := by
  obtain ⟨h0, h1, h2, h3, h4⟩ := Cert.Pre_finite.finite _ _ _ _ _ (h c)
  exact ⟨h0, h1, h2, h3, h4⟩

/-- At the extended reals and finite arguments the kernel and the reference end with the same array, the attention. -/
theorem algebraic : Cert.algebraic_KernelIdeal_ReferenceIdeal_pre_finite := by
  intro m ρ m' ρ' hf hagree
  have hr := real m hf
  refine ⟨fun c => Cert.KernelIdeal.Attn.attn m c, Cert.KernelIdeal.Attn.run m ρ hr, ?_⟩
  refine (θ_run Cert.ReferenceIdeal.defs _ _).mono (fun _ h c => ⟨?_, (h c).2⟩) (Cert.ReferenceIdeal.Value.run (F := Ideal) m' ρ')
  obtain ⟨a0, a1, a2, a3, a4⟩ := hagree c
  refine (h c).1.trans ((Cert.ReferenceIdeal.Read.val_main_v23_eq _ _ _ _ _).trans ?_)
  rw [a0, a1, a2, a3, a4]
  exact funext (Cert.ReferenceIdeal.Attn.value _ _ _ _ _ (hr c).h0 (hr c).h1 (hr c).h2 (hr c).h3 (hr c).h4)

/-! ## The latent projection -/

/-- The projection as written leaves its arguments and the counters as they were. -/
theorem proj_frame_p : Cert.quiescent_Proj := fun m ρ _ => Cert.Proj.Gen.frame m ρ

/-- So does the projection at the extended reals, -/
theorem proj_frame_pi : Cert.quiescent_ProjIdeal := fun m ρ _ => Cert.ProjIdeal.Gen.frame m ρ

/-- and its reference. -/
theorem proj_frame_ri : Cert.quiescent_ProjReferenceIdeal := fun m ρ _ =>
  (θ_run (Cert.ProjReferenceIdeal.defs (F := Ideal)) _ _).mono
    (fun r h => ⟨fun c => (h c).2.2.2.2.2.2, sem_eq_zero_of_no_sems (by decide) r.2⟩) (Cert.ProjReferenceIdeal.Lat.run m ρ)

/-- The two named constants stand for 1/96 and 1/384. -/
theorem proj_preserves : Cert.preserves_Proj_ProjIdeal :=
  ⟨IdealRules.named_const.statement Cert.ProjIdeal.κ "inv_qk" .f32 0x3C2AAAAB#32 _ rfl,
    IdealRules.named_const.statement Cert.ProjIdeal.κ "inv_q" .f32 0x3B2AAAAB#32 _ rfl⟩

/-- At the extended reals the projection and its reference end with the same six arrays. -/
theorem proj_algebraic : Cert.algebraic_ProjIdeal_ProjReferenceIdeal := by
  intro m ρ m' ρ' _ hagree
  refine ⟨_, _, _, _, _, _, Cert.ProjIdeal.Lat.run m ρ, ?_⟩
  have e : ∀ c : Dev Cert.ProjIdeal.nD, Cert.ProjReferenceIdeal.Lat.held m' c = Cert.ProjIdeal.Lat.tokens m c := fun c => by
    obtain ⟨a0, a1, a2, a3, a4, a5, a6, a7, a8, a9, a10, a11, a12, a13, a14, a15⟩ := hagree c
    unfold Cert.ProjReferenceIdeal.Lat.held
    rw [a0, a1, a2, a3, a4, a5, a6, a7, a8, a9, a10, a11, a12, a13, a14, a15]
  refine (θ_run Cert.ProjReferenceIdeal.defs _ _).mono (fun _ h c => ?_) (Cert.ProjReferenceIdeal.Lat.run m' ρ')
  obtain ⟨h0, h1, h2, h3, h4, h5, args⟩ := h c
  exact ⟨h0.trans (congrArg _ (e c)), h1.trans (congrArg _ (e c)), h2.trans (congrArg _ (e c)), h3.trans (congrArg _ (e c)),
    h4.trans (congrArg _ (e c)), h5.trans (congrArg _ (e c)), args⟩

/-! ## The merge -/

/-- The merge as written leaves its arguments and the counters as they were. -/
theorem merge_frame_p : Cert.quiescent_Merge := fun m ρ _ => Cert.Merge.Gen.frame m ρ

/-- So does the merge at the extended reals, -/
theorem merge_frame_pi : Cert.quiescent_MergeIdeal := fun m ρ _ => Cert.MergeIdeal.Gen.frame m ρ

/-- in particular at finite arguments, -/
theorem merge_frame_pi_finite : Cert.quiescent_MergeIdeal_pre_merge_finite := fun m ρ _ => Cert.MergeIdeal.Gen.frame m ρ

/-- and its reference, -/
theorem merge_frame_ri : Cert.quiescent_MergeReferenceIdeal := fun m ρ _ =>
  (θ_run (Cert.MergeReferenceIdeal.defs (F := Ideal)) _ _).mono
    (fun r h => ⟨fun c => (h c).2.2.2, sem_eq_zero_of_no_sems (by decide) r.2⟩) (Cert.MergeReferenceIdeal.Mrg.run m ρ)

/-- at finite arguments too. -/
theorem merge_frame_ri_finite : Cert.quiescent_MergeReferenceIdeal_pre_merge_finite := fun m ρ _ => merge_frame_ri m ρ trivial

/-- The named constant stands for -∞. -/
theorem merge_preserves : Cert.preserves_Merge_MergeIdeal :=
  IdealRules.named_const.statement Cert.MergeIdeal.κ "mask" .f32 0xF149F2CA#32 _ rfl

/-- The precondition makes every gain, scale, shift and router weight a real number. -/
theorem merge_real (m : (ℓ : Loc Cert.MergeIdeal.nD Cert.MergeIdeal.τ Cert.MergeIdeal.sig) → Buf (Elt Ideal) ℓ)
    (h : Cert.Pre_MergeIdeal_merge_finite m) (c : Dev Cert.MergeIdeal.nD) : Cert.MergeIdeal.Mrg.Real m c := by
  obtain ⟨h0, h1, h2, h3⟩ := Cert.Pre_merge_finite.finite _ _ _ _ _ _ _ _ _ _ _ _ _ (h c)
  exact ⟨h0, h1, h2, h3⟩

/-- At the extended reals and such arguments the merge and its reference end with the same three arrays. -/
theorem merge_algebraic : Cert.algebraic_MergeIdeal_MergeReferenceIdeal_pre_merge_finite := by
  intro m ρ m' ρ' hf hagree
  refine ⟨_, _, _, Cert.MergeIdeal.Mrg.run m ρ (merge_real m hf), ?_⟩
  have e : ∀ c : Dev Cert.MergeIdeal.nD, Cert.MergeReferenceIdeal.Mrg.held m' c = Cert.MergeIdeal.Mrg.tokens m c := fun c => by
    obtain ⟨a0, a1, a2, a3, a4, a5, a6, a7, a8, a9, a10, a11, a12⟩ := hagree c
    unfold Cert.MergeReferenceIdeal.Mrg.held
    rw [a0, a1, a2, a3, a4, a5, a6, a7, a8, a9, a10, a11, a12]
  refine (θ_run Cert.MergeReferenceIdeal.defs _ _).mono (fun _ h c => ?_) (Cert.MergeReferenceIdeal.Mrg.run m' ρ')
  obtain ⟨h0, h1, h2, args⟩ := h c
  exact ⟨h0.trans (congrArg _ (e c)), h1.trans (congrArg _ (e c)), h2.trans (congrArg _ (e c)), args⟩

/-! ## The context's projection -/

/-- The context's projection as written leaves its arguments and the counters as they were. -/
theorem ctx_frame_p : Cert.quiescent_Ctx := fun m ρ _ => Cert.Ctx.Gen.frame m ρ

/-- So does the context's projection at the extended reals, -/
theorem ctx_frame_pi : Cert.quiescent_CtxIdeal := fun m ρ _ => Cert.CtxIdeal.Gen.frame m ρ

/-- and its reference. -/
theorem ctx_frame_ri : Cert.quiescent_CtxReferenceIdeal := fun m ρ _ =>
  (θ_run (Cert.CtxReferenceIdeal.defs (F := Ideal)) _ _).mono
    (fun r h => ⟨fun c => (h c).2.2, sem_eq_zero_of_no_sems (by decide) r.2⟩) (Cert.CtxReferenceIdeal.Con.run m ρ)

/-- The named constant stands for 1/96. -/
theorem ctx_preserves : Cert.preserves_Ctx_CtxIdeal :=
  IdealRules.named_const.statement Cert.CtxIdeal.κ "inv_qk" .f32 0x3C2AAAAB#32 _ rfl

/-- At the extended reals the context's projection and its reference end with the same keys and the same values. -/
theorem ctx_algebraic : Cert.algebraic_CtxIdeal_CtxReferenceIdeal := by
  intro m ρ m' ρ' _ hagree
  refine ⟨_, _, Cert.CtxIdeal.Con.run m ρ, ?_⟩
  have e : ∀ c : Dev Cert.CtxIdeal.nD, Cert.CtxReferenceIdeal.Con.held m' c = Cert.CtxIdeal.Con.tokens m c := fun c => by
    obtain ⟨a0, a1, a2, a3, a4, a5, a6, a7, a8, a9⟩ := hagree c
    unfold Cert.CtxReferenceIdeal.Con.held
    rw [a0, a1, a2, a3, a4, a5, a6, a7, a8, a9]
  refine (θ_run Cert.CtxReferenceIdeal.defs _ _).mono (fun _ h c => ?_) (Cert.CtxReferenceIdeal.Con.run m' ρ')
  obtain ⟨h0, h1, args⟩ := h c
  exact ⟨h0.trans (congrArg _ (e c)), h1.trans (congrArg _ (e c)), args⟩

/-! ## The last residual -/

/-- The last residual as written leaves its arguments and the counters as they were. -/
theorem final_frame_p : Cert.quiescent_Final := fun m ρ _ => Cert.Final.Gen.frame m ρ

/-- So does the last residual at the extended reals, -/
theorem final_frame_pi : Cert.quiescent_FinalIdeal := fun m ρ _ => Cert.FinalIdeal.Gen.frame m ρ

/-- and its reference. -/
theorem final_frame_ri : Cert.quiescent_FinalReferenceIdeal := fun m ρ _ =>
  (θ_run (Cert.FinalReferenceIdeal.defs (F := Ideal)) _ _).mono
    (fun r h => ⟨fun c => (h c).2, sem_eq_zero_of_no_sems (by decide) r.2⟩) (Cert.FinalReferenceIdeal.Lst.run m ρ)

/-- The idealization rewrote nothing. -/
theorem final_preserves : Cert.preserves_Final_FinalIdeal := trivial

/-- At the extended reals the last residual and its reference end with the same array. -/
theorem final_algebraic : Cert.algebraic_FinalIdeal_FinalReferenceIdeal := by
  intro m ρ m' ρ' _ hagree
  refine ⟨_, Cert.FinalIdeal.Lst.run m ρ, ?_⟩
  have e : ∀ c : Dev Cert.FinalIdeal.nD, Cert.FinalReferenceIdeal.Lst.held m' c = Cert.FinalIdeal.Lst.result m c := fun c => by
    obtain ⟨a0, a1, a2⟩ := hagree c
    unfold Cert.FinalReferenceIdeal.Lst.held
    rw [a0, a1, a2]
  exact (θ_run Cert.FinalReferenceIdeal.defs _ _).mono (fun _ h c => ⟨(h c).1.trans (e c), (h c).2⟩)
    (Cert.FinalReferenceIdeal.Lst.run m' ρ')

/-! ## The experts -/

/-- The experts leave their arguments and the counters as they were. -/
theorem experts_frame_p : Cert.quiescent_Experts := fun m ρ _ => Cert.Experts.Gen.frame m ρ

/-- So do the experts at the extended reals, -/
theorem experts_frame_pi : Cert.quiescent_ExpertsIdeal := fun m ρ _ => Cert.ExpertsIdeal.Gen.frame m ρ

/-- and their reference. -/
theorem experts_frame_ri : Cert.quiescent_ExpertsReferenceIdeal := fun m ρ _ =>
  (θ_run (Cert.ExpertsReferenceIdeal.defs (F := Ideal)) _ _).mono
    (fun r h => ⟨fun c => (h c).2, sem_eq_zero_of_no_sems (by decide) r.2⟩) (Cert.ExpertsReferenceIdeal.Exp.run m ρ)

/-- The idealization rewrote nothing. -/
theorem experts_preserves : Cert.preserves_Experts_ExpertsIdeal := trivial

/-- At the extended reals the experts and their reference end with the same array. -/
theorem experts_algebraic : Cert.algebraic_ExpertsIdeal_ExpertsReferenceIdeal := by
  intro m ρ m' ρ' _ hagree
  refine ⟨_, Cert.ExpertsIdeal.Exp.run m ρ, ?_⟩
  have e : ∀ c : Dev Cert.ExpertsIdeal.nD, Cert.ExpertsReferenceIdeal.Exp.held m' c = Cert.ExpertsIdeal.Exp.result m c := fun c => by
    obtain ⟨a0, a1, a2, a3, a4⟩ := hagree c
    unfold Cert.ExpertsReferenceIdeal.Exp.held
    rw [a0, a1, a2, a3, a4]
  exact (θ_run Cert.ExpertsReferenceIdeal.defs _ _).mono (fun _ h c => ⟨(h c).1.trans (e c), (h c).2⟩)
    (Cert.ExpertsReferenceIdeal.Exp.run m' ρ')

/-! ## The modulation -/

/-- The modulation as written leaves its arguments and the counters as they were. -/
theorem mod_frame_p : Cert.quiescent_Mod := fun m ρ _ => Cert.Mod.Gen.frame m ρ

/-- So does the modulation at the extended reals, -/
theorem mod_frame_pi : Cert.quiescent_ModIdeal := fun m ρ _ => Cert.ModIdeal.Gen.frame m ρ

/-- in particular at finite arguments, -/
theorem mod_frame_pi_finite : Cert.quiescent_ModIdeal_pre_mod_finite := fun m ρ _ => Cert.ModIdeal.Gen.frame m ρ

/-- and its reference, -/
theorem mod_frame_ri : Cert.quiescent_ModReferenceIdeal := fun m ρ _ =>
  (θ_run (Cert.ModReferenceIdeal.defs (F := Ideal)) _ _).mono
    (fun r h => ⟨fun c => (h c).2.2, sem_eq_zero_of_no_sems (by decide) r.2⟩) (Cert.ModReferenceIdeal.Mdl.run m ρ)

/-- at finite arguments too. -/
theorem mod_frame_ri_finite : Cert.quiescent_ModReferenceIdeal_pre_mod_finite := fun m ρ _ => mod_frame_ri m ρ trivial

/-- The idealization rewrote nothing. -/
theorem mod_preserves : Cert.preserves_Mod_ModIdeal := trivial

/-- The precondition makes conditions and weights real numbers. -/
theorem mod_real (m : (ℓ : Loc Cert.ModIdeal.nD Cert.ModIdeal.τ Cert.ModIdeal.sig) → Buf (Elt Ideal) ℓ)
    (h : Cert.Pre_ModIdeal_mod_finite m) (c : Dev Cert.ModIdeal.nD) : Cert.ModIdeal.Mdl.Real m c := by
  obtain ⟨h0, h1, h2⟩ := Cert.Pre_mod_finite.finite _ _ _ _ (h c)
  exact ⟨h0, h1, h2⟩

/-- At the extended reals and such arguments the modulation and its reference end with the same two arrays. -/
theorem mod_algebraic : Cert.algebraic_ModIdeal_ModReferenceIdeal_pre_mod_finite := by
  intro m ρ m' ρ' hf hagree
  refine ⟨_, _, Cert.ModIdeal.Mdl.run m ρ (mod_real m hf), ?_⟩
  refine (θ_run Cert.ModReferenceIdeal.defs _ _).mono (fun _ h c => ?_) (Cert.ModReferenceIdeal.Mdl.run m' ρ')
  obtain ⟨a0, a1, a2, a3⟩ := hagree c
  obtain ⟨h0, h1, args⟩ := h c
  refine ⟨h0.trans ?_, h1.trans ?_, args⟩
  · unfold Cert.ModReferenceIdeal.Mdl.samples
    rw [a0, a2, a3]
    rfl
  · unfold Cert.ModReferenceIdeal.Mdl.context
    rw [a1, a2, a3]
    rfl

/-- Everything the certificate claims. -/
theorem claim : Cert.Claim := ⟨Cert.Kernel.Gen.facts, Cert.KernelIdeal.Gen.facts, Cert.ReferenceIdeal.Gen.facts, Cert.Proj.Gen.facts,
  Cert.ProjIdeal.Gen.facts, Cert.ProjReferenceIdeal.Gen.facts, Cert.Merge.Gen.facts, Cert.MergeIdeal.Gen.facts,
  Cert.MergeReferenceIdeal.Gen.facts, Cert.Ctx.Gen.facts, Cert.CtxIdeal.Gen.facts, Cert.CtxReferenceIdeal.Gen.facts, Cert.Final.Gen.facts,
  Cert.FinalIdeal.Gen.facts, Cert.FinalReferenceIdeal.Gen.facts, Cert.Experts.Gen.facts, Cert.ExpertsIdeal.Gen.facts,
  Cert.ExpertsReferenceIdeal.Gen.facts, Cert.Mod.Gen.facts, Cert.ModIdeal.Gen.facts, Cert.ModReferenceIdeal.Gen.facts,
  Cert.Pre_finite.Gen.facts, Cert.Pre_merge_finite.Gen.facts, Cert.Pre_mod_finite.Gen.facts, frame_p, frame_pi,
  frame_pi_finite, frame_ri, frame_ri_finite, proj_frame_p, proj_frame_pi, proj_frame_ri, merge_frame_p, merge_frame_pi,
  merge_frame_pi_finite, merge_frame_ri, merge_frame_ri_finite, ctx_frame_p, ctx_frame_pi, ctx_frame_ri, final_frame_p, final_frame_pi,
  final_frame_ri, experts_frame_p, experts_frame_pi, experts_frame_ri, mod_frame_p, mod_frame_pi, mod_frame_pi_finite,
  mod_frame_ri, mod_frame_ri_finite, preserves, algebraic, proj_preserves, proj_algebraic, merge_preserves, merge_algebraic, ctx_preserves, ctx_algebraic,
  final_preserves, final_algebraic, experts_preserves, experts_algebraic, mod_preserves, mod_algebraic⟩

end Cert.Proof

end
